-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x32768x384 : Shape := ⟨3, ![6, 32768, 384]⟩
abbrev S32768 : Shape := ⟨1, ![32768]⟩
abbrev S256x256 : Shape := ⟨2, ![256, 256]⟩
abbrev S_ : Shape := ⟨0, ![]⟩
abbrev S6x256x8x16x384 : Shape := ⟨5, ![6, 256, 8, 16, 384]⟩
abbrev S32768x1 : Shape := ⟨2, ![32768, 1]⟩
abbrev S32768x128 : Shape := ⟨2, ![32768, 128]⟩
abbrev S256x8x16x128 : Shape := ⟨4, ![256, 8, 16, 128]⟩
abbrev S6x384x16384 : Shape := ⟨3, ![6, 384, 16384]⟩
abbrev S6x384x256 : Shape := ⟨3, ![6, 384, 256]⟩
abbrev S1x256x8x16x128 : Shape := ⟨5, ![1, 256, 8, 16, 128]⟩
abbrev S1x128x16384 : Shape := ⟨3, ![1, 128, 16384]⟩
abbrev S1x128x256 : Shape := ⟨3, ![1, 128, 256]⟩
abbrev S8x32x128x128 : Shape := ⟨4, ![8, 32, 128, 128]⟩
abbrev S16x256x128 : Shape := ⟨3, ![16, 256, 128]⟩
abbrev S8x128x128 : Shape := ⟨3, ![8, 128, 128]⟩
abbrev S136x128 : Shape := ⟨2, ![136, 128]⟩
abbrev S2x8x128 : Shape := ⟨3, ![2, 8, 128]⟩
abbrev S256x128 : Shape := ⟨2, ![256, 128]⟩
abbrev S1x16x1x16x128 : Shape := ⟨5, ![1, 16, 1, 16, 128]⟩
abbrev S16x16x128 : Shape := ⟨3, ![16, 16, 128]⟩
abbrev S16x1x16x128 : Shape := ⟨4, ![16, 1, 16, 128]⟩
abbrev S1x256x128 : Shape := ⟨3, ![1, 256, 128]⟩
abbrev S1x8x128 : Shape := ⟨3, ![1, 8, 128]⟩
abbrev S8x128 : Shape := ⟨2, ![8, 128]⟩
abbrev S1x1x8x128 : Shape := ⟨4, ![1, 1, 8, 128]⟩
abbrev S16x128 : Shape := ⟨2, ![16, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S128x256 : Shape := ⟨2, ![128, 256]⟩

abbrev nBuf : Space → Nat
  | .hbm => 55
  | .vmem => 17
  | .smem => 0
  | _ => 0

abbrev bufTy : (tb : Table) → Fin (tcTables nBuf tb) → BufTy
  | .hbm, ⟨0, _⟩ => ⟨S6x32768x384, .bf16⟩
  | .hbm, ⟨1, _⟩ => ⟨S32768, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S256x256, .i32⟩
  | .hbm, ⟨45, _⟩ => ⟨S256x256, .i32⟩
  | .hbm, ⟨46, _⟩ => ⟨S256x256, .f32⟩
  | .hbm, ⟨47, _⟩ => ⟨S256x256, .bf16⟩
  | .hbm, ⟨48, _⟩ => ⟨S6x256x8x16x384, .bf16⟩
  | .hbm, ⟨49, _⟩ => ⟨S32768, .bf16⟩
  | .hbm, ⟨50, _⟩ => ⟨S32768x1, .bf16⟩
  | .hbm, ⟨51, _⟩ => ⟨S32768x128, .bf16⟩
  | .hbm, ⟨52, _⟩ => ⟨S256x8x16x128, .bf16⟩
  | .hbm, ⟨53, _⟩ => ⟨S6x384x16384, .i8⟩
  | .hbm, ⟨54, _⟩ => ⟨S6x384x256, .f32⟩
  | .local _ .vmem, ⟨0, _⟩ => ⟨S256x256, .bf16⟩
  | .local _ .vmem, ⟨1, _⟩ => ⟨S256x8x16x128, .bf16⟩
  | .local _ .vmem, ⟨2, _⟩ => ⟨S1x256x8x16x128, .bf16⟩
  | .local _ .vmem, ⟨3, _⟩ => ⟨S1x256x8x16x128, .bf16⟩
  | .local _ .vmem, ⟨4, _⟩ => ⟨S1x128x16384, .i8⟩
  | .local _ .vmem, ⟨5, _⟩ => ⟨S1x128x16384, .i8⟩
  | .local _ .vmem, ⟨6, _⟩ => ⟨S1x128x256, .f32⟩
  | .local _ .vmem, ⟨7, _⟩ => ⟨S1x128x256, .f32⟩
  | .local _ .vmem, ⟨8, _⟩ => ⟨S8x32x128x128, .f32⟩
  | .local _ .vmem, ⟨9, _⟩ => ⟨S16x256x128, .f32⟩
  | .local _ .vmem, ⟨10, _⟩ => ⟨S16x256x128, .f32⟩
  | .local _ .vmem, ⟨11, _⟩ => ⟨S8x128x128, .f32⟩
  | .local _ .vmem, ⟨12, _⟩ => ⟨S8x128x128, .f32⟩
  | .local _ .vmem, ⟨13, _⟩ => ⟨S136x128, .i32⟩
  | .local _ .vmem, ⟨14, _⟩ => ⟨S136x128, .i32⟩
  | .local _ .vmem, ⟨15, _⟩ => ⟨S2x8x128, .f32⟩
  | .local _ .vmem, ⟨16, _⟩ => ⟨S256x128, .f32⟩
  | _, _ => ⟨S6x32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_8 : Ref sig .tc := ⟨.hbm, 37, rfl⟩
abbrev main_v26 : Ref sig .tc := ⟨.hbm, 38, rfl⟩
abbrev main_v27 : Ref sig .tc := ⟨.hbm, 39, rfl⟩
abbrev main_c_9 : Ref sig .tc := ⟨.hbm, 40, rfl⟩
abbrev main_v28 : Ref sig .tc := ⟨.hbm, 41, rfl⟩
abbrev main_v29 : Ref sig .tc := ⟨.hbm, 42, rfl⟩
abbrev main_c_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 3], ![false, false]⟩

@[reducible] def k0_t1_loop : Scf.Loop 32 :=
  let c0_i32 : BitVec 32 := 0#32
  let c4_i32 : BitVec 32 := 4#32
  let v208 : BitVec 32 := Scalar.addi c0_i32 c4_i32
  let c1_i32 : BitVec 32 := 1#32
  ⟨c0_i32, v208, c1_i32⟩
def k0_off1 (k0_t1 : Fin k0_t1_loop.trips) : Fin 5 → Nat :=
  let c0_346 : Index := 0#32
  let c0_347 : Index := 0#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v487 : Index := Scalar.indexCast v486
  let c0_348 : Index := 0#32
  let c0_349 : Index := 0#32
  ![0, 0, v487.toNat, 0, 0]
def k0_off2 (k0_t1 : Fin k0_t1_loop.trips) : Fin 4 → Nat :=
  let c0_350 : Index := 0#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v491 : Index := Scalar.indexCast v486
  let c0_351 : Index := 0#32
  let c0_352 : Index := 0#32
  ![0, v491.toNat, 0, 0]
def k0_off3 (k0_t1 : Fin k0_t1_loop.trips) : Fin 5 → Nat :=
  let c0_353 : Index := 0#32
  let c16_354 : Index := 16#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v496 : Index := Scalar.indexCast v486
  let c0_355 : Index := 0#32
  let c0_356 : Index := 0#32
  ![0, 16, v496.toNat, 0, 0]
def k0_off4 (k0_t1 : Fin k0_t1_loop.trips) : Fin 4 → Nat :=
  let c16_357 : Index := 16#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v500 : Index := Scalar.indexCast v486
  let c0_358 : Index := 0#32
  let c0_359 : Index := 0#32
  ![16, v500.toNat, 0, 0]
def k0_off5 (k0_t1 : Fin k0_t1_loop.trips) : Fin 5 → Nat :=
  let c0_369 : Index := 0#32
  let c32_370 : Index := 32#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v517 : Index := Scalar.indexCast v486
  let c0_371 : Index := 0#32
  let c0_372 : Index := 0#32
  ![0, 32, v517.toNat, 0, 0]
def k0_off6 (k0_t1 : Fin k0_t1_loop.trips) : Fin 4 → Nat :=
  let c32_373 : Index := 32#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v521 : Index := Scalar.indexCast v486
  let c0_374 : Index := 0#32
  let c0_375 : Index := 0#32
  ![32, v521.toNat, 0, 0]
def k0_off7 (k0_t1 : Fin k0_t1_loop.trips) : Fin 5 → Nat :=
  let c0_376 : Index := 0#32
  let c48_377 : Index := 48#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v526 : Index := Scalar.indexCast v486
  let c0_378 : Index := 0#32
  let c0_379 : Index := 0#32
  ![0, 48, v526.toNat, 0, 0]
def k0_off8 (k0_t1 : Fin k0_t1_loop.trips) : Fin 4 → Nat :=
  let c48_380 : Index := 48#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v530 : Index := Scalar.indexCast v486
  let c0_381 : Index := 0#32
  let c0_382 : Index := 0#32
  ![48, v530.toNat, 0, 0]
def k0_off9 (k0_t1 : Fin k0_t1_loop.trips) : Fin 5 → Nat :=
  let c0_392 : Index := 0#32
  let c64_393 : Index := 64#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v547 : Index := Scalar.indexCast v486
  let c0_394 : Index := 0#32
  let c0_395 : Index := 0#32
  ![0, 64, v547.toNat, 0, 0]
def k0_off10 (k0_t1 : Fin k0_t1_loop.trips) : Fin 4 → Nat :=
  let c64_396 : Index := 64#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v551 : Index := Scalar.indexCast v486
  let c0_397 : Index := 0#32
  let c0_398 : Index := 0#32
  ![64, v551.toNat, 0, 0]
def k0_off11 (k0_t1 : Fin k0_t1_loop.trips) : Fin 5 → Nat :=
  let c0_399 : Index := 0#32
  let c80_400 : Index := 80#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v556 : Index := Scalar.indexCast v486
  let c0_401 : Index := 0#32
  let c0_402 : Index := 0#32
  ![0, 80, v556.toNat, 0, 0]
def k0_off12 (k0_t1 : Fin k0_t1_loop.trips) : Fin 4 → Nat :=
  let c80_403 : Index := 80#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v560 : Index := Scalar.indexCast v486
  let c0_404 : Index := 0#32
  let c0_405 : Index := 0#32
  ![80, v560.toNat, 0, 0]
def k0_off13 (k0_t1 : Fin k0_t1_loop.trips) : Fin 5 → Nat :=
  let c0_415 : Index := 0#32
  let c96_416 : Index := 96#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v577 : Index := Scalar.indexCast v486
  let c0_417 : Index := 0#32
  let c0_418 : Index := 0#32
  ![0, 96, v577.toNat, 0, 0]
def k0_off14 (k0_t1 : Fin k0_t1_loop.trips) : Fin 4 → Nat :=
  let c96_419 : Index := 96#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v581 : Index := Scalar.indexCast v486
  let c0_420 : Index := 0#32
  let c0_421 : Index := 0#32
  ![96, v581.toNat, 0, 0]
def k0_off15 (k0_t1 : Fin k0_t1_loop.trips) : Fin 5 → Nat :=
  let c0_422 : Index := 0#32
  let c112_423 : Index := 112#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v586 : Index := Scalar.indexCast v486
  let c0_424 : Index := 0#32
  let c0_425 : Index := 0#32
  ![0, 112, v586.toNat, 0, 0]
def k0_off16 (k0_t1 : Fin k0_t1_loop.trips) : Fin 4 → Nat :=
  let c112_426 : Index := 112#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v590 : Index := Scalar.indexCast v486
  let c0_427 : Index := 0#32
  let c0_428 : Index := 0#32
  ![112, v590.toNat, 0, 0]
def k0_off17 (k0_t1 : Fin k0_t1_loop.trips) : Fin 5 → Nat :=
  let c0_438 : Index := 0#32
  let c128_439 : Index := 128#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v607 : Index := Scalar.indexCast v486
  let c0_440 : Index := 0#32
  let c0_441 : Index := 0#32
  ![0, 128, v607.toNat, 0, 0]
def k0_off18 (k0_t1 : Fin k0_t1_loop.trips) : Fin 4 → Nat :=
  let c128_442 : Index := 128#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v611 : Index := Scalar.indexCast v486
  let c0_443 : Index := 0#32
  let c0_444 : Index := 0#32
  ![128, v611.toNat, 0, 0]
def k0_off19 (k0_t1 : Fin k0_t1_loop.trips) : Fin 5 → Nat :=
  let c0_445 : Index := 0#32
  let c144_446 : Index := 144#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v616 : Index := Scalar.indexCast v486
  let c0_447 : Index := 0#32
  let c0_448 : Index := 0#32
  ![0, 144, v616.toNat, 0, 0]
def k0_off20 (k0_t1 : Fin k0_t1_loop.trips) : Fin 4 → Nat :=
  let c144_449 : Index := 144#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v620 : Index := Scalar.indexCast v486
  let c0_450 : Index := 0#32
  let c0_451 : Index := 0#32
  ![144, v620.toNat, 0, 0]
def k0_off21 (k0_t1 : Fin k0_t1_loop.trips) : Fin 5 → Nat :=
  let c0_461 : Index := 0#32
  let c160_462 : Index := 160#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v637 : Index := Scalar.indexCast v486
  let c0_463 : Index := 0#32
  let c0_464 : Index := 0#32
  ![0, 160, v637.toNat, 0, 0]
def k0_off22 (k0_t1 : Fin k0_t1_loop.trips) : Fin 4 → Nat :=
  let c160_465 : Index := 160#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v641 : Index := Scalar.indexCast v486
  let c0_466 : Index := 0#32
  let c0_467 : Index := 0#32
  ![160, v641.toNat, 0, 0]
def k0_off23 (k0_t1 : Fin k0_t1_loop.trips) : Fin 5 → Nat :=
  let c0_468 : Index := 0#32
  let c176_469 : Index := 176#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v646 : Index := Scalar.indexCast v486
  let c0_470 : Index := 0#32
  let c0_471 : Index := 0#32
  ![0, 176, v646.toNat, 0, 0]
def k0_off24 (k0_t1 : Fin k0_t1_loop.trips) : Fin 4 → Nat :=
  let c176_472 : Index := 176#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v650 : Index := Scalar.indexCast v486
  let c0_473 : Index := 0#32
  let c0_474 : Index := 0#32
  ![176, v650.toNat, 0, 0]
def k0_off25 (k0_t1 : Fin k0_t1_loop.trips) : Fin 5 → Nat :=
  let c0_484 : Index := 0#32
  let c192_485 : Index := 192#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v667 : Index := Scalar.indexCast v486
  let c0_486 : Index := 0#32
  let c0_487 : Index := 0#32
  ![0, 192, v667.toNat, 0, 0]
def k0_off26 (k0_t1 : Fin k0_t1_loop.trips) : Fin 4 → Nat :=
  let c192_488 : Index := 192#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v671 : Index := Scalar.indexCast v486
  let c0_489 : Index := 0#32
  let c0_490 : Index := 0#32
  ![192, v671.toNat, 0, 0]
def k0_off27 (k0_t1 : Fin k0_t1_loop.trips) : Fin 5 → Nat :=
  let c0_491 : Index := 0#32
  let c208_492 : Index := 208#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v676 : Index := Scalar.indexCast v486
  let c0_493 : Index := 0#32
  let c0_494 : Index := 0#32
  ![0, 208, v676.toNat, 0, 0]
def k0_off28 (k0_t1 : Fin k0_t1_loop.trips) : Fin 4 → Nat :=
  let c208_495 : Index := 208#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v680 : Index := Scalar.indexCast v486
  let c0_496 : Index := 0#32
  let c0_497 : Index := 0#32
  ![208, v680.toNat, 0, 0]
def k0_off29 (k0_t1 : Fin k0_t1_loop.trips) : Fin 5 → Nat :=
  let c0_507 : Index := 0#32
  let c224_508 : Index := 224#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v697 : Index := Scalar.indexCast v486
  let c0_509 : Index := 0#32
  let c0_510 : Index := 0#32
  ![0, 224, v697.toNat, 0, 0]
def k0_off30 (k0_t1 : Fin k0_t1_loop.trips) : Fin 4 → Nat :=
  let c224_511 : Index := 224#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v701 : Index := Scalar.indexCast v486
  let c0_512 : Index := 0#32
  let c0_513 : Index := 0#32
  ![224, v701.toNat, 0, 0]
def k0_off31 (k0_t1 : Fin k0_t1_loop.trips) : Fin 5 → Nat :=
  let c0_514 : Index := 0#32
  let c240_515 : Index := 240#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v706 : Index := Scalar.indexCast v486
  let c0_516 : Index := 0#32
  let c0_517 : Index := 0#32
  ![0, 240, v706.toNat, 0, 0]
def k0_off32 (k0_t1 : Fin k0_t1_loop.trips) : Fin 4 → Nat :=
  let c240_518 : Index := 240#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_345 : BitVec 32 := 1#32
  let v486 : BitVec 32 := Scalar.addi v485 c1_i32_345
  let v710 : Index := Scalar.indexCast v486
  let c0_519 : Index := 0#32
  let c0_520 : Index := 0#32
  ![240, v710.toNat, 0, 0]
@[reducible] def k0_t2_loop : Scf.Loop 32 :=
  let c0_i32_530 : BitVec 32 := 0#32
  let c32_i32 : BitVec 32 := 32#32
  let v727 : BitVec 32 := Scalar.addi c0_i32_530 c32_i32
  let c1_i32_531 : BitVec 32 := 1#32
  ⟨c0_i32_530, v727, c1_i32_531⟩
def k0_mult1 (k0_t2 : Fin k0_t2_loop.trips) : BitVec 32 :=
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  v972
def k0_off33 (k0_t2 : Fin k0_t2_loop.trips) : Fin 3 → Nat :=
  let c0_724 : Index := 0#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v974 : Index := Scalar.indexCast v973
  let c0_725 : Index := 0#32
  ![0, v974.toNat, 0]
def k0_off34 (k0_t2 : Fin k0_t2_loop.trips) : Fin 3 → Nat :=
  let c1_726 : Index := 1#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v977 : Index := Scalar.indexCast v973
  let c0_727 : Index := 0#32
  ![1, v977.toNat, 0]
def k0_off35 (k0_t2 : Fin k0_t2_loop.trips) : Fin 3 → Nat :=
  let c2_728 : Index := 2#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v980 : Index := Scalar.indexCast v973
  let c0_729 : Index := 0#32
  ![2, v980.toNat, 0]
def k0_off36 (k0_t2 : Fin k0_t2_loop.trips) : Fin 3 → Nat :=
  let c3_730 : Index := 3#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v983 : Index := Scalar.indexCast v973
  let c0_731 : Index := 0#32
  ![3, v983.toNat, 0]
def k0_off37 (k0_t2 : Fin k0_t2_loop.trips) : Fin 3 → Nat :=
  let c4_732 : Index := 4#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v986 : Index := Scalar.indexCast v973
  let c0_733 : Index := 0#32
  ![4, v986.toNat, 0]
def k0_off38 (k0_t2 : Fin k0_t2_loop.trips) : Fin 3 → Nat :=
  let c5_734 : Index := 5#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v989 : Index := Scalar.indexCast v973
  let c0_735 : Index := 0#32
  ![5, v989.toNat, 0]
def k0_off39 (k0_t2 : Fin k0_t2_loop.trips) : Fin 3 → Nat :=
  let c6_736 : Index := 6#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v992 : Index := Scalar.indexCast v973
  let c0_737 : Index := 0#32
  ![6, v992.toNat, 0]
def k0_off40 (k0_t2 : Fin k0_t2_loop.trips) : Fin 3 → Nat :=
  let c7_738 : Index := 7#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v995 : Index := Scalar.indexCast v973
  let c0_739 : Index := 0#32
  ![7, v995.toNat, 0]
def k0_off41 (k0_t2 : Fin k0_t2_loop.trips) : Fin 3 → Nat :=
  let c8_740 : Index := 8#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v998 : Index := Scalar.indexCast v973
  let c0_741 : Index := 0#32
  ![8, v998.toNat, 0]
def k0_off42 (k0_t2 : Fin k0_t2_loop.trips) : Fin 3 → Nat :=
  let c9_742 : Index := 9#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1001 : Index := Scalar.indexCast v973
  let c0_743 : Index := 0#32
  ![9, v1001.toNat, 0]
def k0_off43 (k0_t2 : Fin k0_t2_loop.trips) : Fin 3 → Nat :=
  let c10_744 : Index := 10#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1004 : Index := Scalar.indexCast v973
  let c0_745 : Index := 0#32
  ![10, v1004.toNat, 0]
def k0_off44 (k0_t2 : Fin k0_t2_loop.trips) : Fin 3 → Nat :=
  let c11_746 : Index := 11#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1007 : Index := Scalar.indexCast v973
  let c0_747 : Index := 0#32
  ![11, v1007.toNat, 0]
def k0_off45 (k0_t2 : Fin k0_t2_loop.trips) : Fin 3 → Nat :=
  let c12_748 : Index := 12#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1010 : Index := Scalar.indexCast v973
  let c0_749 : Index := 0#32
  ![12, v1010.toNat, 0]
def k0_off46 (k0_t2 : Fin k0_t2_loop.trips) : Fin 3 → Nat :=
  let c13_750 : Index := 13#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1013 : Index := Scalar.indexCast v973
  let c0_751 : Index := 0#32
  ![13, v1013.toNat, 0]
def k0_off47 (k0_t2 : Fin k0_t2_loop.trips) : Fin 3 → Nat :=
  let c14_752 : Index := 14#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1016 : Index := Scalar.indexCast v973
  let c0_753 : Index := 0#32
  ![14, v1016.toNat, 0]
def k0_off48 (k0_t2 : Fin k0_t2_loop.trips) : Fin 3 → Nat :=
  let c15_754 : Index := 15#32
  let c0_i32_530 : BitVec 32 := 0#32
  let c1_i32_531 : BitVec 32 := 1#32
  let arg17 : BitVec 32 := Scf.iv c0_i32_530 c1_i32_531 k0_t2
  let c8_i32_723 : BitVec 32 := 8#32
  let v972 : BitVec 32 := Scalar.muli arg17 c8_i32_723
  let v973 : BitVec 32 := v972
  let v1019 : Index := Scalar.indexCast v973
  let c0_755 : Index := 0#32
  ![15, v1019.toNat, 0]
def k0_mult2 (k0_t2 : Fin k0_t2_loop.trips) : BitVec 32 :=
  let c0_i32_530 : BitVec 32 := 0#32
  let c1_i32_531 : BitVec 32 := 1#32
  let arg17 : BitVec 32 := Scf.iv c0_i32_530 c1_i32_531 k0_t2
  let c15_i32_757 : BitVec 32 := 15#32
  let v1087 : BitVec 32 := Scalar.andi arg17 c15_i32_757
  let c8_i32_758 : BitVec 32 := 8#32
  let v1088 : BitVec 32 := Scalar.muli v1087 c8_i32_758
  v1088
def k0_off49 (k0_t1 : Fin k0_t1_loop.trips) (k0_t2 : Fin k0_t2_loop.trips) (c0_i32_759 : BitVec 32) : Fin 4 → Nat :=
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let v1091 : Index := Scalar.indexCast v485
  let c0_i32_530 : BitVec 32 := 0#32
  let c1_i32_531 : BitVec 32 := 1#32
  let arg17 : BitVec 32 := Scf.iv c0_i32_530 c1_i32_531 k0_t2
  let c4_i32_756 : BitVec 32 := 4#32
  let v1086 : BitVec 32 := Scalar.shrsi arg17 c4_i32_756
  let v1090 : BitVec 32 := Scalar.addi c0_i32_759 v1086
  let v1092 : Index := Scalar.indexCast v1090
  let c15_i32_757 : BitVec 32 := 15#32
  let v1087 : BitVec 32 := Scalar.andi arg17 c15_i32_757
  let c8_i32_758 : BitVec 32 := 8#32
  let v1088 : BitVec 32 := Scalar.muli v1087 c8_i32_758
  let v1089 : BitVec 32 := v1088
  let v1093 : Index := Scalar.indexCast v1089
  let c0_760 : Index := 0#32
  ![v1091.toNat, v1092.toNat, v1093.toNat, 0]
def k0_off50 (k0_t1 : Fin k0_t1_loop.trips) : Fin 5 → Nat :=
  let c0_534 : Index := 0#32
  let c0_535 : Index := 0#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v730 : Index := Scalar.indexCast v729
  let c0_536 : Index := 0#32
  let c0_537 : Index := 0#32
  ![0, 0, v730.toNat, 0, 0]
def k0_off51 (k0_t1 : Fin k0_t1_loop.trips) : Fin 4 → Nat :=
  let c0_538 : Index := 0#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v734 : Index := Scalar.indexCast v729
  let c0_539 : Index := 0#32
  let c0_540 : Index := 0#32
  ![0, v734.toNat, 0, 0]
def k0_off52 (k0_t1 : Fin k0_t1_loop.trips) : Fin 5 → Nat :=
  let c0_541 : Index := 0#32
  let c16_542 : Index := 16#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v739 : Index := Scalar.indexCast v729
  let c0_543 : Index := 0#32
  let c0_544 : Index := 0#32
  ![0, 16, v739.toNat, 0, 0]
def k0_off53 (k0_t1 : Fin k0_t1_loop.trips) : Fin 4 → Nat :=
  let c16_545 : Index := 16#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v743 : Index := Scalar.indexCast v729
  let c0_546 : Index := 0#32
  let c0_547 : Index := 0#32
  ![16, v743.toNat, 0, 0]
def k0_off54 (k0_t1 : Fin k0_t1_loop.trips) : Fin 5 → Nat :=
  let c0_557 : Index := 0#32
  let c32_558 : Index := 32#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v760 : Index := Scalar.indexCast v729
  let c0_559 : Index := 0#32
  let c0_560 : Index := 0#32
  ![0, 32, v760.toNat, 0, 0]
def k0_off55 (k0_t1 : Fin k0_t1_loop.trips) : Fin 4 → Nat :=
  let c32_561 : Index := 32#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v764 : Index := Scalar.indexCast v729
  let c0_562 : Index := 0#32
  let c0_563 : Index := 0#32
  ![32, v764.toNat, 0, 0]
def k0_off56 (k0_t1 : Fin k0_t1_loop.trips) : Fin 5 → Nat :=
  let c0_564 : Index := 0#32
  let c48_565 : Index := 48#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v769 : Index := Scalar.indexCast v729
  let c0_566 : Index := 0#32
  let c0_567 : Index := 0#32
  ![0, 48, v769.toNat, 0, 0]
def k0_off57 (k0_t1 : Fin k0_t1_loop.trips) : Fin 4 → Nat :=
  let c48_568 : Index := 48#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v773 : Index := Scalar.indexCast v729
  let c0_569 : Index := 0#32
  let c0_570 : Index := 0#32
  ![48, v773.toNat, 0, 0]
def k0_off58 (k0_t1 : Fin k0_t1_loop.trips) : Fin 5 → Nat :=
  let c0_580 : Index := 0#32
  let c64_581 : Index := 64#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v790 : Index := Scalar.indexCast v729
  let c0_582 : Index := 0#32
  let c0_583 : Index := 0#32
  ![0, 64, v790.toNat, 0, 0]
def k0_off59 (k0_t1 : Fin k0_t1_loop.trips) : Fin 4 → Nat :=
  let c64_584 : Index := 64#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v794 : Index := Scalar.indexCast v729
  let c0_585 : Index := 0#32
  let c0_586 : Index := 0#32
  ![64, v794.toNat, 0, 0]
def k0_off60 (k0_t1 : Fin k0_t1_loop.trips) : Fin 5 → Nat :=
  let c0_587 : Index := 0#32
  let c80_588 : Index := 80#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v799 : Index := Scalar.indexCast v729
  let c0_589 : Index := 0#32
  let c0_590 : Index := 0#32
  ![0, 80, v799.toNat, 0, 0]
def k0_off61 (k0_t1 : Fin k0_t1_loop.trips) : Fin 4 → Nat :=
  let c80_591 : Index := 80#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v803 : Index := Scalar.indexCast v729
  let c0_592 : Index := 0#32
  let c0_593 : Index := 0#32
  ![80, v803.toNat, 0, 0]
def k0_off62 (k0_t1 : Fin k0_t1_loop.trips) : Fin 5 → Nat :=
  let c0_603 : Index := 0#32
  let c96_604 : Index := 96#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v820 : Index := Scalar.indexCast v729
  let c0_605 : Index := 0#32
  let c0_606 : Index := 0#32
  ![0, 96, v820.toNat, 0, 0]
def k0_off63 (k0_t1 : Fin k0_t1_loop.trips) : Fin 4 → Nat :=
  let c96_607 : Index := 96#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v824 : Index := Scalar.indexCast v729
  let c0_608 : Index := 0#32
  let c0_609 : Index := 0#32
  ![96, v824.toNat, 0, 0]
def k0_off64 (k0_t1 : Fin k0_t1_loop.trips) : Fin 5 → Nat :=
  let c0_610 : Index := 0#32
  let c112_611 : Index := 112#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v829 : Index := Scalar.indexCast v729
  let c0_612 : Index := 0#32
  let c0_613 : Index := 0#32
  ![0, 112, v829.toNat, 0, 0]
def k0_off65 (k0_t1 : Fin k0_t1_loop.trips) : Fin 4 → Nat :=
  let c112_614 : Index := 112#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v833 : Index := Scalar.indexCast v729
  let c0_615 : Index := 0#32
  let c0_616 : Index := 0#32
  ![112, v833.toNat, 0, 0]
def k0_off66 (k0_t1 : Fin k0_t1_loop.trips) : Fin 5 → Nat :=
  let c0_626 : Index := 0#32
  let c128_627 : Index := 128#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v850 : Index := Scalar.indexCast v729
  let c0_628 : Index := 0#32
  let c0_629 : Index := 0#32
  ![0, 128, v850.toNat, 0, 0]
def k0_off67 (k0_t1 : Fin k0_t1_loop.trips) : Fin 4 → Nat :=
  let c128_630 : Index := 128#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v854 : Index := Scalar.indexCast v729
  let c0_631 : Index := 0#32
  let c0_632 : Index := 0#32
  ![128, v854.toNat, 0, 0]
def k0_off68 (k0_t1 : Fin k0_t1_loop.trips) : Fin 5 → Nat :=
  let c0_633 : Index := 0#32
  let c144_634 : Index := 144#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v859 : Index := Scalar.indexCast v729
  let c0_635 : Index := 0#32
  let c0_636 : Index := 0#32
  ![0, 144, v859.toNat, 0, 0]
def k0_off69 (k0_t1 : Fin k0_t1_loop.trips) : Fin 4 → Nat :=
  let c144_637 : Index := 144#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v863 : Index := Scalar.indexCast v729
  let c0_638 : Index := 0#32
  let c0_639 : Index := 0#32
  ![144, v863.toNat, 0, 0]
def k0_off70 (k0_t1 : Fin k0_t1_loop.trips) : Fin 5 → Nat :=
  let c0_649 : Index := 0#32
  let c160_650 : Index := 160#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v880 : Index := Scalar.indexCast v729
  let c0_651 : Index := 0#32
  let c0_652 : Index := 0#32
  ![0, 160, v880.toNat, 0, 0]
def k0_off71 (k0_t1 : Fin k0_t1_loop.trips) : Fin 4 → Nat :=
  let c160_653 : Index := 160#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v884 : Index := Scalar.indexCast v729
  let c0_654 : Index := 0#32
  let c0_655 : Index := 0#32
  ![160, v884.toNat, 0, 0]
def k0_off72 (k0_t1 : Fin k0_t1_loop.trips) : Fin 5 → Nat :=
  let c0_656 : Index := 0#32
  let c176_657 : Index := 176#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v889 : Index := Scalar.indexCast v729
  let c0_658 : Index := 0#32
  let c0_659 : Index := 0#32
  ![0, 176, v889.toNat, 0, 0]
def k0_off73 (k0_t1 : Fin k0_t1_loop.trips) : Fin 4 → Nat :=
  let c176_660 : Index := 176#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v893 : Index := Scalar.indexCast v729
  let c0_661 : Index := 0#32
  let c0_662 : Index := 0#32
  ![176, v893.toNat, 0, 0]
def k0_off74 (k0_t1 : Fin k0_t1_loop.trips) : Fin 5 → Nat :=
  let c0_672 : Index := 0#32
  let c192_673 : Index := 192#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v910 : Index := Scalar.indexCast v729
  let c0_674 : Index := 0#32
  let c0_675 : Index := 0#32
  ![0, 192, v910.toNat, 0, 0]
def k0_off75 (k0_t1 : Fin k0_t1_loop.trips) : Fin 4 → Nat :=
  let c192_676 : Index := 192#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v914 : Index := Scalar.indexCast v729
  let c0_677 : Index := 0#32
  let c0_678 : Index := 0#32
  ![192, v914.toNat, 0, 0]
def k0_off76 (k0_t1 : Fin k0_t1_loop.trips) : Fin 5 → Nat :=
  let c0_679 : Index := 0#32
  let c208_680 : Index := 208#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v919 : Index := Scalar.indexCast v729
  let c0_681 : Index := 0#32
  let c0_682 : Index := 0#32
  ![0, 208, v919.toNat, 0, 0]
def k0_off77 (k0_t1 : Fin k0_t1_loop.trips) : Fin 4 → Nat :=
  let c208_683 : Index := 208#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v923 : Index := Scalar.indexCast v729
  let c0_684 : Index := 0#32
  let c0_685 : Index := 0#32
  ![208, v923.toNat, 0, 0]
def k0_off78 (k0_t1 : Fin k0_t1_loop.trips) : Fin 5 → Nat :=
  let c0_695 : Index := 0#32
  let c224_696 : Index := 224#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v940 : Index := Scalar.indexCast v729
  let c0_697 : Index := 0#32
  let c0_698 : Index := 0#32
  ![0, 224, v940.toNat, 0, 0]
def k0_off79 (k0_t1 : Fin k0_t1_loop.trips) : Fin 4 → Nat :=
  let c224_699 : Index := 224#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v944 : Index := Scalar.indexCast v729
  let c0_700 : Index := 0#32
  let c0_701 : Index := 0#32
  ![224, v944.toNat, 0, 0]
def k0_off80 (k0_t1 : Fin k0_t1_loop.trips) : Fin 5 → Nat :=
  let c0_702 : Index := 0#32
  let c240_703 : Index := 240#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v949 : Index := Scalar.indexCast v729
  let c0_704 : Index := 0#32
  let c0_705 : Index := 0#32
  ![0, 240, v949.toNat, 0, 0]
def k0_off81 (k0_t1 : Fin k0_t1_loop.trips) : Fin 4 → Nat :=
  let c240_706 : Index := 240#32
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c2_i32_533 : BitVec 32 := 2#32
  let v728 : BitVec 32 := Scalar.addi v485 c2_i32_533
  let c7_i32 : BitVec 32 := 7#32
  let v729 : BitVec 32 := Scalar.minsi v728 c7_i32
  let v953 : Index := Scalar.indexCast v729
  let c0_707 : Index := 0#32
  let c0_708 : Index := 0#32
  ![240, v953.toNat, 0, 0]
@[reducible] def k0_t3_loop : Scf.Loop 32 :=
  let c0_i32_719 : BitVec 32 := 0#32
  let c32_i32_720 : BitVec 32 := 32#32
  let v971 : BitVec 32 := Scalar.addi c0_i32_719 c32_i32_720
  let c1_i32_721 : BitVec 32 := 1#32
  ⟨c0_i32_719, v971, c1_i32_721⟩
def k0_mult3 (k0_t3 : Fin k0_t3_loop.trips) : BitVec 32 :=
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  v972
def k0_off82 (k0_t3 : Fin k0_t3_loop.trips) : Fin 3 → Nat :=
  let c0_724 : Index := 0#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v974 : Index := Scalar.indexCast v973
  let c0_725 : Index := 0#32
  ![0, v974.toNat, 0]
def k0_off83 (k0_t3 : Fin k0_t3_loop.trips) : Fin 3 → Nat :=
  let c1_726 : Index := 1#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v977 : Index := Scalar.indexCast v973
  let c0_727 : Index := 0#32
  ![1, v977.toNat, 0]
def k0_off84 (k0_t3 : Fin k0_t3_loop.trips) : Fin 3 → Nat :=
  let c2_728 : Index := 2#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v980 : Index := Scalar.indexCast v973
  let c0_729 : Index := 0#32
  ![2, v980.toNat, 0]
def k0_off85 (k0_t3 : Fin k0_t3_loop.trips) : Fin 3 → Nat :=
  let c3_730 : Index := 3#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v983 : Index := Scalar.indexCast v973
  let c0_731 : Index := 0#32
  ![3, v983.toNat, 0]
def k0_off86 (k0_t3 : Fin k0_t3_loop.trips) : Fin 3 → Nat :=
  let c4_732 : Index := 4#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v986 : Index := Scalar.indexCast v973
  let c0_733 : Index := 0#32
  ![4, v986.toNat, 0]
def k0_off87 (k0_t3 : Fin k0_t3_loop.trips) : Fin 3 → Nat :=
  let c5_734 : Index := 5#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v989 : Index := Scalar.indexCast v973
  let c0_735 : Index := 0#32
  ![5, v989.toNat, 0]
def k0_off88 (k0_t3 : Fin k0_t3_loop.trips) : Fin 3 → Nat :=
  let c6_736 : Index := 6#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v992 : Index := Scalar.indexCast v973
  let c0_737 : Index := 0#32
  ![6, v992.toNat, 0]
def k0_off89 (k0_t3 : Fin k0_t3_loop.trips) : Fin 3 → Nat :=
  let c7_738 : Index := 7#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v995 : Index := Scalar.indexCast v973
  let c0_739 : Index := 0#32
  ![7, v995.toNat, 0]
def k0_off90 (k0_t3 : Fin k0_t3_loop.trips) : Fin 3 → Nat :=
  let c8_740 : Index := 8#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v998 : Index := Scalar.indexCast v973
  let c0_741 : Index := 0#32
  ![8, v998.toNat, 0]
def k0_off91 (k0_t3 : Fin k0_t3_loop.trips) : Fin 3 → Nat :=
  let c9_742 : Index := 9#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1001 : Index := Scalar.indexCast v973
  let c0_743 : Index := 0#32
  ![9, v1001.toNat, 0]
def k0_off92 (k0_t3 : Fin k0_t3_loop.trips) : Fin 3 → Nat :=
  let c10_744 : Index := 10#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1004 : Index := Scalar.indexCast v973
  let c0_745 : Index := 0#32
  ![10, v1004.toNat, 0]
def k0_off93 (k0_t3 : Fin k0_t3_loop.trips) : Fin 3 → Nat :=
  let c11_746 : Index := 11#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1007 : Index := Scalar.indexCast v973
  let c0_747 : Index := 0#32
  ![11, v1007.toNat, 0]
def k0_off94 (k0_t3 : Fin k0_t3_loop.trips) : Fin 3 → Nat :=
  let c12_748 : Index := 12#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1010 : Index := Scalar.indexCast v973
  let c0_749 : Index := 0#32
  ![12, v1010.toNat, 0]
def k0_off95 (k0_t3 : Fin k0_t3_loop.trips) : Fin 3 → Nat :=
  let c13_750 : Index := 13#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1013 : Index := Scalar.indexCast v973
  let c0_751 : Index := 0#32
  ![13, v1013.toNat, 0]
def k0_off96 (k0_t3 : Fin k0_t3_loop.trips) : Fin 3 → Nat :=
  let c14_752 : Index := 14#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1016 : Index := Scalar.indexCast v973
  let c0_753 : Index := 0#32
  ![14, v1016.toNat, 0]
def k0_off97 (k0_t3 : Fin k0_t3_loop.trips) : Fin 3 → Nat :=
  let c15_754 : Index := 15#32
  let c0_i32_719 : BitVec 32 := 0#32
  let c1_i32_721 : BitVec 32 := 1#32
  let arg17 : BitVec 32 := Scf.iv c0_i32_719 c1_i32_721 k0_t3
  let c8_i32_723 : BitVec 32 := 8#32
  let v972 : BitVec 32 := Scalar.muli arg17 c8_i32_723
  let v973 : BitVec 32 := v972
  let v1019 : Index := Scalar.indexCast v973
  let c0_755 : Index := 0#32
  ![15, v1019.toNat, 0]
def k0_mult4 (k0_t3 : Fin k0_t3_loop.trips) : BitVec 32 :=
  let c0_i32_719 : BitVec 32 := 0#32
  let c1_i32_721 : BitVec 32 := 1#32
  let arg17 : BitVec 32 := Scf.iv c0_i32_719 c1_i32_721 k0_t3
  let c15_i32_757 : BitVec 32 := 15#32
  let v1087 : BitVec 32 := Scalar.andi arg17 c15_i32_757
  let c8_i32_758 : BitVec 32 := 8#32
  let v1088 : BitVec 32 := Scalar.muli v1087 c8_i32_758
  v1088
def k0_off98 (k0_t1 : Fin k0_t1_loop.trips) (k0_t3 : Fin k0_t3_loop.trips) (c0_i32_759 : BitVec 32) : Fin 4 → Nat :=
  let c2_i32 : BitVec 32 := 2#32
  let c0_i32 : BitVec 32 := 0#32
  let c1_i32 : BitVec 32 := 1#32
  let arg16 : BitVec 32 := Scf.iv c0_i32 c1_i32 k0_t1
  let v485 : BitVec 32 := Scalar.muli c2_i32 arg16
  let c1_i32_718 : BitVec 32 := 1#32
  let v970 : BitVec 32 := Scalar.addi v485 c1_i32_718
  let v1091 : Index := Scalar.indexCast v970
  let c0_i32_719 : BitVec 32 := 0#32
  let c1_i32_721 : BitVec 32 := 1#32
  let arg17 : BitVec 32 := Scf.iv c0_i32_719 c1_i32_721 k0_t3
  let c4_i32_756 : BitVec 32 := 4#32
  let v1086 : BitVec 32 := Scalar.shrsi arg17 c4_i32_756
  let v1090 : BitVec 32 := Scalar.addi c0_i32_759 v1086
  let v1092 : Index := Scalar.indexCast v1090
  let c15_i32_757 : BitVec 32 := 15#32
  let v1087 : BitVec 32 := Scalar.andi arg17 c15_i32_757
  let c8_i32_758 : BitVec 32 := 8#32
  let v1088 : BitVec 32 := Scalar.muli v1087 c8_i32_758
  let v1089 : BitVec 32 := v1088
  let v1093 : Index := Scalar.indexCast v1089
  let c0_760 : Index := 0#32
  ![v1091.toNat, v1092.toNat, v1093.toNat, 0]
def k0_mult5 : BitVec 32 :=
  let c0_i32_185 : BitVec 32 := 0#32
  c0_i32_185
@[reducible] def k0_t4_loop : Scf.Loop 32 :=
  let c1_i32_226 : BitVec 32 := 1#32
  let c15_i32 : BitVec 32 := 15#32
  let v302 : BitVec 32 := Scalar.addi c1_i32_226 c15_i32
  let c1_i32_227 : BitVec 32 := 1#32
  ⟨c1_i32_226, v302, c1_i32_227⟩
def k0_mult6 (k0_t4 : Fin k0_t4_loop.trips) : BitVec 32 :=
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  v485
def k0_off99 (k0_t4 : Fin k0_t4_loop.trips) : Fin 4 → Nat :=
  let c0_346 : Index := 0#32
  let c0_347 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v487 : Index := Scalar.indexCast v486
  let c0_348 : Index := 0#32
  ![0, 0, v487.toNat, 0]
def k0_off100 (k0_t4 : Fin k0_t4_loop.trips) : Fin 4 → Nat :=
  let c1_349 : Index := 1#32
  let c0_350 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v490 : Index := Scalar.indexCast v486
  let c0_351 : Index := 0#32
  ![1, 0, v490.toNat, 0]
def k0_off101 (k0_t4 : Fin k0_t4_loop.trips) : Fin 4 → Nat :=
  let c2_352 : Index := 2#32
  let c0_353 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v493 : Index := Scalar.indexCast v486
  let c0_354 : Index := 0#32
  ![2, 0, v493.toNat, 0]
def k0_off102 (k0_t4 : Fin k0_t4_loop.trips) : Fin 4 → Nat :=
  let c3_355 : Index := 3#32
  let c0_356 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v496 : Index := Scalar.indexCast v486
  let c0_357 : Index := 0#32
  ![3, 0, v496.toNat, 0]
def k0_off103 (k0_t4 : Fin k0_t4_loop.trips) : Fin 4 → Nat :=
  let c4_358 : Index := 4#32
  let c0_359 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v499 : Index := Scalar.indexCast v486
  let c0_360 : Index := 0#32
  ![4, 0, v499.toNat, 0]
def k0_off104 (k0_t4 : Fin k0_t4_loop.trips) : Fin 4 → Nat :=
  let c5_361 : Index := 5#32
  let c0_362 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v502 : Index := Scalar.indexCast v486
  let c0_363 : Index := 0#32
  ![5, 0, v502.toNat, 0]
def k0_off105 (k0_t4 : Fin k0_t4_loop.trips) : Fin 4 → Nat :=
  let c6_364 : Index := 6#32
  let c0_365 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v505 : Index := Scalar.indexCast v486
  let c0_366 : Index := 0#32
  ![6, 0, v505.toNat, 0]
def k0_off106 (k0_t4 : Fin k0_t4_loop.trips) : Fin 4 → Nat :=
  let c7_367 : Index := 7#32
  let c0_368 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v508 : Index := Scalar.indexCast v486
  let c0_369 : Index := 0#32
  ![7, 0, v508.toNat, 0]
def k0_off107 (k0_t4 : Fin k0_t4_loop.trips) : Fin 3 → Nat :=
  let c0_370 : Index := 0#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v535 : Index := Scalar.indexCast v486
  let c0_371 : Index := 0#32
  ![0, v535.toNat, 0]
def k0_off108 (k0_t4 : Fin k0_t4_loop.trips) : Fin 3 → Nat :=
  let c1_372 : Index := 1#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v541 : Index := Scalar.indexCast v486
  let c0_373 : Index := 0#32
  ![1, v541.toNat, 0]
def k0_off109 (k0_t4 : Fin k0_t4_loop.trips) : Fin 3 → Nat :=
  let c2_374 : Index := 2#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v547 : Index := Scalar.indexCast v486
  let c0_375 : Index := 0#32
  ![2, v547.toNat, 0]
def k0_off110 (k0_t4 : Fin k0_t4_loop.trips) : Fin 3 → Nat :=
  let c3_376 : Index := 3#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v553 : Index := Scalar.indexCast v486
  let c0_377 : Index := 0#32
  ![3, v553.toNat, 0]
def k0_off111 (k0_t4 : Fin k0_t4_loop.trips) : Fin 3 → Nat :=
  let c4_378 : Index := 4#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v559 : Index := Scalar.indexCast v486
  let c0_379 : Index := 0#32
  ![4, v559.toNat, 0]
def k0_off112 (k0_t4 : Fin k0_t4_loop.trips) : Fin 3 → Nat :=
  let c5_380 : Index := 5#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v565 : Index := Scalar.indexCast v486
  let c0_381 : Index := 0#32
  ![5, v565.toNat, 0]
def k0_off113 (k0_t4 : Fin k0_t4_loop.trips) : Fin 3 → Nat :=
  let c6_382 : Index := 6#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v571 : Index := Scalar.indexCast v486
  let c0_383 : Index := 0#32
  ![6, v571.toNat, 0]
def k0_off114 (k0_t4 : Fin k0_t4_loop.trips) : Fin 3 → Nat :=
  let c7_384 : Index := 7#32
  let c1_i32_226 : BitVec 32 := 1#32
  let c1_i32_227 : BitVec 32 := 1#32
  let arg16 : BitVec 32 := Scf.iv c1_i32_226 c1_i32_227 k0_t4
  let c8_i32_345 : BitVec 32 := 8#32
  let v485 : BitVec 32 := Scalar.muli arg16 c8_i32_345
  let v486 : BitVec 32 := v485
  let v577 : Index := Scalar.indexCast v486
  let c0_385 : Index := 0#32
  ![7, v577.toNat, 0]
def k0_mult7 : BitVec 32 :=
  let c0_i32_233 : BitVec 32 := 0#32
  c0_i32_233
def k0_mult8 : BitVec 32 :=
  let c0_i32_239 : BitVec 32 := 0#32
  c0_i32_239
@[reducible] def k0_t5_loop : Scf.Loop 32 :=
  let c1_i32_280 : BitVec 32 := 1#32
  let c15_i32_281 : BitVec 32 := 15#32
  let v418 : BitVec 32 := Scalar.addi c1_i32_280 c15_i32_281
  let c1_i32_282 : BitVec 32 := 1#32
  ⟨c1_i32_280, v418, c1_i32_282⟩
def k0_mult9 (k0_t5 : Fin k0_t5_loop.trips) : BitVec 32 :=
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  v485
def k0_off115 (k0_t5 : Fin k0_t5_loop.trips) : Fin 4 → Nat :=
  let c0_346 : Index := 0#32
  let c1_347 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v487 : Index := Scalar.indexCast v486
  let c0_348 : Index := 0#32
  ![0, 1, v487.toNat, 0]
def k0_off116 (k0_t5 : Fin k0_t5_loop.trips) : Fin 4 → Nat :=
  let c1_349 : Index := 1#32
  let c1_350 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v490 : Index := Scalar.indexCast v486
  let c0_351 : Index := 0#32
  ![1, 1, v490.toNat, 0]
def k0_off117 (k0_t5 : Fin k0_t5_loop.trips) : Fin 4 → Nat :=
  let c2_352 : Index := 2#32
  let c1_353 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v493 : Index := Scalar.indexCast v486
  let c0_354 : Index := 0#32
  ![2, 1, v493.toNat, 0]
def k0_off118 (k0_t5 : Fin k0_t5_loop.trips) : Fin 4 → Nat :=
  let c3_355 : Index := 3#32
  let c1_356 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v496 : Index := Scalar.indexCast v486
  let c0_357 : Index := 0#32
  ![3, 1, v496.toNat, 0]
def k0_off119 (k0_t5 : Fin k0_t5_loop.trips) : Fin 4 → Nat :=
  let c4_358 : Index := 4#32
  let c1_359 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v499 : Index := Scalar.indexCast v486
  let c0_360 : Index := 0#32
  ![4, 1, v499.toNat, 0]
def k0_off120 (k0_t5 : Fin k0_t5_loop.trips) : Fin 4 → Nat :=
  let c5_361 : Index := 5#32
  let c1_362 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v502 : Index := Scalar.indexCast v486
  let c0_363 : Index := 0#32
  ![5, 1, v502.toNat, 0]
def k0_off121 (k0_t5 : Fin k0_t5_loop.trips) : Fin 4 → Nat :=
  let c6_364 : Index := 6#32
  let c1_365 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v505 : Index := Scalar.indexCast v486
  let c0_366 : Index := 0#32
  ![6, 1, v505.toNat, 0]
def k0_off122 (k0_t5 : Fin k0_t5_loop.trips) : Fin 4 → Nat :=
  let c7_367 : Index := 7#32
  let c1_368 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v508 : Index := Scalar.indexCast v486
  let c0_369 : Index := 0#32
  ![7, 1, v508.toNat, 0]
def k0_off123 (k0_t5 : Fin k0_t5_loop.trips) : Fin 3 → Nat :=
  let c0_370 : Index := 0#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v535 : Index := Scalar.indexCast v486
  let c0_371 : Index := 0#32
  ![0, v535.toNat, 0]
def k0_off124 (k0_t5 : Fin k0_t5_loop.trips) : Fin 3 → Nat :=
  let c1_372 : Index := 1#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v541 : Index := Scalar.indexCast v486
  let c0_373 : Index := 0#32
  ![1, v541.toNat, 0]
def k0_off125 (k0_t5 : Fin k0_t5_loop.trips) : Fin 3 → Nat :=
  let c2_374 : Index := 2#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v547 : Index := Scalar.indexCast v486
  let c0_375 : Index := 0#32
  ![2, v547.toNat, 0]
def k0_off126 (k0_t5 : Fin k0_t5_loop.trips) : Fin 3 → Nat :=
  let c3_376 : Index := 3#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v553 : Index := Scalar.indexCast v486
  let c0_377 : Index := 0#32
  ![3, v553.toNat, 0]
def k0_off127 (k0_t5 : Fin k0_t5_loop.trips) : Fin 3 → Nat :=
  let c4_378 : Index := 4#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v559 : Index := Scalar.indexCast v486
  let c0_379 : Index := 0#32
  ![4, v559.toNat, 0]
def k0_off128 (k0_t5 : Fin k0_t5_loop.trips) : Fin 3 → Nat :=
  let c5_380 : Index := 5#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v565 : Index := Scalar.indexCast v486
  let c0_381 : Index := 0#32
  ![5, v565.toNat, 0]
def k0_off129 (k0_t5 : Fin k0_t5_loop.trips) : Fin 3 → Nat :=
  let c6_382 : Index := 6#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v571 : Index := Scalar.indexCast v486
  let c0_383 : Index := 0#32
  ![6, v571.toNat, 0]
def k0_off130 (k0_t5 : Fin k0_t5_loop.trips) : Fin 3 → Nat :=
  let c7_384 : Index := 7#32
  let c1_i32_280 : BitVec 32 := 1#32
  let c1_i32_282 : BitVec 32 := 1#32
  let arg16 : BitVec 32 := Scf.iv c1_i32_280 c1_i32_282 k0_t5
  let c8_i32_345 : BitVec 32 := 8#32
  let v485 : BitVec 32 := Scalar.muli arg16 c8_i32_345
  let v486 : BitVec 32 := v485
  let v577 : Index := Scalar.indexCast v486
  let c0_385 : Index := 0#32
  ![7, v577.toNat, 0]
def k0_mult10 : BitVec 32 :=
  let c8_i32 : BitVec 32 := 8#32
  c8_i32
@[reducible] def k0_t6_loop : Scf.Loop 32 :=
  let c0_i32_296 : BitVec 32 := 0#32
  let c8_i32_297 : BitVec 32 := 8#32
  let v443 : BitVec 32 := Scalar.addi c0_i32_296 c8_i32_297
  let c1_i32_298 : BitVec 32 := 1#32
  ⟨c0_i32_296, v443, c1_i32_298⟩
def k0_off131 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v485 : Index := Scalar.indexCast arg16
  let c0_345 : Index := 0#32
  let c0_346 : Index := 0#32
  ![v485.toNat, 0, 0]
def k0_off132 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v495 : Index := Scalar.indexCast arg16
  let c8_349 : Index := 8#32
  let c0_350 : Index := 0#32
  ![v495.toNat, 8, 0]
def k0_off133 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v505 : Index := Scalar.indexCast arg16
  let c16_353 : Index := 16#32
  let c0_354 : Index := 0#32
  ![v505.toNat, 16, 0]
def k0_off134 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v515 : Index := Scalar.indexCast arg16
  let c24 : Index := 24#32
  let c0_357 : Index := 0#32
  ![v515.toNat, 24, 0]
def k0_off135 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v525 : Index := Scalar.indexCast arg16
  let c32_360 : Index := 32#32
  let c0_361 : Index := 0#32
  ![v525.toNat, 32, 0]
def k0_off136 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v535 : Index := Scalar.indexCast arg16
  let c40 : Index := 40#32
  let c0_364 : Index := 0#32
  ![v535.toNat, 40, 0]
def k0_off137 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v545 : Index := Scalar.indexCast arg16
  let c48_367 : Index := 48#32
  let c0_368 : Index := 0#32
  ![v545.toNat, 48, 0]
def k0_off138 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v555 : Index := Scalar.indexCast arg16
  let c56 : Index := 56#32
  let c0_371 : Index := 0#32
  ![v555.toNat, 56, 0]
def k0_off139 (k0_t6 : Fin k0_t6_loop.trips) (c0_i32_384 : BitVec 32) : Fin 2 → Nat :=
  let c0_i32_296 : BitVec 32 := 0#32
  let c1_i32_298 : BitVec 32 := 1#32
  let arg16 : BitVec 32 := Scf.iv c0_i32_296 c1_i32_298 k0_t6
  let c2_i32 : BitVec 32 := 2#32
  let v602 : BitVec 32 := Scalar.muli arg16 c2_i32
  let v603 : BitVec 32 := Scalar.addi v602 c0_i32_384
  let v604 : Index := Scalar.indexCast v603
  let c0_385 : Index := 0#32
  ![v604.toNat, 0]
def k0_off140 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v608 : Index := Scalar.indexCast arg16
  let c64_386 : Index := 64#32
  let c0_387 : Index := 0#32
  ![v608.toNat, 64, 0]
def k0_off141 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v618 : Index := Scalar.indexCast arg16
  let c72 : Index := 72#32
  let c0_390 : Index := 0#32
  ![v618.toNat, 72, 0]
def k0_off142 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v628 : Index := Scalar.indexCast arg16
  let c80_393 : Index := 80#32
  let c0_394 : Index := 0#32
  ![v628.toNat, 80, 0]
def k0_off143 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v638 : Index := Scalar.indexCast arg16
  let c88 : Index := 88#32
  let c0_397 : Index := 0#32
  ![v638.toNat, 88, 0]
def k0_off144 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v648 : Index := Scalar.indexCast arg16
  let c96_400 : Index := 96#32
  let c0_401 : Index := 0#32
  ![v648.toNat, 96, 0]
def k0_off145 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v658 : Index := Scalar.indexCast arg16
  let c104 : Index := 104#32
  let c0_404 : Index := 0#32
  ![v658.toNat, 104, 0]
def k0_off146 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v668 : Index := Scalar.indexCast arg16
  let c112_407 : Index := 112#32
  let c0_408 : Index := 0#32
  ![v668.toNat, 112, 0]
def k0_off147 (k0_t6 : Fin k0_t6_loop.trips) : Fin 3 → Nat :=
  let c0_i32_296 : BitVec 32 := 0#32
  let c1_i32_298 : BitVec 32 := 1#32
  let arg16 : BitVec 32 := Scf.iv c0_i32_296 c1_i32_298 k0_t6
  let v678 : Index := Scalar.indexCast arg16
  let c120 : Index := 120#32
  let c0_411 : Index := 0#32
  ![v678.toNat, 120, 0]
@[reducible] def k0_t7_loop : Scf.Loop 32 :=
  let c0_i32_300 : BitVec 32 := 0#32
  let c15_i32_301 : BitVec 32 := 15#32
  let v444 : BitVec 32 := Scalar.addi c0_i32_300 c15_i32_301
  let c1_i32_302 : BitVec 32 := 1#32
  ⟨c0_i32_300, v444, c1_i32_302⟩
def k0_mult11 : BitVec 32 :=
  let c0_i32_347 : BitVec 32 := 0#32
  c0_i32_347
def k0_off148 (k0_t7 : Fin k0_t7_loop.trips) (c0_i32_346 : BitVec 32) : Fin 4 → Nat :=
  let c0_348 : Index := 0#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v489 : Index := Scalar.indexCast v487
  let c0_i32_347 : BitVec 32 := 0#32
  let v488 : BitVec 32 := c0_i32_347
  let v490 : Index := Scalar.indexCast v488
  let c0_349 : Index := 0#32
  ![0, v489.toNat, 0, 0]
def k0_off149 (k0_t7 : Fin k0_t7_loop.trips) (c0_i32_346 : BitVec 32) : Fin 4 → Nat :=
  let c1_350 : Index := 1#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v493 : Index := Scalar.indexCast v487
  let c0_i32_347 : BitVec 32 := 0#32
  let v488 : BitVec 32 := c0_i32_347
  let v494 : Index := Scalar.indexCast v488
  let c0_351 : Index := 0#32
  ![1, v493.toNat, 0, 0]
def k0_off150 (k0_t7 : Fin k0_t7_loop.trips) (c0_i32_346 : BitVec 32) : Fin 4 → Nat :=
  let c2_352 : Index := 2#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v497 : Index := Scalar.indexCast v487
  let c0_i32_347 : BitVec 32 := 0#32
  let v488 : BitVec 32 := c0_i32_347
  let v498 : Index := Scalar.indexCast v488
  let c0_353 : Index := 0#32
  ![2, v497.toNat, 0, 0]
def k0_off151 (k0_t7 : Fin k0_t7_loop.trips) (c0_i32_346 : BitVec 32) : Fin 4 → Nat :=
  let c3_354 : Index := 3#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v501 : Index := Scalar.indexCast v487
  let c0_i32_347 : BitVec 32 := 0#32
  let v488 : BitVec 32 := c0_i32_347
  let v502 : Index := Scalar.indexCast v488
  let c0_355 : Index := 0#32
  ![3, v501.toNat, 0, 0]
def k0_off152 (k0_t7 : Fin k0_t7_loop.trips) (c0_i32_346 : BitVec 32) : Fin 4 → Nat :=
  let c4_356 : Index := 4#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v505 : Index := Scalar.indexCast v487
  let c0_i32_347 : BitVec 32 := 0#32
  let v488 : BitVec 32 := c0_i32_347
  let v506 : Index := Scalar.indexCast v488
  let c0_357 : Index := 0#32
  ![4, v505.toNat, 0, 0]
def k0_off153 (k0_t7 : Fin k0_t7_loop.trips) (c0_i32_346 : BitVec 32) : Fin 4 → Nat :=
  let c5_358 : Index := 5#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v509 : Index := Scalar.indexCast v487
  let c0_i32_347 : BitVec 32 := 0#32
  let v488 : BitVec 32 := c0_i32_347
  let v510 : Index := Scalar.indexCast v488
  let c0_359 : Index := 0#32
  ![5, v509.toNat, 0, 0]
def k0_off154 (k0_t7 : Fin k0_t7_loop.trips) (c0_i32_346 : BitVec 32) : Fin 4 → Nat :=
  let c6_360 : Index := 6#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v513 : Index := Scalar.indexCast v487
  let c0_i32_347 : BitVec 32 := 0#32
  let v488 : BitVec 32 := c0_i32_347
  let v514 : Index := Scalar.indexCast v488
  let c0_361 : Index := 0#32
  ![6, v513.toNat, 0, 0]
def k0_off155 (k0_t7 : Fin k0_t7_loop.trips) (c0_i32_346 : BitVec 32) : Fin 4 → Nat :=
  let c7_362 : Index := 7#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let v517 : Index := Scalar.indexCast v487
  let c0_i32_347 : BitVec 32 := 0#32
  let v488 : BitVec 32 := c0_i32_347
  let v518 : Index := Scalar.indexCast v488
  let c0_363 : Index := 0#32
  ![7, v517.toNat, 0, 0]
@[reducible] def k0_t8_loop : Scf.Loop 32 :=
  let c1_i32_380 : BitVec 32 := 1#32
  let c15_i32_381 : BitVec 32 := 15#32
  let v589 : BitVec 32 := Scalar.addi c1_i32_380 c15_i32_381
  let c1_i32_382 : BitVec 32 := 1#32
  ⟨c1_i32_380, v589, c1_i32_382⟩
def k0_mult12 (k0_t8 : Fin k0_t8_loop.trips) : BitVec 32 :=
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  v783
def k0_off156 (k0_t7 : Fin k0_t7_loop.trips) (k0_t8 : Fin k0_t8_loop.trips) : Fin 4 → Nat :=
  let c0_498 : Index := 0#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v785 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v786 : Index := Scalar.indexCast v784
  let c0_499 : Index := 0#32
  ![0, v785.toNat, v786.toNat, 0]
def k0_off157 (k0_t7 : Fin k0_t7_loop.trips) (k0_t8 : Fin k0_t8_loop.trips) : Fin 4 → Nat :=
  let c1_500 : Index := 1#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v789 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v790 : Index := Scalar.indexCast v784
  let c0_501 : Index := 0#32
  ![1, v789.toNat, v790.toNat, 0]
def k0_off158 (k0_t7 : Fin k0_t7_loop.trips) (k0_t8 : Fin k0_t8_loop.trips) : Fin 4 → Nat :=
  let c2_502 : Index := 2#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v793 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v794 : Index := Scalar.indexCast v784
  let c0_503 : Index := 0#32
  ![2, v793.toNat, v794.toNat, 0]
def k0_off159 (k0_t7 : Fin k0_t7_loop.trips) (k0_t8 : Fin k0_t8_loop.trips) : Fin 4 → Nat :=
  let c3_504 : Index := 3#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v797 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v798 : Index := Scalar.indexCast v784
  let c0_505 : Index := 0#32
  ![3, v797.toNat, v798.toNat, 0]
def k0_off160 (k0_t7 : Fin k0_t7_loop.trips) (k0_t8 : Fin k0_t8_loop.trips) : Fin 4 → Nat :=
  let c4_506 : Index := 4#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v801 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v802 : Index := Scalar.indexCast v784
  let c0_507 : Index := 0#32
  ![4, v801.toNat, v802.toNat, 0]
def k0_off161 (k0_t7 : Fin k0_t7_loop.trips) (k0_t8 : Fin k0_t8_loop.trips) : Fin 4 → Nat :=
  let c5_508 : Index := 5#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v805 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v806 : Index := Scalar.indexCast v784
  let c0_509 : Index := 0#32
  ![5, v805.toNat, v806.toNat, 0]
def k0_off162 (k0_t7 : Fin k0_t7_loop.trips) (k0_t8 : Fin k0_t8_loop.trips) : Fin 4 → Nat :=
  let c6_510 : Index := 6#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v809 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v810 : Index := Scalar.indexCast v784
  let c0_511 : Index := 0#32
  ![6, v809.toNat, v810.toNat, 0]
def k0_off163 (k0_t7 : Fin k0_t7_loop.trips) (k0_t8 : Fin k0_t8_loop.trips) : Fin 4 → Nat :=
  let c7_512 : Index := 7#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let v813 : Index := Scalar.indexCast v487
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v814 : Index := Scalar.indexCast v784
  let c0_513 : Index := 0#32
  ![7, v813.toNat, v814.toNat, 0]
def k0_off164 (k0_t8 : Fin k0_t8_loop.trips) : Fin 3 → Nat :=
  let c0_514 : Index := 0#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v841 : Index := Scalar.indexCast v784
  let c0_515 : Index := 0#32
  ![0, v841.toNat, 0]
def k0_off165 (k0_t8 : Fin k0_t8_loop.trips) : Fin 3 → Nat :=
  let c1_516 : Index := 1#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v847 : Index := Scalar.indexCast v784
  let c0_517 : Index := 0#32
  ![1, v847.toNat, 0]
def k0_off166 (k0_t8 : Fin k0_t8_loop.trips) : Fin 3 → Nat :=
  let c2_518 : Index := 2#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v853 : Index := Scalar.indexCast v784
  let c0_519 : Index := 0#32
  ![2, v853.toNat, 0]
def k0_off167 (k0_t8 : Fin k0_t8_loop.trips) : Fin 3 → Nat :=
  let c3_520 : Index := 3#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v859 : Index := Scalar.indexCast v784
  let c0_521 : Index := 0#32
  ![3, v859.toNat, 0]
def k0_off168 (k0_t8 : Fin k0_t8_loop.trips) : Fin 3 → Nat :=
  let c4_522 : Index := 4#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v865 : Index := Scalar.indexCast v784
  let c0_523 : Index := 0#32
  ![4, v865.toNat, 0]
def k0_off169 (k0_t8 : Fin k0_t8_loop.trips) : Fin 3 → Nat :=
  let c5_524 : Index := 5#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v871 : Index := Scalar.indexCast v784
  let c0_525 : Index := 0#32
  ![5, v871.toNat, 0]
def k0_off170 (k0_t8 : Fin k0_t8_loop.trips) : Fin 3 → Nat :=
  let c6_526 : Index := 6#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v877 : Index := Scalar.indexCast v784
  let c0_527 : Index := 0#32
  ![6, v877.toNat, 0]
def k0_off171 (k0_t8 : Fin k0_t8_loop.trips) : Fin 3 → Nat :=
  let c7_528 : Index := 7#32
  let c1_i32_380 : BitVec 32 := 1#32
  let c1_i32_382 : BitVec 32 := 1#32
  let arg17 : BitVec 32 := Scf.iv c1_i32_380 c1_i32_382 k0_t8
  let c8_i32_497 : BitVec 32 := 8#32
  let v783 : BitVec 32 := Scalar.muli arg17 c8_i32_497
  let v784 : BitVec 32 := v783
  let v883 : Index := Scalar.indexCast v784
  let c0_529 : Index := 0#32
  ![7, v883.toNat, 0]
def k0_mult13 (k0_t7 : Fin k0_t7_loop.trips) : BitVec 32 :=
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let c8_i32_388 : BitVec 32 := 8#32
  let v602 : BitVec 32 := Scalar.muli v487 c8_i32_388
  v602
def k0_off172 (k0_t7 : Fin k0_t7_loop.trips) (c0_i32_346 : BitVec 32) : Fin 2 → Nat :=
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let c8_i32_388 : BitVec 32 := 8#32
  let v602 : BitVec 32 := Scalar.muli v487 c8_i32_388
  let v603 : BitVec 32 := v602
  let v604 : Index := Scalar.indexCast v603
  let c0_389 : Index := 0#32
  ![v604.toNat, 0]
@[reducible] def k0_t9_loop : Scf.Loop 32 :=
  let c0_i32_397 : BitVec 32 := 0#32
  let c8_i32_398 : BitVec 32 := 8#32
  let v615 : BitVec 32 := Scalar.addi c0_i32_397 c8_i32_398
  let c1_i32_399 : BitVec 32 := 1#32
  ⟨c0_i32_397, v615, c1_i32_399⟩
def k0_off173 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v783 : Index := Scalar.indexCast arg17
  let c0_497 : Index := 0#32
  let c0_498 : Index := 0#32
  ![v783.toNat, 0, 0]
def k0_off174 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v793 : Index := Scalar.indexCast arg17
  let c8_501 : Index := 8#32
  let c0_502 : Index := 0#32
  ![v793.toNat, 8, 0]
def k0_off175 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v803 : Index := Scalar.indexCast arg17
  let c16_505 : Index := 16#32
  let c0_506 : Index := 0#32
  ![v803.toNat, 16, 0]
def k0_off176 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v813 : Index := Scalar.indexCast arg17
  let c24 : Index := 24#32
  let c0_509 : Index := 0#32
  ![v813.toNat, 24, 0]
def k0_off177 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v823 : Index := Scalar.indexCast arg17
  let c32_512 : Index := 32#32
  let c0_513 : Index := 0#32
  ![v823.toNat, 32, 0]
def k0_off178 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v833 : Index := Scalar.indexCast arg17
  let c40 : Index := 40#32
  let c0_516 : Index := 0#32
  ![v833.toNat, 40, 0]
def k0_off179 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v843 : Index := Scalar.indexCast arg17
  let c48_519 : Index := 48#32
  let c0_520 : Index := 0#32
  ![v843.toNat, 48, 0]
def k0_off180 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v853 : Index := Scalar.indexCast arg17
  let c56 : Index := 56#32
  let c0_523 : Index := 0#32
  ![v853.toNat, 56, 0]
def k0_off181 (k0_t9 : Fin k0_t9_loop.trips) (c0_i32_537 : BitVec 32) : Fin 2 → Nat :=
  let c0_i32_397 : BitVec 32 := 0#32
  let c1_i32_399 : BitVec 32 := 1#32
  let arg17 : BitVec 32 := Scf.iv c0_i32_397 c1_i32_399 k0_t9
  let c2_i32_536 : BitVec 32 := 2#32
  let v900 : BitVec 32 := Scalar.muli arg17 c2_i32_536
  let v901 : BitVec 32 := Scalar.addi v900 c0_i32_537
  let v902 : Index := Scalar.indexCast v901
  let c0_538 : Index := 0#32
  ![v902.toNat, 0]
def k0_off182 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v906 : Index := Scalar.indexCast arg17
  let c64_539 : Index := 64#32
  let c0_540 : Index := 0#32
  ![v906.toNat, 64, 0]
def k0_off183 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v916 : Index := Scalar.indexCast arg17
  let c72 : Index := 72#32
  let c0_543 : Index := 0#32
  ![v916.toNat, 72, 0]
def k0_off184 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v926 : Index := Scalar.indexCast arg17
  let c80_546 : Index := 80#32
  let c0_547 : Index := 0#32
  ![v926.toNat, 80, 0]
def k0_off185 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v936 : Index := Scalar.indexCast arg17
  let c88 : Index := 88#32
  let c0_550 : Index := 0#32
  ![v936.toNat, 88, 0]
def k0_off186 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v946 : Index := Scalar.indexCast arg17
  let c96_553 : Index := 96#32
  let c0_554 : Index := 0#32
  ![v946.toNat, 96, 0]
def k0_off187 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v956 : Index := Scalar.indexCast arg17
  let c104 : Index := 104#32
  let c0_557 : Index := 0#32
  ![v956.toNat, 104, 0]
def k0_off188 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v966 : Index := Scalar.indexCast arg17
  let c112_560 : Index := 112#32
  let c0_561 : Index := 0#32
  ![v966.toNat, 112, 0]
def k0_off189 (k0_t9 : Fin k0_t9_loop.trips) : Fin 3 → Nat :=
  let c0_i32_397 : BitVec 32 := 0#32
  let c1_i32_399 : BitVec 32 := 1#32
  let arg17 : BitVec 32 := Scf.iv c0_i32_397 c1_i32_399 k0_t9
  let v976 : Index := Scalar.indexCast arg17
  let c120 : Index := 120#32
  let c0_564 : Index := 0#32
  ![v976.toNat, 120, 0]
def k0_mult14 (k0_t7 : Fin k0_t7_loop.trips) : BitVec 32 :=
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let c0_i32_346 : BitVec 32 := 0#32
  let v487 : BitVec 32 := Scalar.addi v486 c0_i32_346
  let c2_i32_401 : BitVec 32 := 2#32
  let v616 : BitVec 32 := Scalar.subi v487 c2_i32_401
  let c512_i32 : BitVec 32 := 512#32
  let v628 : BitVec 32 := Scalar.muli v616 c512_i32
  v628
def k0_off190 (k0_t7 : Fin k0_t7_loop.trips) (c0_i32_346 : BitVec 32) : Fin 3 → Nat :=
  let c0_418 : Index := 0#32
  let c0_419 : Index := 0#32
  let c2_i32 : BitVec 32 := 2#32
  let c0_i32_300 : BitVec 32 := 0#32
  let c1_i32_302 : BitVec 32 := 1#32
  let arg16 : BitVec 32 := Scf.iv c0_i32_300 c1_i32_302 k0_t7
  let v485 : BitVec 32 := Scalar.muli c2_i32 arg16
  let c2_i32_345 : BitVec 32 := 2#32
  let v486 : BitVec 32 := Scalar.addi v485 c2_i32_345
  let v487 : BitVec 32 := Scalar.addi v486 c0_i32_346
  let c2_i32_401 : BitVec 32 := 2#32
  let v616 : BitVec 32 := Scalar.subi v487 c2_i32_401
  let c512_i32 : BitVec 32 := 512#32
  let v628 : BitVec 32 := Scalar.muli v616 c512_i32
  let v629 : BitVec 32 := v628
  let v630 : Index := Scalar.indexCast v629
  ![0, 0, v630.toNat]
def k0_mult15 : BitVec 32 :=
  let c0_i32_423 : BitVec 32 := 0#32
  c0_i32_423
@[reducible] def k0_t10_loop : Scf.Loop 32 :=
  let c1_i32_456 : BitVec 32 := 1#32
  let c15_i32_457 : BitVec 32 := 15#32
  let v738 : BitVec 32 := Scalar.addi c1_i32_456 c15_i32_457
  let c1_i32_458 : BitVec 32 := 1#32
  ⟨c1_i32_456, v738, c1_i32_458⟩
def k0_mult16 (k0_t10 : Fin k0_t10_loop.trips) : BitVec 32 :=
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  v783
def k0_off191 (k0_t7 : Fin k0_t7_loop.trips) (k0_t10 : Fin k0_t10_loop.trips) : Fin 4 → Nat :=
  let c0_498 : Index := 0#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v785 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v786 : Index := Scalar.indexCast v784
  let c0_499 : Index := 0#32
  ![0, v785.toNat, v786.toNat, 0]
def k0_off192 (k0_t7 : Fin k0_t7_loop.trips) (k0_t10 : Fin k0_t10_loop.trips) : Fin 4 → Nat :=
  let c1_500 : Index := 1#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v789 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v790 : Index := Scalar.indexCast v784
  let c0_501 : Index := 0#32
  ![1, v789.toNat, v790.toNat, 0]
def k0_off193 (k0_t7 : Fin k0_t7_loop.trips) (k0_t10 : Fin k0_t10_loop.trips) : Fin 4 → Nat :=
  let c2_502 : Index := 2#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v793 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v794 : Index := Scalar.indexCast v784
  let c0_503 : Index := 0#32
  ![2, v793.toNat, v794.toNat, 0]
def k0_off194 (k0_t7 : Fin k0_t7_loop.trips) (k0_t10 : Fin k0_t10_loop.trips) : Fin 4 → Nat :=
  let c3_504 : Index := 3#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v797 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v798 : Index := Scalar.indexCast v784
  let c0_505 : Index := 0#32
  ![3, v797.toNat, v798.toNat, 0]
def k0_off195 (k0_t7 : Fin k0_t7_loop.trips) (k0_t10 : Fin k0_t10_loop.trips) : Fin 4 → Nat :=
  let c4_506 : Index := 4#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v801 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v802 : Index := Scalar.indexCast v784
  let c0_507 : Index := 0#32
  ![4, v801.toNat, v802.toNat, 0]
def k0_off196 (k0_t7 : Fin k0_t7_loop.trips) (k0_t10 : Fin k0_t10_loop.trips) : Fin 4 → Nat :=
  let c5_508 : Index := 5#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v805 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v806 : Index := Scalar.indexCast v784
  let c0_509 : Index := 0#32
  ![5, v805.toNat, v806.toNat, 0]
def k0_off197 (k0_t7 : Fin k0_t7_loop.trips) (k0_t10 : Fin k0_t10_loop.trips) : Fin 4 → Nat :=
  let c6_510 : Index := 6#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v809 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v810 : Index := Scalar.indexCast v784
  let c0_511 : Index := 0#32
  ![6, v809.toNat, v810.toNat, 0]
def k0_off198 (k0_t7 : Fin k0_t7_loop.trips) (k0_t10 : Fin k0_t10_loop.trips) : Fin 4 → Nat :=
  let c7_512 : Index := 7#32
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let v813 : Index := Scalar.indexCast v636
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v814 : Index := Scalar.indexCast v784
  let c0_513 : Index := 0#32
  ![7, v813.toNat, v814.toNat, 0]
def k0_off199 (k0_t10 : Fin k0_t10_loop.trips) : Fin 3 → Nat :=
  let c0_514 : Index := 0#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v841 : Index := Scalar.indexCast v784
  let c0_515 : Index := 0#32
  ![0, v841.toNat, 0]
def k0_off200 (k0_t10 : Fin k0_t10_loop.trips) : Fin 3 → Nat :=
  let c1_516 : Index := 1#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v847 : Index := Scalar.indexCast v784
  let c0_517 : Index := 0#32
  ![1, v847.toNat, 0]
def k0_off201 (k0_t10 : Fin k0_t10_loop.trips) : Fin 3 → Nat :=
  let c2_518 : Index := 2#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v853 : Index := Scalar.indexCast v784
  let c0_519 : Index := 0#32
  ![2, v853.toNat, 0]
def k0_off202 (k0_t10 : Fin k0_t10_loop.trips) : Fin 3 → Nat :=
  let c3_520 : Index := 3#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v859 : Index := Scalar.indexCast v784
  let c0_521 : Index := 0#32
  ![3, v859.toNat, 0]
def k0_off203 (k0_t10 : Fin k0_t10_loop.trips) : Fin 3 → Nat :=
  let c4_522 : Index := 4#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v865 : Index := Scalar.indexCast v784
  let c0_523 : Index := 0#32
  ![4, v865.toNat, 0]
def k0_off204 (k0_t10 : Fin k0_t10_loop.trips) : Fin 3 → Nat :=
  let c5_524 : Index := 5#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v871 : Index := Scalar.indexCast v784
  let c0_525 : Index := 0#32
  ![5, v871.toNat, 0]
def k0_off205 (k0_t10 : Fin k0_t10_loop.trips) : Fin 3 → Nat :=
  let c6_526 : Index := 6#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v877 : Index := Scalar.indexCast v784
  let c0_527 : Index := 0#32
  ![6, v877.toNat, 0]
def k0_off206 (k0_t10 : Fin k0_t10_loop.trips) : Fin 3 → Nat :=
  let c7_528 : Index := 7#32
  let c1_i32_456 : BitVec 32 := 1#32
  let c1_i32_458 : BitVec 32 := 1#32
  let arg17 : BitVec 32 := Scf.iv c1_i32_456 c1_i32_458 k0_t10
  let c8_i32_497 : BitVec 32 := 8#32
  let v783 : BitVec 32 := Scalar.muli arg17 c8_i32_497
  let v784 : BitVec 32 := v783
  let v883 : Index := Scalar.indexCast v784
  let c0_529 : Index := 0#32
  ![7, v883.toNat, 0]
def k0_mult17 (k0_t7 : Fin k0_t7_loop.trips) : BitVec 32 :=
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let c8_i32_464 : BitVec 32 := 8#32
  let v751 : BitVec 32 := Scalar.muli v636 c8_i32_464
  v751
@[reducible] def k0_t11_loop : Scf.Loop 32 :=
  let c0_i32_473 : BitVec 32 := 0#32
  let c8_i32_474 : BitVec 32 := 8#32
  let v764 : BitVec 32 := Scalar.addi c0_i32_473 c8_i32_474
  let c1_i32_475 : BitVec 32 := 1#32
  ⟨c0_i32_473, v764, c1_i32_475⟩
def k0_off207 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v783 : Index := Scalar.indexCast arg17
  let c0_497 : Index := 0#32
  let c0_498 : Index := 0#32
  ![v783.toNat, 0, 0]
def k0_off208 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v793 : Index := Scalar.indexCast arg17
  let c8_501 : Index := 8#32
  let c0_502 : Index := 0#32
  ![v793.toNat, 8, 0]
def k0_off209 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v803 : Index := Scalar.indexCast arg17
  let c16_505 : Index := 16#32
  let c0_506 : Index := 0#32
  ![v803.toNat, 16, 0]
def k0_off210 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v813 : Index := Scalar.indexCast arg17
  let c24 : Index := 24#32
  let c0_509 : Index := 0#32
  ![v813.toNat, 24, 0]
def k0_off211 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v823 : Index := Scalar.indexCast arg17
  let c32_512 : Index := 32#32
  let c0_513 : Index := 0#32
  ![v823.toNat, 32, 0]
def k0_off212 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v833 : Index := Scalar.indexCast arg17
  let c40 : Index := 40#32
  let c0_516 : Index := 0#32
  ![v833.toNat, 40, 0]
def k0_off213 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v843 : Index := Scalar.indexCast arg17
  let c48_519 : Index := 48#32
  let c0_520 : Index := 0#32
  ![v843.toNat, 48, 0]
def k0_off214 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v853 : Index := Scalar.indexCast arg17
  let c56 : Index := 56#32
  let c0_523 : Index := 0#32
  ![v853.toNat, 56, 0]
def k0_off215 (k0_t11 : Fin k0_t11_loop.trips) (c0_i32_537 : BitVec 32) : Fin 2 → Nat :=
  let c0_i32_473 : BitVec 32 := 0#32
  let c1_i32_475 : BitVec 32 := 1#32
  let arg17 : BitVec 32 := Scf.iv c0_i32_473 c1_i32_475 k0_t11
  let c2_i32_536 : BitVec 32 := 2#32
  let v900 : BitVec 32 := Scalar.muli arg17 c2_i32_536
  let v901 : BitVec 32 := Scalar.addi v900 c0_i32_537
  let v902 : Index := Scalar.indexCast v901
  let c0_538 : Index := 0#32
  ![v902.toNat, 0]
def k0_off216 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v906 : Index := Scalar.indexCast arg17
  let c64_539 : Index := 64#32
  let c0_540 : Index := 0#32
  ![v906.toNat, 64, 0]
def k0_off217 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v916 : Index := Scalar.indexCast arg17
  let c72 : Index := 72#32
  let c0_543 : Index := 0#32
  ![v916.toNat, 72, 0]
def k0_off218 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v926 : Index := Scalar.indexCast arg17
  let c80_546 : Index := 80#32
  let c0_547 : Index := 0#32
  ![v926.toNat, 80, 0]
def k0_off219 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v936 : Index := Scalar.indexCast arg17
  let c88 : Index := 88#32
  let c0_550 : Index := 0#32
  ![v936.toNat, 88, 0]
def k0_off220 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v946 : Index := Scalar.indexCast arg17
  let c96_553 : Index := 96#32
  let c0_554 : Index := 0#32
  ![v946.toNat, 96, 0]
def k0_off221 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v956 : Index := Scalar.indexCast arg17
  let c104 : Index := 104#32
  let c0_557 : Index := 0#32
  ![v956.toNat, 104, 0]
def k0_off222 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v966 : Index := Scalar.indexCast arg17
  let c112_560 : Index := 112#32
  let c0_561 : Index := 0#32
  ![v966.toNat, 112, 0]
def k0_off223 (k0_t11 : Fin k0_t11_loop.trips) : Fin 3 → Nat :=
  let c0_i32_473 : BitVec 32 := 0#32
  let c1_i32_475 : BitVec 32 := 1#32
  let arg17 : BitVec 32 := Scf.iv c0_i32_473 c1_i32_475 k0_t11
  let v976 : Index := Scalar.indexCast arg17
  let c120 : Index := 120#32
  let c0_564 : Index := 0#32
  ![v976.toNat, 120, 0]
def k0_mult18 (k0_t7 : Fin k0_t7_loop.trips) : BitVec 32 :=
  let c2_i32_420 : BitVec 32 := 2#32
  let c0_i32_300 : BitVec 32 := 0#32
  let c1_i32_302 : BitVec 32 := 1#32
  let arg16 : BitVec 32 := Scf.iv c0_i32_300 c1_i32_302 k0_t7
  let v634 : BitVec 32 := Scalar.muli c2_i32_420 arg16
  let c2_i32_421 : BitVec 32 := 2#32
  let v635 : BitVec 32 := Scalar.addi v634 c2_i32_421
  let c1_i32_422 : BitVec 32 := 1#32
  let v636 : BitVec 32 := Scalar.addi v635 c1_i32_422
  let c2_i32_477 : BitVec 32 := 2#32
  let v765 : BitVec 32 := Scalar.subi v636 c2_i32_477
  let c512_i32_494 : BitVec 32 := 512#32
  let v777 : BitVec 32 := Scalar.muli v765 c512_i32_494
  v777
@[reducible] def k0_t12_loop : Scf.Loop 32 :=
  let c0_i32_307 : BitVec 32 := 0#32
  let c8_i32_308 : BitVec 32 := 8#32
  let v447 : BitVec 32 := Scalar.addi c0_i32_307 c8_i32_308
  let c1_i32_309 : BitVec 32 := 1#32
  ⟨c0_i32_307, v447, c1_i32_309⟩
def k0_off224 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v485 : Index := Scalar.indexCast arg16
  let c0_345 : Index := 0#32
  let c0_346 : Index := 0#32
  ![v485.toNat, 0, 0]
def k0_off225 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v495 : Index := Scalar.indexCast arg16
  let c8_349 : Index := 8#32
  let c0_350 : Index := 0#32
  ![v495.toNat, 8, 0]
def k0_off226 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v505 : Index := Scalar.indexCast arg16
  let c16_353 : Index := 16#32
  let c0_354 : Index := 0#32
  ![v505.toNat, 16, 0]
def k0_off227 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v515 : Index := Scalar.indexCast arg16
  let c24 : Index := 24#32
  let c0_357 : Index := 0#32
  ![v515.toNat, 24, 0]
def k0_off228 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v525 : Index := Scalar.indexCast arg16
  let c32_360 : Index := 32#32
  let c0_361 : Index := 0#32
  ![v525.toNat, 32, 0]
def k0_off229 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v535 : Index := Scalar.indexCast arg16
  let c40 : Index := 40#32
  let c0_364 : Index := 0#32
  ![v535.toNat, 40, 0]
def k0_off230 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v545 : Index := Scalar.indexCast arg16
  let c48_367 : Index := 48#32
  let c0_368 : Index := 0#32
  ![v545.toNat, 48, 0]
def k0_off231 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v555 : Index := Scalar.indexCast arg16
  let c56 : Index := 56#32
  let c0_371 : Index := 0#32
  ![v555.toNat, 56, 0]
def k0_off232 (k0_t12 : Fin k0_t12_loop.trips) (c0_i32_384 : BitVec 32) : Fin 2 → Nat :=
  let c0_i32_307 : BitVec 32 := 0#32
  let c1_i32_309 : BitVec 32 := 1#32
  let arg16 : BitVec 32 := Scf.iv c0_i32_307 c1_i32_309 k0_t12
  let c2_i32 : BitVec 32 := 2#32
  let v602 : BitVec 32 := Scalar.muli arg16 c2_i32
  let v603 : BitVec 32 := Scalar.addi v602 c0_i32_384
  let v604 : Index := Scalar.indexCast v603
  let c0_385 : Index := 0#32
  ![v604.toNat, 0]
def k0_off233 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v608 : Index := Scalar.indexCast arg16
  let c64_386 : Index := 64#32
  let c0_387 : Index := 0#32
  ![v608.toNat, 64, 0]
def k0_off234 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v618 : Index := Scalar.indexCast arg16
  let c72 : Index := 72#32
  let c0_390 : Index := 0#32
  ![v618.toNat, 72, 0]
def k0_off235 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v628 : Index := Scalar.indexCast arg16
  let c80_393 : Index := 80#32
  let c0_394 : Index := 0#32
  ![v628.toNat, 80, 0]
def k0_off236 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v638 : Index := Scalar.indexCast arg16
  let c88 : Index := 88#32
  let c0_397 : Index := 0#32
  ![v638.toNat, 88, 0]
def k0_off237 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v648 : Index := Scalar.indexCast arg16
  let c96_400 : Index := 96#32
  let c0_401 : Index := 0#32
  ![v648.toNat, 96, 0]
def k0_off238 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v658 : Index := Scalar.indexCast arg16
  let c104 : Index := 104#32
  let c0_404 : Index := 0#32
  ![v658.toNat, 104, 0]
def k0_off239 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v668 : Index := Scalar.indexCast arg16
  let c112_407 : Index := 112#32
  let c0_408 : Index := 0#32
  ![v668.toNat, 112, 0]
def k0_off240 (k0_t12 : Fin k0_t12_loop.trips) : Fin 3 → Nat :=
  let c0_i32_307 : BitVec 32 := 0#32
  let c1_i32_309 : BitVec 32 := 1#32
  let arg16 : BitVec 32 := Scf.iv c0_i32_307 c1_i32_309 k0_t12
  let v678 : Index := Scalar.indexCast arg16
  let c120 : Index := 120#32
  let c0_411 : Index := 0#32
  ![v678.toNat, 120, 0]
def k0_mult19 : BitVec 32 :=
  let c15360_i32 : BitVec 32 := 15360#32
  c15360_i32
def k0_mult20 : BitVec 32 :=
  let c15872_i32 : BitVec 32 := 15872#32
  c15872_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x8x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x8x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S6x32768x384 : Shape := ⟨3, ![6, 32768, 384]⟩
abbrev S32768 : Shape := ⟨1, ![32768]⟩
abbrev S1x32768x1 : Shape := ⟨3, ![1, 32768, 1]⟩
abbrev S6x16384x2x1x384 : Shape := ⟨5, ![6, 16384, 2, 1, 384]⟩
abbrev S6x16384x1x1x384 : Shape := ⟨5, ![6, 16384, 1, 1, 384]⟩
abbrev S6x16384x1x384 : Shape := ⟨4, ![6, 16384, 1, 384]⟩
abbrev S6x8192x2x2x384 : Shape := ⟨5, ![6, 8192, 2, 2, 384]⟩
abbrev S6x8192x1x2x384 : Shape := ⟨5, ![6, 8192, 1, 2, 384]⟩
abbrev S6x8192x2x384 : Shape := ⟨4, ![6, 8192, 2, 384]⟩
abbrev S6x4096x2x4x384 : Shape := ⟨5, ![6, 4096, 2, 4, 384]⟩
abbrev S6x4096x1x4x384 : Shape := ⟨5, ![6, 4096, 1, 4, 384]⟩
abbrev S6x4096x4x384 : Shape := ⟨4, ![6, 4096, 4, 384]⟩
abbrev S6x2048x2x8x384 : Shape := ⟨5, ![6, 2048, 2, 8, 384]⟩
abbrev S6x2048x1x8x384 : Shape := ⟨5, ![6, 2048, 1, 8, 384]⟩
abbrev S6x2048x8x384 : Shape := ⟨4, ![6, 2048, 8, 384]⟩
abbrev S6x1024x2x16x384 : Shape := ⟨5, ![6, 1024, 2, 16, 384]⟩
abbrev S6x1024x1x16x384 : Shape := ⟨5, ![6, 1024, 1, 16, 384]⟩
abbrev S6x1024x16x384 : Shape := ⟨4, ![6, 1024, 16, 384]⟩
abbrev S6x512x2x32x384 : Shape := ⟨5, ![6, 512, 2, 32, 384]⟩
abbrev S6x512x1x32x384 : Shape := ⟨5, ![6, 512, 1, 32, 384]⟩
abbrev S6x512x32x384 : Shape := ⟨4, ![6, 512, 32, 384]⟩
abbrev S6x256x2x64x384 : Shape := ⟨5, ![6, 256, 2, 64, 384]⟩
abbrev S6x256x1x64x384 : Shape := ⟨5, ![6, 256, 1, 64, 384]⟩
abbrev S6x256x64x384 : Shape := ⟨4, ![6, 256, 64, 384]⟩
abbrev S6x128x2x128x384 : Shape := ⟨5, ![6, 128, 2, 128, 384]⟩
abbrev S6x128x1x128x384 : Shape := ⟨5, ![6, 128, 1, 128, 384]⟩
abbrev S6x128x128x384 : Shape := ⟨4, ![6, 128, 128, 384]⟩
abbrev S6x64x2x256x384 : Shape := ⟨5, ![6, 64, 2, 256, 384]⟩
abbrev S6x64x1x256x384 : Shape := ⟨5, ![6, 64, 1, 256, 384]⟩
abbrev S6x64x256x384 : Shape := ⟨4, ![6, 64, 256, 384]⟩
abbrev S6x32x2x512x384 : Shape := ⟨5, ![6, 32, 2, 512, 384]⟩
abbrev S6x32x1x512x384 : Shape := ⟨5, ![6, 32, 1, 512, 384]⟩
abbrev S6x32x512x384 : Shape := ⟨4, ![6, 32, 512, 384]⟩
abbrev S6x16x2x1024x384 : Shape := ⟨5, ![6, 16, 2, 1024, 384]⟩
abbrev S6x16x1x1024x384 : Shape := ⟨5, ![6, 16, 1, 1024, 384]⟩
abbrev S6x16x1024x384 : Shape := ⟨4, ![6, 16, 1024, 384]⟩
abbrev S6x8x2x2048x384 : Shape := ⟨5, ![6, 8, 2, 2048, 384]⟩
abbrev S6x8x1x2048x384 : Shape := ⟨5, ![6, 8, 1, 2048, 384]⟩
abbrev S6x8x2048x384 : Shape := ⟨4, ![6, 8, 2048, 384]⟩
abbrev S6x4x2x4096x384 : Shape := ⟨5, ![6, 4, 2, 4096, 384]⟩
abbrev S6x4x1x4096x384 : Shape := ⟨5, ![6, 4, 1, 4096, 384]⟩
abbrev S6x4x4096x384 : Shape := ⟨4, ![6, 4, 4096, 384]⟩
abbrev S6x2x2x8192x384 : Shape := ⟨5, ![6, 2, 2, 8192, 384]⟩
abbrev S6x2x1x8192x384 : Shape := ⟨5, ![6, 2, 1, 8192, 384]⟩
abbrev S6x2x8192x384 : Shape := ⟨4, ![6, 2, 8192, 384]⟩
abbrev S6x1x2x16384x384 : Shape := ⟨5, ![6, 1, 2, 16384, 384]⟩
abbrev S6x1x1x16384x384 : Shape := ⟨5, ![6, 1, 1, 16384, 384]⟩
abbrev S6x1x16384x384 : Shape := ⟨4, ![6, 1, 16384, 384]⟩
abbrev S_ : Shape := ⟨0, ![]⟩
abbrev S6x256x128x384 : Shape := ⟨4, ![6, 256, 128, 384]⟩
abbrev S6x256x384 : Shape := ⟨3, ![6, 256, 384]⟩
abbrev S6x256x1x384 : Shape := ⟨4, ![6, 256, 1, 384]⟩
abbrev S6x16384x2x384 : Shape := ⟨4, ![6, 16384, 2, 384]⟩
abbrev S6x16384x384 : Shape := ⟨3, ![6, 16384, 384]⟩
abbrev S6x384x16384 : Shape := ⟨3, ![6, 384, 16384]⟩
abbrev S6x384x256 : Shape := ⟨3, ![6, 384, 256]⟩

abbrev nBuf : Space → Nat
  | .hbm => 218
  | .vmem => 0
  | .smem => 0
  | _ => 0

abbrev hbmTy0_0 (i : Nat) : BufTy := match i % 128 with
  | 0 => ⟨S6x32768x384, .bf16⟩
  | 1 => ⟨S32768, .f32⟩
  | 2 => ⟨S6x32768x384, .f32⟩
  | 3 => ⟨S1x32768x1, .f32⟩
  | 4 => ⟨S6x32768x384, .f32⟩
  | 5 => ⟨S6x32768x384, .f32⟩
  | 6 => ⟨S6x16384x2x1x384, .f32⟩
  | 7 => ⟨S6x16384x1x1x384, .f32⟩
  | 8 => ⟨S6x16384x1x384, .f32⟩
  | 9 => ⟨S6x16384x1x1x384, .f32⟩
  | 10 => ⟨S6x16384x1x384, .f32⟩
  | 11 => ⟨S6x16384x1x384, .f32⟩
  | 12 => ⟨S6x16384x1x384, .f32⟩
  | 13 => ⟨S6x16384x1x1x384, .f32⟩
  | 14 => ⟨S6x16384x1x1x384, .f32⟩
  | 15 => ⟨S6x16384x2x1x384, .f32⟩
  | 16 => ⟨S6x32768x384, .f32⟩
  | 17 => ⟨S6x8192x2x2x384, .f32⟩
  | 18 => ⟨S6x8192x1x2x384, .f32⟩
  | 19 => ⟨S6x8192x2x384, .f32⟩
  | 20 => ⟨S6x8192x1x2x384, .f32⟩
  | 21 => ⟨S6x8192x2x384, .f32⟩
  | 22 => ⟨S6x8192x2x384, .f32⟩
  | 23 => ⟨S6x8192x2x384, .f32⟩
  | 24 => ⟨S6x8192x1x2x384, .f32⟩
  | 25 => ⟨S6x8192x1x2x384, .f32⟩
  | 26 => ⟨S6x8192x2x2x384, .f32⟩
  | 27 => ⟨S6x32768x384, .f32⟩
  | 28 => ⟨S6x4096x2x4x384, .f32⟩
  | 29 => ⟨S6x4096x1x4x384, .f32⟩
  | 30 => ⟨S6x4096x4x384, .f32⟩
  | 31 => ⟨S6x4096x1x4x384, .f32⟩
  | 32 => ⟨S6x4096x4x384, .f32⟩
  | 33 => ⟨S6x4096x4x384, .f32⟩
  | 34 => ⟨S6x4096x4x384, .f32⟩
  | 35 => ⟨S6x4096x1x4x384, .f32⟩
  | 36 => ⟨S6x4096x1x4x384, .f32⟩
  | 37 => ⟨S6x4096x2x4x384, .f32⟩
  | 38 => ⟨S6x32768x384, .f32⟩
  | 39 => ⟨S6x2048x2x8x384, .f32⟩
  | 40 => ⟨S6x2048x1x8x384, .f32⟩
  | 41 => ⟨S6x2048x8x384, .f32⟩
  | 42 => ⟨S6x2048x1x8x384, .f32⟩
  | 43 => ⟨S6x2048x8x384, .f32⟩
  | 44 => ⟨S6x2048x8x384, .f32⟩
  | 45 => ⟨S6x2048x8x384, .f32⟩
  | 46 => ⟨S6x2048x1x8x384, .f32⟩
  | 47 => ⟨S6x2048x1x8x384, .f32⟩
  | 48 => ⟨S6x2048x2x8x384, .f32⟩
  | 49 => ⟨S6x32768x384, .f32⟩
  | 50 => ⟨S6x1024x2x16x384, .f32⟩
  | 51 => ⟨S6x1024x1x16x384, .f32⟩
  | 52 => ⟨S6x1024x16x384, .f32⟩
  | 53 => ⟨S6x1024x1x16x384, .f32⟩
  | 54 => ⟨S6x1024x16x384, .f32⟩
  | 55 => ⟨S6x1024x16x384, .f32⟩
  | 56 => ⟨S6x1024x16x384, .f32⟩
  | 57 => ⟨S6x1024x1x16x384, .f32⟩
  | 58 => ⟨S6x1024x1x16x384, .f32⟩
  | 59 => ⟨S6x1024x2x16x384, .f32⟩
  | 60 => ⟨S6x32768x384, .f32⟩
  | 61 => ⟨S6x512x2x32x384, .f32⟩
  | 62 => ⟨S6x512x1x32x384, .f32⟩
  | 63 => ⟨S6x512x32x384, .f32⟩
  | 64 => ⟨S6x512x1x32x384, .f32⟩
  | 65 => ⟨S6x512x32x384, .f32⟩
  | 66 => ⟨S6x512x32x384, .f32⟩
  | 67 => ⟨S6x512x32x384, .f32⟩
  | 68 => ⟨S6x512x1x32x384, .f32⟩
  | 69 => ⟨S6x512x1x32x384, .f32⟩
  | 70 => ⟨S6x512x2x32x384, .f32⟩
  | 71 => ⟨S6x32768x384, .f32⟩
  | 72 => ⟨S6x256x2x64x384, .f32⟩
  | 73 => ⟨S6x256x1x64x384, .f32⟩
  | 74 => ⟨S6x256x64x384, .f32⟩
  | 75 => ⟨S6x256x1x64x384, .f32⟩
  | 76 => ⟨S6x256x64x384, .f32⟩
  | 77 => ⟨S6x256x64x384, .f32⟩
  | 78 => ⟨S6x256x64x384, .f32⟩
  | 79 => ⟨S6x256x1x64x384, .f32⟩
  | 80 => ⟨S6x256x1x64x384, .f32⟩
  | 81 => ⟨S6x256x2x64x384, .f32⟩
  | 82 => ⟨S6x32768x384, .f32⟩
  | 83 => ⟨S6x128x2x128x384, .f32⟩
  | 84 => ⟨S6x128x1x128x384, .f32⟩
  | 85 => ⟨S6x128x128x384, .f32⟩
  | 86 => ⟨S6x128x1x128x384, .f32⟩
  | 87 => ⟨S6x128x128x384, .f32⟩
  | 88 => ⟨S6x128x128x384, .f32⟩
  | 89 => ⟨S6x128x128x384, .f32⟩
  | 90 => ⟨S6x128x1x128x384, .f32⟩
  | 91 => ⟨S6x128x1x128x384, .f32⟩
  | 92 => ⟨S6x128x2x128x384, .f32⟩
  | 93 => ⟨S6x32768x384, .f32⟩
  | 94 => ⟨S6x64x2x256x384, .f32⟩
  | 95 => ⟨S6x64x1x256x384, .f32⟩
  | 96 => ⟨S6x64x256x384, .f32⟩
  | 97 => ⟨S6x64x1x256x384, .f32⟩
  | 98 => ⟨S6x64x256x384, .f32⟩
  | 99 => ⟨S6x64x256x384, .f32⟩
  | 100 => ⟨S6x64x256x384, .f32⟩
  | 101 => ⟨S6x64x1x256x384, .f32⟩
  | 102 => ⟨S6x64x1x256x384, .f32⟩
  | 103 => ⟨S6x64x2x256x384, .f32⟩
  | 104 => ⟨S6x32768x384, .f32⟩
  | 105 => ⟨S6x32x2x512x384, .f32⟩
  | 106 => ⟨S6x32x1x512x384, .f32⟩
  | 107 => ⟨S6x32x512x384, .f32⟩
  | 108 => ⟨S6x32x1x512x384, .f32⟩
  | 109 => ⟨S6x32x512x384, .f32⟩
  | 110 => ⟨S6x32x512x384, .f32⟩
  | 111 => ⟨S6x32x512x384, .f32⟩
  | 112 => ⟨S6x32x1x512x384, .f32⟩
  | 113 => ⟨S6x32x1x512x384, .f32⟩
  | 114 => ⟨S6x32x2x512x384, .f32⟩
  | 115 => ⟨S6x32768x384, .f32⟩
  | 116 => ⟨S6x16x2x1024x384, .f32⟩
  | 117 => ⟨S6x16x1x1024x384, .f32⟩
  | 118 => ⟨S6x16x1024x384, .f32⟩
  | 119 => ⟨S6x16x1x1024x384, .f32⟩
  | 120 => ⟨S6x16x1024x384, .f32⟩
  | 121 => ⟨S6x16x1024x384, .f32⟩
  | 122 => ⟨S6x16x1024x384, .f32⟩
  | 123 => ⟨S6x16x1x1024x384, .f32⟩
  | 124 => ⟨S6x16x1x1024x384, .f32⟩
  | 125 => ⟨S6x16x2x1024x384, .f32⟩
  | 126 => ⟨S6x32768x384, .f32⟩
  | 127 => ⟨S6x8x2x2048x384, .f32⟩
  | _ => ⟨S6x32768x384, .bf16⟩

abbrev hbmTy0_1 (i : Nat) : BufTy := match i % 128 with
  | 0 => ⟨S6x8x1x2048x384, .f32⟩
  | 1 => ⟨S6x8x2048x384, .f32⟩
  | 2 => ⟨S6x8x1x2048x384, .f32⟩
  | 3 => ⟨S6x8x2048x384, .f32⟩
  | 4 => ⟨S6x8x2048x384, .f32⟩
  | 5 => ⟨S6x8x2048x384, .f32⟩
  | 6 => ⟨S6x8x1x2048x384, .f32⟩
  | 7 => ⟨S6x8x1x2048x384, .f32⟩
  | 8 => ⟨S6x8x2x2048x384, .f32⟩
  | 9 => ⟨S6x32768x384, .f32⟩
  | 10 => ⟨S6x4x2x4096x384, .f32⟩
  | 11 => ⟨S6x4x1x4096x384, .f32⟩
  | 12 => ⟨S6x4x4096x384, .f32⟩
  | 13 => ⟨S6x4x1x4096x384, .f32⟩
  | 14 => ⟨S6x4x4096x384, .f32⟩
  | 15 => ⟨S6x4x4096x384, .f32⟩
  | 16 => ⟨S6x4x4096x384, .f32⟩
  | 17 => ⟨S6x4x1x4096x384, .f32⟩
  | 18 => ⟨S6x4x1x4096x384, .f32⟩
  | 19 => ⟨S6x4x2x4096x384, .f32⟩
  | 20 => ⟨S6x32768x384, .f32⟩
  | 21 => ⟨S6x2x2x8192x384, .f32⟩
  | 22 => ⟨S6x2x1x8192x384, .f32⟩
  | 23 => ⟨S6x2x8192x384, .f32⟩
  | 24 => ⟨S6x2x1x8192x384, .f32⟩
  | 25 => ⟨S6x2x8192x384, .f32⟩
  | 26 => ⟨S6x2x8192x384, .f32⟩
  | 27 => ⟨S6x2x8192x384, .f32⟩
  | 28 => ⟨S6x2x1x8192x384, .f32⟩
  | 29 => ⟨S6x2x1x8192x384, .f32⟩
  | 30 => ⟨S6x2x2x8192x384, .f32⟩
  | 31 => ⟨S6x32768x384, .f32⟩
  | 32 => ⟨S6x1x2x16384x384, .f32⟩
  | 33 => ⟨S6x1x1x16384x384, .f32⟩
  | 34 => ⟨S6x1x16384x384, .f32⟩
  | 35 => ⟨S6x1x1x16384x384, .f32⟩
  | 36 => ⟨S6x1x16384x384, .f32⟩
  | 37 => ⟨S6x1x16384x384, .f32⟩
  | 38 => ⟨S6x1x16384x384, .f32⟩
  | 39 => ⟨S6x1x1x16384x384, .f32⟩
  | 40 => ⟨S6x1x1x16384x384, .f32⟩
  | 41 => ⟨S6x1x2x16384x384, .f32⟩
  | 42 => ⟨S6x32768x384, .f32⟩
  | 43 => ⟨S_, .f32⟩
  | 44 => ⟨S6x32768x384, .f32⟩
  | 45 => ⟨S6x32768x384, .f32⟩
  | 46 => ⟨S6x256x128x384, .f32⟩
  | 47 => ⟨S6x256x128x384, .f32⟩
  | 48 => ⟨S_, .f32⟩
  | 49 => ⟨S6x256x384, .f32⟩
  | 50 => ⟨S_, .f32⟩
  | 51 => ⟨S6x256x384, .f32⟩
  | 52 => ⟨S6x256x384, .i1⟩
  | 53 => ⟨S_, .f32⟩
  | 54 => ⟨S6x256x384, .f32⟩
  | 55 => ⟨S6x256x384, .f32⟩
  | 56 => ⟨S_, .f32⟩
  | 57 => ⟨S6x256x384, .f32⟩
  | 58 => ⟨S6x256x384, .f32⟩
  | 59 => ⟨S6x256x1x384, .f32⟩
  | 60 => ⟨S6x256x128x384, .f32⟩
  | 61 => ⟨S6x256x128x384, .f32⟩
  | 62 => ⟨S6x256x128x384, .f32⟩
  | 63 => ⟨S_, .f32⟩
  | 64 => ⟨S_, .f32⟩
  | 65 => ⟨S_, .f32⟩
  | 66 => ⟨S6x256x128x384, .f32⟩
  | 67 => ⟨S6x256x128x384, .f32⟩
  | 68 => ⟨S_, .f32⟩
  | 69 => ⟨S6x256x128x384, .f32⟩
  | 70 => ⟨S6x256x128x384, .f32⟩
  | 71 => ⟨S6x256x128x384, .i32⟩
  | 72 => ⟨S6x256x128x384, .i8⟩
  | 73 => ⟨S6x32768x384, .i8⟩
  | 74 => ⟨S6x32768x384, .i32⟩
  | 75 => ⟨S_, .i32⟩
  | 76 => ⟨S6x32768x384, .i32⟩
  | 77 => ⟨S6x32768x384, .i32⟩
  | 78 => ⟨S6x16384x2x384, .i32⟩
  | 79 => ⟨S6x16384x1x384, .i32⟩
  | 80 => ⟨S6x16384x384, .i32⟩
  | 81 => ⟨S6x16384x1x384, .i32⟩
  | 82 => ⟨S6x16384x384, .i32⟩
  | 83 => ⟨S_, .i32⟩
  | 84 => ⟨S6x16384x384, .i32⟩
  | 85 => ⟨S6x16384x384, .i32⟩
  | 86 => ⟨S6x16384x384, .i32⟩
  | 87 => ⟨S6x16384x384, .i8⟩
  | 88 => ⟨S6x384x16384, .i8⟩
  | 89 => ⟨S6x384x256, .f32⟩
  | _ => ⟨S6x32768x384, .bf16⟩

abbrev hbmTy (i : Nat) : BufTy := match i / 128 with
  | 0 => hbmTy0_0 i
  | 1 => hbmTy0_1 i
  | _ => ⟨S6x32768x384, .bf16⟩

abbrev bufTy : (tb : Table) → Fin (tcTables nBuf tb) → BufTy
  | .hbm, ⟨i, _⟩ => hbmTy i
  | _, _ => ⟨S6x32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_cst : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_cst_0 : Ref sig .tc := ⟨.hbm, 176, rfl⟩
abbrev main_v173 : Ref sig .tc := ⟨.hbm, 177, rfl⟩
abbrev main_cst_1 : Ref sig .tc := ⟨.hbm, 178, rfl⟩
abbrev main_v174 : Ref sig .tc := ⟨.hbm, 179, rfl⟩
abbrev main_v175 : Ref sig .tc := ⟨.hbm, 180, rfl⟩
abbrev main_cst_2 : Ref sig .tc := ⟨.hbm, 181, rfl⟩
abbrev main_v176 : Ref sig .tc := ⟨.hbm, 182, rfl⟩
abbrev main_v177 : Ref sig .tc := ⟨.hbm, 183, rfl⟩
abbrev main_cst_3 : Ref sig .tc := ⟨.hbm, 184, rfl⟩
abbrev main_call0_v0 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_cst_4 : Ref sig .tc := ⟨.hbm, 191, rfl⟩
abbrev main_cst_5 : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_c : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_c_6 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩

abbrev nD : Nat := 1
abbrev τ : Topo := Topo.v7x

variable {F : FTy → Type} [FloatOps F]
-- ==== Proof.Triple.lean ====
/- Loads, stores and loops as triples over owned memrefs, in two strengths: `Keeps` says only that an assertion comes back,
   `Tr` names the value returned and the assertion left. Both are stated for any program of the core, at any values. -/
module

public import Idealize.ShloMosaic.Lib.VecWindow
public import Idealize.ShloMosaic.Lib.Memref
public import Idealize.ShloMosaic.Lib.Scf
public import Idealize.ShloMosaic.Lib.Tactic

@[expose] public section

noncomputable section

namespace Cert.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### A buffer's values with a rectangle replaced -/

section Put
variable {α : Type} {s : Shape}

open Classical in
/-- `x` with `w` over the rectangle `r`, which may be strided. -/
def putR (x : s.Idx → α) (r : Rect s) (w : r.shape.Idx → α) : s.Idx → α :=
  fun y => if h : ∃ j, r.emb j = y then w h.choose else x y

theorem putR_emb (x : s.Idx → α) (r : Rect s) (w : r.shape.Idx → α) (j : r.shape.Idx) : putR x r w (r.emb j) = w j := by
  unfold putR
  have h : ∃ i, r.emb i = r.emb j := ⟨j, rfl⟩
  rw [dif_pos h]
  exact congrArg w (r.emb.injective h.choose_spec)

theorem putR_off (x : s.Idx → α) (r : Rect s) (w : r.shape.Idx → α) (y : s.Idx) (h : ∀ j, r.emb j ≠ y) : putR x r w y = x y := by
  unfold putR
  rw [dif_neg]; rintro ⟨j, hj⟩; exact h j hj

end Put

/-! ### The triples -/

section Triples
variable {nD : Nat} {τ : Topo} {sig : RefSig} {Ix : Type} [DecidableEq Ix]
variable {Val : EltTy → Type} {Name : Type} [DecidableEq Name]
variable {U : Type} [URA U]
variable {Lvl : Type} [Preorder Lvl] {Λ : Labels}
local notation "𝕄" => MT nD τ sig Ix Val Name U Lvl

variable (defs : Defs nD τ sig Val Λ) (c : Thread nD τ)

/-- The program runs from `P` to its return and gives `P` back, whatever it returns. -/
def Keeps {α : Type} (P : sProp 𝕄) (p : Prog (TpuEff nD τ sig Val Λ c.2) α) : Prop :=
  P ⊢ wp frame (wpE defs Variants.none c none) Set.univ p (fun _ => P)

/-- The program runs from `P` to its return, returns `a` and leaves `P'`. -/
def Tr {α : Type} (P : sProp 𝕄) (p : Prog (TpuEff nD τ sig Val Λ c.2) α) (a : α) (P' : sProp 𝕄) : Prop :=
  P ⊢ wp frame (wpE defs Variants.none c none) Set.univ p (fun b => iprop(⌜b = a⌝ ∗ P'))

variable {defs} {c}

theorem Keeps.pure {α : Type} {P : sProp 𝕄} (a : α) : Keeps defs c P (Pure.pure a) := by
  unfold Keeps; rw [wp_pure]; iintro H; imodintro; iexact H

theorem Keeps.bind {α β : Type} {P : sProp 𝕄} {p : Prog (TpuEff nD τ sig Val Λ c.2) α} {k : α → Prog (TpuEff nD τ sig Val Λ c.2) β}
    (hp : Keeps defs c P p) (hk : ∀ a, Keeps defs c P (k a)) : Keeps defs c P (p >>= k) := by
  unfold Keeps at *; rw [wp_bind]; exact hp.trans (wp_mono _ _ _ hk)

theorem Tr.pure {α : Type} {P : sProp 𝕄} (a : α) : Tr defs c P (Pure.pure a) a P := by
  unfold Tr; rw [wp_pure]; iintro H; imodintro; isplitr
  · ipureintro; rfl
  · iexact H

theorem Tr.bind {α β : Type} {P P' P'' : sProp 𝕄} {p : Prog (TpuEff nD τ sig Val Λ c.2) α} {k : α → Prog (TpuEff nD τ sig Val Λ c.2) β}
    {a : α} {b : β} (hp : Tr defs c P p a P') (hk : Tr defs c P' (k a) b P'') : Tr defs c P (p >>= k) b P'' := by
  unfold Tr at *; rw [wp_bind]; refine hp.trans (wp_mono _ _ _ fun a' => ?_)
  iintro ⟨%h, H⟩
  subst h
  iapply hk; iexact H

theorem Tr.conseq {α : Type} {P P₁ P' : sProp 𝕄} {p : Prog (TpuEff nD τ sig Val Λ c.2) α} {a a' : α}
    (h : Tr defs c P p a P₁) (ha : a = a') (hP : P₁ = P') : Tr defs c P p a' P' := by
  subst ha hP; exact h

/-- A load from a memref that the assertion owns. -/
theorem Tr.load {sp : CoreSpace} {s : Shape} {e : EltTy} {P : sProp 𝕄} {m : Memref sig c.2.kind sp s e} {X : s.Idx → Val e}
    {r : LoadRect s} {hl : m.view.LoadsAt r}
    (hP : P ⊢ iprop(owns c m fullShare X ∗ (owns c m fullShare X -∗ P))) :
    Tr defs c P (Prog.lift (.load m r hl)) (fun j => X (r.idx j)) P := by
  unfold Tr
  refine hP.trans ?_
  unfold owns Prog.lift
  iintro ⟨⟨%f, %hf, Hf⟩, HK⟩
  iapply (show iprop(_ ∗ _) ⊢ _ from BI.wand_elim (wp_load Variants.none c none Set.univ (hl := hl) (q := fullShare) (f := f) (View.setOn_subset_set _ _)))
  isplitl [Hf]
  · iexact Hf
  iintro Hf
  rw [wp_ret]; imodintro; isplitr
  · ipureintro; funext j; rw [View.readAt_apply, hf]
  · iapply HK; iexists f; isplitr
    · ipureintro; exact hf
    · iexact Hf

/-- An unmasked store to a memref that the assertion owns. -/
theorem Tr.store {sp : CoreSpace} {s : Shape} {e : EltTy} {P : sProp 𝕄} {P' : (s.Idx → Val e) → sProp 𝕄}
    {m : Memref sig c.2.kind sp s e} {X : s.Idx → Val e}
    {r : Rect s} {w : r.shape.Idx → Val e} {hx : (m.access r).Stores Finset.univ} {hm : Finset.univ = Finset.univ ∨ ∀ a, r.stride a = 1}
    (hP : P ⊢ iprop(owns c m fullShare X ∗ (∀ Y, owns c m fullShare Y -∗ P' Y))) :
    Tr defs c P (Prog.lift (.store m r w Finset.univ hx hm)) ⟨⟩ (P' (putR X r w)) := by
  unfold Tr
  refine hP.trans ?_
  unfold owns Prog.lift
  iintro ⟨⟨%f, %hf, Hf⟩, HK⟩
  iapply (show iprop(_ ∗ _) ⊢ _ from BI.wand_elim (wp_store Variants.none c none Set.univ (hx := hx) (hm := hm) (S := m.view.set) (f := f) (View.set_slice_subset _ _)))
  isplitl [Hf]
  · iexact Hf
  iintro Hf
  rw [wp_ret]; imodintro; isplitr
  · ipureintro; rfl
  · iapply HK; iexists _; isplitr
    swap
    · iexact Hf
    · ipureintro; funext y
      by_cases h : ∃ j, r.emb j = y
      · obtain ⟨j, rfl⟩ := h
        rw [putR_emb]; exact View.read_slice_write_emb _ _ _ (Finset.mem_univ j)
      · rw [putR_off _ _ _ _ (fun j hj => h ⟨j, hj⟩), View.read_slice_write_of_not_mem, hf]
        intro hy; obtain ⟨j, -, hj⟩ := Finset.mem_map.mp hy; exact h ⟨j, hj⟩

theorem Tr.forgets {α : Type} {ι : Type} {P : ι → sProp 𝕄} {p : Prog (TpuEff nD τ sig Val Λ c.2) α} (a : ι → α) (i' : ι → ι)
    (h : ∀ i, Tr defs c (P i) p (a i) (P (i' i))) : Keeps defs c (iprop(∃ i, P i)) p := by
  unfold Keeps
  iintro ⟨%i, H⟩
  iapply (wp_wand_r frame (wpE defs Variants.none c none) Set.univ (Q := fun b => iprop(⌜b = a i⌝ ∗ P (i' i))))
  isplitl [H]
  · iapply (show P i ⊢ _ from h i); iexact H
  · iintro %b ⟨-, H⟩; iexists _; iexact H

/-- The assertion owns the memref at some contents, and takes it back at any. -/
def Lends {sp : Space} {s : Shape} {e : EltTy} (c : Thread nD τ) (P : sProp 𝕄) (m : Memref sig c.2.kind sp s e) : Prop :=
  P ⊢ iprop(∃ X, owns c m fullShare X ∗ (∀ Y, owns c m fullShare Y -∗ P))

/-- The assertion owns the memref at some contents, and takes it back at the same. -/
def Reads {sp : Space} {s : Shape} {e : EltTy} (c : Thread nD τ) (P : sProp 𝕄) (m : Memref sig c.2.kind sp s e) : Prop :=
  P ⊢ iprop(∃ X, owns c m fullShare X ∗ (owns c m fullShare X -∗ P))

theorem Lends.reads {sp : Space} {s : Shape} {e : EltTy} {P : sProp 𝕄} {m : Memref sig c.2.kind sp s e} (h : Lends c P m) :
    Reads c P m := by
  unfold Lends at h; unfold Reads
  refine h.trans ?_
  iintro ⟨%X, HX, HK⟩
  iexists X
  isplitl [HX]
  · iexact HX
  · iapply HK

theorem Keeps.load {sp : CoreSpace} {s : Shape} {e : EltTy} {P : sProp 𝕄} {m : Memref sig c.2.kind sp s e}
    {r : LoadRect s} {hl : m.view.LoadsAt r} (hP : Reads c P m) : Keeps defs c P (Prog.lift (.load m r hl)) := by
  unfold Keeps
  refine (show P ⊢ _ from hP).trans ?_
  unfold owns Prog.lift
  iintro ⟨%X, ⟨%f, %hf, Hf⟩, HK⟩
  iapply (show iprop(_ ∗ _) ⊢ _ from BI.wand_elim (wp_load Variants.none c none Set.univ (hl := hl) (q := fullShare) (f := f) (View.setOn_subset_set _ _)))
  isplitl [Hf]
  · iexact Hf
  iintro Hf
  rw [wp_ret]; imodintro
  iapply HK; iexists f; isplitr
  · ipureintro; exact hf
  · iexact Hf

theorem Keeps.store {sp : CoreSpace} {s : Shape} {e : EltTy} {P : sProp 𝕄} {m : Memref sig c.2.kind sp s e}
    {r : Rect s} {w : r.shape.Idx → Val e} {hx : (m.access r).Stores Finset.univ} {hm : Finset.univ = Finset.univ ∨ ∀ a, r.stride a = 1}
    (hP : Lends c P m) : Keeps defs c P (Prog.lift (.store m r w Finset.univ hx hm)) := by
  unfold Keeps
  refine (show P ⊢ _ from hP).trans ?_
  unfold owns Prog.lift
  iintro ⟨%X, ⟨%f, %hf, Hf⟩, HK⟩
  iapply (show iprop(_ ∗ _) ⊢ _ from BI.wand_elim (wp_store Variants.none c none Set.univ (hx := hx) (hm := hm) (S := m.view.set) (f := f) (View.set_slice_subset _ _)))
  isplitl [Hf]
  · iexact Hf
  iintro Hf
  rw [wp_ret]; imodintro
  iapply HK; iexists _; isplitr
  swap
  · iexact Hf
  · ipureintro; rfl

/-- A counted loop whose trips keep the assertion keeps it. -/
theorem Keeps.loop {w : ℕ} {σ : Type} {P : sProp 𝕄} {lb ub st : BitVec w} {hok : Scf.OK lb ub st} {init : σ}
    {body : Fin (Scf.trips lb ub st) → σ → Prog (TpuEff nD τ sig Val Λ c.2) σ}
    (h : ∀ k acc, Keeps defs c P (body k acc)) : Keeps defs c P (Scf.for lb ub st hok init body) := by
  unfold Keeps at *
  iintro H
  iapply (Scf.wp_for frame (wpE defs Variants.none c none) Set.univ lb ub st hok init body (fun _ _ => P) (fun k acc => h k acc))
  isplitl [H]
  · iexact H
  · iintro %acc H; iexact H

/-- A counted loop, by the carried value and the assertion before each trip. -/
theorem Tr.loop {w : ℕ} {σ : Type} {lb ub st : BitVec w} {hok : Scf.OK lb ub st}
    {body : Fin (Scf.trips lb ub st) → σ → Prog (TpuEff nD τ sig Val Λ c.2) σ} (a : ℕ → σ) (P : ℕ → sProp 𝕄)
    (h : ∀ k : Fin (Scf.trips lb ub st), Tr defs c (P k) (body k (a k)) (a (k + 1)) (P (k + 1))) :
    Tr defs c (P 0) (Scf.for lb ub st hok (a 0) body) (a (Scf.trips lb ub st)) (P (Scf.trips lb ub st)) := by
  unfold Tr at *
  iintro H
  iapply (Scf.wp_for frame (wpE defs Variants.none c none) Set.univ lb ub st hok (a 0) body (fun k acc => iprop(⌜acc = a k⌝ ∗ P k))
    (fun k acc => by
      iintro ⟨%e, H⟩
      subst e
      iapply (h k); iexact H))
  isplitl [H]
  · isplitr
    · ipureintro; rfl
    · iexact H
  · iintro %acc H; iexact H

end Triples

end Cert.Fold

end
-- ==== Proof.KernelKeeps.lean ====
/- The kernel body keeps its buffers: run from the ownership of its fourteen memrefs at some contents, it returns with the
   ownership of the same memrefs at some contents. -/
module

public import proofs.«01_k».proof.Kernel
public import proofs.«01_k».proof.Proof.Gen.Kernel
public import proofs.«01_k».proof.Proof.Gen.Kernel.Frame
public import proofs.«01_k».proof.Proof.Triple

@[expose] public section

set_option maxRecDepth 16384

noncomputable section

namespace Cert.Kernel.Hand

open Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {c : Dev nD} {P : sProp (MT nD τ sig Unit (Elt F) ℕ (UR sig nD τ) ℕ)} {i : grid0.Coords}

set_option maxHeartbeats 4000000 in
theorem keeps_body (L2 : Reads (c : Thread nD τ) P arg2) (L3 : Reads (c : Thread nD τ) P arg3) (L4 : Reads (c : Thread nD τ) P arg4) (L5 : Lends (c : Thread nD τ) P arg5) (L6 : Lends (c : Thread nD τ) P arg6) (L7 : Lends (c : Thread nD τ) P arg7) (L8 : Lends (c : Thread nD τ) P arg8) (L9 : Lends (c : Thread nD τ) P arg9) (L10 : Lends (c : Thread nD τ) P arg10) (L11 : Lends (c : Thread nD τ) P arg11) (L12 : Lends (c : Thread nD τ) P arg12) (L13 : Lends (c : Thread nD τ) P arg13) (L14 : Lends (c : Thread nD τ) P arg14) (L15 : Lends (c : Thread nD τ) P arg15)
    :
    Keeps (defs₀ (F := F)) (c : Thread nD τ) P (cc0_hadamard_fold i arg2 harg2 arg3 harg3 arg4 harg4 arg5 harg5 arg6 harg6 arg7 harg7 arg8 harg8 arg9 harg9 arg10 harg10 arg11 harg11 arg12 harg12 arg13 harg13 arg14 harg14 arg15 harg15) := by
  repeat (first
      | with_reducible exact Keeps.pure _
      | with_reducible exact Keeps.load L2
      | with_reducible exact Keeps.load L3
      | with_reducible exact Keeps.load L4
      | with_reducible exact Keeps.load (Lends.reads L5)
      | with_reducible exact Keeps.store L5
      | with_reducible exact Keeps.load (Lends.reads L6)
      | with_reducible exact Keeps.store L6
      | with_reducible exact Keeps.load (Lends.reads L7)
      | with_reducible exact Keeps.store L7
      | with_reducible exact Keeps.load (Lends.reads L8)
      | with_reducible exact Keeps.store L8
      | with_reducible exact Keeps.load (Lends.reads L9)
      | with_reducible exact Keeps.store L9
      | with_reducible exact Keeps.load (Lends.reads L10)
      | with_reducible exact Keeps.store L10
      | with_reducible exact Keeps.load (Lends.reads L11)
      | with_reducible exact Keeps.store L11
      | with_reducible exact Keeps.load (Lends.reads L12)
      | with_reducible exact Keeps.store L12
      | with_reducible exact Keeps.load (Lends.reads L13)
      | with_reducible exact Keeps.store L13
      | with_reducible exact Keeps.load (Lends.reads L14)
      | with_reducible exact Keeps.store L14
      | with_reducible exact Keeps.load (Lends.reads L15)
      | with_reducible exact Keeps.store L15
      | with_reducible refine Keeps.loop fun _ _ => ?_
      | with_reducible refine Keeps.bind ?_ fun _ => ?_
      | refine Keeps.bind ?_ fun _ => ?_)

end Cert.Kernel.Hand

end
-- ==== Proof.KernelFrame.lean ====
/- The frame of the kernel's program: the body keeps its buffers (the fourteen memrefs, the three inputs at their blocks),
   so the pipeline runs, the arguments end unchanged and every semaphore counter ends at zero. -/
module

public import proofs.«01_k».proof.Proof.KernelKeeps

@[expose] public section

set_option maxRecDepth 16384

noncomputable section

namespace Cert.Kernel.Hand

open Cert.Kernel.Gen Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Lend
variable (arg2 : Memref sig .tc .vmem S256x256 .bf16)
variable (arg3 : Memref sig .tc .vmem S256x8x16x128 .bf16)
variable (arg4 : Memref sig .tc .vmem S1x256x8x16x128 .bf16)
variable (arg5 : Memref sig .tc .vmem S1x128x16384 .i8)
variable (arg6 : Memref sig .tc .vmem S1x128x256 .f32)
variable (arg7 : Memref sig .tc .vmem S8x32x128x128 .f32)
variable (arg8 : Memref sig .tc .vmem S16x256x128 .f32)
variable (arg9 : Memref sig .tc .vmem S16x256x128 .f32)
variable (arg10 : Memref sig .tc .vmem S8x128x128 .f32)
variable (arg11 : Memref sig .tc .vmem S8x128x128 .f32)
variable (arg12 : Memref sig .tc .vmem S136x128 .i32)
variable (arg13 : Memref sig .tc .vmem S136x128 .i32)
variable (arg14 : Memref sig .tc .vmem S2x8x128 .f32)
variable (arg15 : Memref sig .tc .vmem S256x128 .f32)
variable (c : Dev nD)
variable (X2 : S256x256.Idx → Elt F .bf16)
variable (X3 : S256x8x16x128.Idx → Elt F .bf16)
variable (X4 : S1x256x8x16x128.Idx → Elt F .bf16)

/-- The body's fourteen memrefs: the three inputs at their blocks, the results and the scratch at anything. -/
def held : sProp (MT nD τ sig Unit (Elt F) ℕ (UR sig nD τ) ℕ) :=
  iprop(owns (c : Thread nD τ) arg2 fullShare X2
    ∗ owns (c : Thread nD τ) arg3 fullShare X3
    ∗ owns (c : Thread nD τ) arg4 fullShare X4
    ∗ (∃ X, owns (c : Thread nD τ) arg5 fullShare X)
    ∗ (∃ X, owns (c : Thread nD τ) arg6 fullShare X)
    ∗ (∃ X, owns (c : Thread nD τ) arg7 fullShare X)
    ∗ (∃ X, owns (c : Thread nD τ) arg8 fullShare X)
    ∗ (∃ X, owns (c : Thread nD τ) arg9 fullShare X)
    ∗ (∃ X, owns (c : Thread nD τ) arg10 fullShare X)
    ∗ (∃ X, owns (c : Thread nD τ) arg11 fullShare X)
    ∗ (∃ X, owns (c : Thread nD τ) arg12 fullShare X)
    ∗ (∃ X, owns (c : Thread nD τ) arg13 fullShare X)
    ∗ (∃ X, owns (c : Thread nD τ) arg14 fullShare X)
    ∗ (∃ X, owns (c : Thread nD τ) arg15 fullShare X))

theorem held_2 : Reads (c : Thread nD τ) (held (F := F) arg2 arg3 arg4 arg5 arg6 arg7 arg8 arg9 arg10 arg11 arg12 arg13 arg14 arg15 c X2 X3 X4) arg2 := by
  unfold Reads held
  iintro ⟨H2, H3, H4, H5, H6, H7, H8, H9, H10, H11, H12, H13, H14, H15⟩
  iexists X2
  isplitl [H2]
  · iexact H2
  iintro H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_3 : Reads (c : Thread nD τ) (held (F := F) arg2 arg3 arg4 arg5 arg6 arg7 arg8 arg9 arg10 arg11 arg12 arg13 arg14 arg15 c X2 X3 X4) arg3 := by
  unfold Reads held
  iintro ⟨H2, H3, H4, H5, H6, H7, H8, H9, H10, H11, H12, H13, H14, H15⟩
  iexists X3
  isplitl [H3]
  · iexact H3
  iintro H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_4 : Reads (c : Thread nD τ) (held (F := F) arg2 arg3 arg4 arg5 arg6 arg7 arg8 arg9 arg10 arg11 arg12 arg13 arg14 arg15 c X2 X3 X4) arg4 := by
  unfold Reads held
  iintro ⟨H2, H3, H4, H5, H6, H7, H8, H9, H10, H11, H12, H13, H14, H15⟩
  iexists X4
  isplitl [H4]
  · iexact H4
  iintro H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_5 : Lends (c : Thread nD τ) (held (F := F) arg2 arg3 arg4 arg5 arg6 arg7 arg8 arg9 arg10 arg11 arg12 arg13 arg14 arg15 c X2 X3 X4) arg5 := by
  unfold Lends held
  iintro ⟨H2, H3, H4, ⟨%X, H5⟩, H6, H7, H8, H9, H10, H11, H12, H13, H14, H15⟩
  iexists X
  isplitl [H5]
  · iexact H5
  iintro %Y H5
  isplitl [H2]; · iexact H2
  isplitl [H3]; · iexact H3
  isplitl [H4]; · iexact H4
  isplitl [H5]; · iexists Y; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_6 : Lends (c : Thread nD τ) (held (F := F) arg2 arg3 arg4 arg5 arg6 arg7 arg8 arg9 arg10 arg11 arg12 arg13 arg14 arg15 c X2 X3 X4) arg6 := by
  unfold Lends held
  iintro ⟨H2, H3, H4, H5, ⟨%X, H6⟩, H7, H8, H9, H10, H11, H12, H13, H14, H15⟩
  iexists X
  isplitl [H6]
  · iexact H6
  iintro %Y H6
  isplitl [H2]; · iexact H2
  isplitl [H3]; · iexact H3
  isplitl [H4]; · iexact H4
  isplitl [H5]; · iexact H5
  isplitl [H6]; · iexists Y; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_7 : Lends (c : Thread nD τ) (held (F := F) arg2 arg3 arg4 arg5 arg6 arg7 arg8 arg9 arg10 arg11 arg12 arg13 arg14 arg15 c X2 X3 X4) arg7 := by
  unfold Lends held
  iintro ⟨H2, H3, H4, H5, H6, ⟨%X, H7⟩, H8, H9, H10, H11, H12, H13, H14, H15⟩
  iexists X
  isplitl [H7]
  · iexact H7
  iintro %Y H7
  isplitl [H2]; · iexact H2
  isplitl [H3]; · iexact H3
  isplitl [H4]; · iexact H4
  isplitl [H5]; · iexact H5
  isplitl [H6]; · iexact H6
  isplitl [H7]; · iexists Y; iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_8 : Lends (c : Thread nD τ) (held (F := F) arg2 arg3 arg4 arg5 arg6 arg7 arg8 arg9 arg10 arg11 arg12 arg13 arg14 arg15 c X2 X3 X4) arg8 := by
  unfold Lends held
  iintro ⟨H2, H3, H4, H5, H6, H7, ⟨%X, H8⟩, H9, H10, H11, H12, H13, H14, H15⟩
  iexists X
  isplitl [H8]
  · iexact H8
  iintro %Y H8
  isplitl [H2]; · iexact H2
  isplitl [H3]; · iexact H3
  isplitl [H4]; · iexact H4
  isplitl [H5]; · iexact H5
  isplitl [H6]; · iexact H6
  isplitl [H7]; · iexact H7
  isplitl [H8]; · iexists Y; iexact H8
  isplitl [H9]; · iexact H9
  isplitl [H10]; · iexact H10
  isplitl [H11]; · iexact H11
  isplitl [H12]; · iexact H12
  isplitl [H13]; · iexact H13
  isplitl [H14]; · iexact H14
  iexact H15

theorem held_9 : Lends (c : Thread nD τ) (held (F := F) arg2 arg3 arg4 arg5 arg6 arg7 arg8 arg9 arg10 arg11 arg12 arg13 arg14 arg15 c X2 X3 X4) arg9 := by
  unfold Lends held
  iintro ⟨H2, H3, H4, H5, H6, H7, H8, ⟨%X, H9⟩, H10, H11, H12, H13, H14, H15⟩
  iexists X
  isplitl [H9]
  · iexact H9
  iintro %Y H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists Y; iexact H9
  isplitl [H10]; · iexact H10
  isplitl [H11]; · iexact H11
  isplitl [H12]; · iexact H12
  isplitl [H13]; · iexact H13
  isplitl [H14]; · iexact H14
  iexact H15

theorem held_10 : Lends (c : Thread nD τ) (held (F := F) arg2 arg3 arg4 arg5 arg6 arg7 arg8 arg9 arg10 arg11 arg12 arg13 arg14 arg15 c X2 X3 X4) arg10 := by
  unfold Lends held
  iintro ⟨H2, H3, H4, H5, H6, H7, H8, H9, ⟨%X, H10⟩, H11, H12, H13, H14, H15⟩
  iexists X
  isplitl [H10]
  · iexact H10
  iintro %Y H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists Y; iexact H10
  isplitl [H11]; · iexact H11
  isplitl [H12]; · iexact H12
  isplitl [H13]; · iexact H13
  isplitl [H14]; · iexact H14
  iexact H15

theorem held_11 : Lends (c : Thread nD τ) (held (F := F) arg2 arg3 arg4 arg5 arg6 arg7 arg8 arg9 arg10 arg11 arg12 arg13 arg14 arg15 c X2 X3 X4) arg11 := by
  unfold Lends held
  iintro ⟨H2, H3, H4, H5, H6, H7, H8, H9, H10, ⟨%X, H11⟩, H12, H13, H14, H15⟩
  iexists X
  isplitl [H11]
  · iexact H11
  iintro %Y H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists Y; iexact H11
  isplitl [H12]; · iexact H12
  isplitl [H13]; · iexact H13
  isplitl [H14]; · iexact H14
  iexact H15

theorem held_12 : Lends (c : Thread nD τ) (held (F := F) arg2 arg3 arg4 arg5 arg6 arg7 arg8 arg9 arg10 arg11 arg12 arg13 arg14 arg15 c X2 X3 X4) arg12 := by
  unfold Lends held
  iintro ⟨H2, H3, H4, H5, H6, H7, H8, H9, H10, H11, ⟨%X, H12⟩, H13, H14, H15⟩
  iexists X
  isplitl [H12]
  · iexact H12
  iintro %Y H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists Y; iexact H12
  isplitl [H13]; · iexact H13
  isplitl [H14]; · iexact H14
  iexact H15

theorem held_13 : Lends (c : Thread nD τ) (held (F := F) arg2 arg3 arg4 arg5 arg6 arg7 arg8 arg9 arg10 arg11 arg12 arg13 arg14 arg15 c X2 X3 X4) arg13 := by
  unfold Lends held
  iintro ⟨H2, H3, H4, H5, H6, H7, H8, H9, H10, H11, H12, ⟨%X, H13⟩, H14, H15⟩
  iexists X
  isplitl [H13]
  · iexact H13
  iintro %Y H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists Y; iexact H13
  isplitl [H14]; · iexact H14
  iexact H15

theorem held_14 : Lends (c : Thread nD τ) (held (F := F) arg2 arg3 arg4 arg5 arg6 arg7 arg8 arg9 arg10 arg11 arg12 arg13 arg14 arg15 c X2 X3 X4) arg14 := by
  unfold Lends held
  iintro ⟨H2, H3, H4, H5, H6, H7, H8, H9, H10, H11, H12, H13, ⟨%X, H14⟩, H15⟩
  iexists X
  isplitl [H14]
  · iexact H14
  iintro %Y H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists Y; iexact H14
  iexact H15

theorem held_15 : Lends (c : Thread nD τ) (held (F := F) arg2 arg3 arg4 arg5 arg6 arg7 arg8 arg9 arg10 arg11 arg12 arg13 arg14 arg15 c X2 X3 X4) arg15 := by
  unfold Lends held
  iintro ⟨H2, H3, H4, H5, H6, H7, H8, H9, H10, H11, H12, H13, H14, ⟨%X, H15⟩⟩
  iexists X
  isplitl [H15]
  · iexact H15
  iintro %Y H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists Y; iexact H15

end Lend

variable (m : (ℓ : Loc nD τ sig) → Buf (Elt F) ℓ) (ρ : Dev nD → PrngReg)

/-- The results' windows are forgotten here: this frame reads nothing of them. -/
def forgets0 : Fin 5 → Bool := fun w => decide (3 ≤ w.val)

def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => Pipeline.Dat.unnamed (cfg := cfg0) 3 t
    | 4 => fun t => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ d, owns (c : Thread nD τ) (st0_3 t) fullShare d)
    ∗ (∃ d, owns (c : Thread nD τ) (st0_4 t) fullShare d))

theorem PhiA0_eq (c : Dev nD) :
    (Pipeline.ΦA spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d))
          ∗ (∃ r, prngReg c r)) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before_0, before_1, before_2]
  iintro ⟨⟨⟨S0, S1, S2, S3, S4, S5, S6, S7, S8⟩, Hg⟩, HO, ⟨%d0, H0⟩, ⟨%d1, H1⟩, ⟨%d2, H2⟩, H3, H4⟩
  iapply (wp_wand_r frame (wpE (defs₀ (F := F)) Variants.none c none) Set.univ
    (Q := fun _ => held (F := F) (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t)))
  isplitl [S0 S1 S2 S3 S4 S5 S6 S7 S8 H0 H1 H2 H3 H4]
  · iapply (show held (F := F) (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t) ⊢ _ from
      keeps_body (held_2 _ _ _ _ _ _ _ _ _ _ _ _ _ _ c _ _ _) (held_3 _ _ _ _ _ _ _ _ _ _ _ _ _ _ c _ _ _) (held_4 _ _ _ _ _ _ _ _ _ _ _ _ _ _ c _ _ _) (held_5 _ _ _ _ _ _ _ _ _ _ _ _ _ _ c _ _ _) (held_6 _ _ _ _ _ _ _ _ _ _ _ _ _ _ c _ _ _) (held_7 _ _ _ _ _ _ _ _ _ _ _ _ _ _ c _ _ _) (held_8 _ _ _ _ _ _ _ _ _ _ _ _ _ _ c _ _ _) (held_9 _ _ _ _ _ _ _ _ _ _ _ _ _ _ c _ _ _) (held_10 _ _ _ _ _ _ _ _ _ _ _ _ _ _ c _ _ _) (held_11 _ _ _ _ _ _ _ _ _ _ _ _ _ _ c _ _ _) (held_12 _ _ _ _ _ _ _ _ _ _ _ _ _ _ c _ _ _) (held_13 _ _ _ _ _ _ _ _ _ _ _ _ _ _ c _ _ _) (held_14 _ _ _ _ _ _ _ _ _ _ _ _ _ _ c _ _ _) (held_15 _ _ _ _ _ _ _ _ _ _ _ _ _ _ c _ _ _))
    unfold held
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iintro %a H
    unfold held
    icases H with ⟨H0, H1, H2, H3, H4, S0, S1, S2, S3, S4, S5, S6, S7, S8⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · iexact Hg
    isplitl [HO]; · iexact HO
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The program runs, its arguments end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩, h.2⟩) (run_main m ρ)

end Cert.Kernel.Hand

end
-- ==== Proof.KernelIdealKeeps.lean ====
/- The kernel body keeps its buffers: run from the ownership of its fourteen memrefs at some contents, it returns with the
   ownership of the same memrefs at some contents. -/
module

public import proofs.«01_k».proof.KernelIdeal
public import proofs.«01_k».proof.Proof.Gen.KernelIdeal
public import proofs.«01_k».proof.Proof.Gen.KernelIdeal.Frame
public import proofs.«01_k».proof.Proof.Triple

@[expose] public section

set_option maxRecDepth 16384

noncomputable section

namespace Cert.KernelIdeal.Hand

open Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {c : Dev nD} {P : sProp (MT nD τ sig Unit (Elt F) ℕ (UR sig nD τ) ℕ)} {i : grid0.Coords}

set_option maxHeartbeats 4000000 in
theorem keeps_body (L2 : Reads (c : Thread nD τ) P arg2) (L3 : Reads (c : Thread nD τ) P arg3) (L4 : Reads (c : Thread nD τ) P arg4) (L5 : Lends (c : Thread nD τ) P arg5) (L6 : Lends (c : Thread nD τ) P arg6) (L7 : Lends (c : Thread nD τ) P arg7) (L8 : Lends (c : Thread nD τ) P arg8) (L9 : Lends (c : Thread nD τ) P arg9) (L10 : Lends (c : Thread nD τ) P arg10) (L11 : Lends (c : Thread nD τ) P arg11) (L12 : Lends (c : Thread nD τ) P arg12) (L13 : Lends (c : Thread nD τ) P arg13) (L14 : Lends (c : Thread nD τ) P arg14) (L15 : Lends (c : Thread nD τ) P arg15)
    :
    Keeps (defs₀ (F := F)) (c : Thread nD τ) P (cc0_hadamard_fold i arg2 harg2 arg3 harg3 arg4 harg4 arg5 harg5 arg6 harg6 arg7 harg7 arg8 harg8 arg9 harg9 arg10 harg10 arg11 harg11 arg12 harg12 arg13 harg13 arg14 harg14 arg15 harg15) := by
  repeat (first
      | with_reducible exact Keeps.pure _
      | with_reducible exact Keeps.load L2
      | with_reducible exact Keeps.load L3
      | with_reducible exact Keeps.load L4
      | with_reducible exact Keeps.load (Lends.reads L5)
      | with_reducible exact Keeps.store L5
      | with_reducible exact Keeps.load (Lends.reads L6)
      | with_reducible exact Keeps.store L6
      | with_reducible exact Keeps.load (Lends.reads L7)
      | with_reducible exact Keeps.store L7
      | with_reducible exact Keeps.load (Lends.reads L8)
      | with_reducible exact Keeps.store L8
      | with_reducible exact Keeps.load (Lends.reads L9)
      | with_reducible exact Keeps.store L9
      | with_reducible exact Keeps.load (Lends.reads L10)
      | with_reducible exact Keeps.store L10
      | with_reducible exact Keeps.load (Lends.reads L11)
      | with_reducible exact Keeps.store L11
      | with_reducible exact Keeps.load (Lends.reads L12)
      | with_reducible exact Keeps.store L12
      | with_reducible exact Keeps.load (Lends.reads L13)
      | with_reducible exact Keeps.store L13
      | with_reducible exact Keeps.load (Lends.reads L14)
      | with_reducible exact Keeps.store L14
      | with_reducible exact Keeps.load (Lends.reads L15)
      | with_reducible exact Keeps.store L15
      | with_reducible refine Keeps.loop fun _ _ => ?_
      | with_reducible refine Keeps.bind ?_ fun _ => ?_
      | refine Keeps.bind ?_ fun _ => ?_)

end Cert.KernelIdeal.Hand

end
-- ==== Proof.KernelIdealFrame.lean ====
/- The frame of the kernel's program: the body keeps its buffers (the fourteen memrefs, the three inputs at their blocks),
   so the pipeline runs, the arguments end unchanged and every semaphore counter ends at zero. -/
module

public import proofs.«01_k».proof.Proof.KernelIdealKeeps

@[expose] public section

set_option maxRecDepth 16384

noncomputable section

namespace Cert.KernelIdeal.Hand

open Cert.KernelIdeal.Gen Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Lend
variable (arg2 : Memref sig .tc .vmem S256x256 .bf16)
variable (arg3 : Memref sig .tc .vmem S256x8x16x128 .bf16)
variable (arg4 : Memref sig .tc .vmem S1x256x8x16x128 .bf16)
variable (arg5 : Memref sig .tc .vmem S1x128x16384 .i8)
variable (arg6 : Memref sig .tc .vmem S1x128x256 .f32)
variable (arg7 : Memref sig .tc .vmem S8x32x128x128 .f32)
variable (arg8 : Memref sig .tc .vmem S16x256x128 .f32)
variable (arg9 : Memref sig .tc .vmem S16x256x128 .f32)
variable (arg10 : Memref sig .tc .vmem S8x128x128 .f32)
variable (arg11 : Memref sig .tc .vmem S8x128x128 .f32)
variable (arg12 : Memref sig .tc .vmem S136x128 .i32)
variable (arg13 : Memref sig .tc .vmem S136x128 .i32)
variable (arg14 : Memref sig .tc .vmem S2x8x128 .f32)
variable (arg15 : Memref sig .tc .vmem S256x128 .f32)
variable (c : Dev nD)
variable (X2 : S256x256.Idx → Elt F .bf16)
variable (X3 : S256x8x16x128.Idx → Elt F .bf16)
variable (X4 : S1x256x8x16x128.Idx → Elt F .bf16)

/-- The body's fourteen memrefs: the three inputs at their blocks, the results and the scratch at anything. -/
def held : sProp (MT nD τ sig Unit (Elt F) ℕ (UR sig nD τ) ℕ) :=
  iprop(owns (c : Thread nD τ) arg2 fullShare X2
    ∗ owns (c : Thread nD τ) arg3 fullShare X3
    ∗ owns (c : Thread nD τ) arg4 fullShare X4
    ∗ (∃ X, owns (c : Thread nD τ) arg5 fullShare X)
    ∗ (∃ X, owns (c : Thread nD τ) arg6 fullShare X)
    ∗ (∃ X, owns (c : Thread nD τ) arg7 fullShare X)
    ∗ (∃ X, owns (c : Thread nD τ) arg8 fullShare X)
    ∗ (∃ X, owns (c : Thread nD τ) arg9 fullShare X)
    ∗ (∃ X, owns (c : Thread nD τ) arg10 fullShare X)
    ∗ (∃ X, owns (c : Thread nD τ) arg11 fullShare X)
    ∗ (∃ X, owns (c : Thread nD τ) arg12 fullShare X)
    ∗ (∃ X, owns (c : Thread nD τ) arg13 fullShare X)
    ∗ (∃ X, owns (c : Thread nD τ) arg14 fullShare X)
    ∗ (∃ X, owns (c : Thread nD τ) arg15 fullShare X))

theorem held_2 : Reads (c : Thread nD τ) (held (F := F) arg2 arg3 arg4 arg5 arg6 arg7 arg8 arg9 arg10 arg11 arg12 arg13 arg14 arg15 c X2 X3 X4) arg2 := by
  unfold Reads held
  iintro ⟨H2, H3, H4, H5, H6, H7, H8, H9, H10, H11, H12, H13, H14, H15⟩
  iexists X2
  isplitl [H2]
  · iexact H2
  iintro H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_3 : Reads (c : Thread nD τ) (held (F := F) arg2 arg3 arg4 arg5 arg6 arg7 arg8 arg9 arg10 arg11 arg12 arg13 arg14 arg15 c X2 X3 X4) arg3 := by
  unfold Reads held
  iintro ⟨H2, H3, H4, H5, H6, H7, H8, H9, H10, H11, H12, H13, H14, H15⟩
  iexists X3
  isplitl [H3]
  · iexact H3
  iintro H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_4 : Reads (c : Thread nD τ) (held (F := F) arg2 arg3 arg4 arg5 arg6 arg7 arg8 arg9 arg10 arg11 arg12 arg13 arg14 arg15 c X2 X3 X4) arg4 := by
  unfold Reads held
  iintro ⟨H2, H3, H4, H5, H6, H7, H8, H9, H10, H11, H12, H13, H14, H15⟩
  iexists X4
  isplitl [H4]
  · iexact H4
  iintro H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_5 : Lends (c : Thread nD τ) (held (F := F) arg2 arg3 arg4 arg5 arg6 arg7 arg8 arg9 arg10 arg11 arg12 arg13 arg14 arg15 c X2 X3 X4) arg5 := by
  unfold Lends held
  iintro ⟨H2, H3, H4, ⟨%X, H5⟩, H6, H7, H8, H9, H10, H11, H12, H13, H14, H15⟩
  iexists X
  isplitl [H5]
  · iexact H5
  iintro %Y H5
  isplitl [H2]; · iexact H2
  isplitl [H3]; · iexact H3
  isplitl [H4]; · iexact H4
  isplitl [H5]; · iexists Y; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_6 : Lends (c : Thread nD τ) (held (F := F) arg2 arg3 arg4 arg5 arg6 arg7 arg8 arg9 arg10 arg11 arg12 arg13 arg14 arg15 c X2 X3 X4) arg6 := by
  unfold Lends held
  iintro ⟨H2, H3, H4, H5, ⟨%X, H6⟩, H7, H8, H9, H10, H11, H12, H13, H14, H15⟩
  iexists X
  isplitl [H6]
  · iexact H6
  iintro %Y H6
  isplitl [H2]; · iexact H2
  isplitl [H3]; · iexact H3
  isplitl [H4]; · iexact H4
  isplitl [H5]; · iexact H5
  isplitl [H6]; · iexists Y; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_7 : Lends (c : Thread nD τ) (held (F := F) arg2 arg3 arg4 arg5 arg6 arg7 arg8 arg9 arg10 arg11 arg12 arg13 arg14 arg15 c X2 X3 X4) arg7 := by
  unfold Lends held
  iintro ⟨H2, H3, H4, H5, H6, ⟨%X, H7⟩, H8, H9, H10, H11, H12, H13, H14, H15⟩
  iexists X
  isplitl [H7]
  · iexact H7
  iintro %Y H7
  isplitl [H2]; · iexact H2
  isplitl [H3]; · iexact H3
  isplitl [H4]; · iexact H4
  isplitl [H5]; · iexact H5
  isplitl [H6]; · iexact H6
  isplitl [H7]; · iexists Y; iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem held_8 : Lends (c : Thread nD τ) (held (F := F) arg2 arg3 arg4 arg5 arg6 arg7 arg8 arg9 arg10 arg11 arg12 arg13 arg14 arg15 c X2 X3 X4) arg8 := by
  unfold Lends held
  iintro ⟨H2, H3, H4, H5, H6, H7, ⟨%X, H8⟩, H9, H10, H11, H12, H13, H14, H15⟩
  iexists X
  isplitl [H8]
  · iexact H8
  iintro %Y H8
  isplitl [H2]; · iexact H2
  isplitl [H3]; · iexact H3
  isplitl [H4]; · iexact H4
  isplitl [H5]; · iexact H5
  isplitl [H6]; · iexact H6
  isplitl [H7]; · iexact H7
  isplitl [H8]; · iexists Y; iexact H8
  isplitl [H9]; · iexact H9
  isplitl [H10]; · iexact H10
  isplitl [H11]; · iexact H11
  isplitl [H12]; · iexact H12
  isplitl [H13]; · iexact H13
  isplitl [H14]; · iexact H14
  iexact H15

theorem held_9 : Lends (c : Thread nD τ) (held (F := F) arg2 arg3 arg4 arg5 arg6 arg7 arg8 arg9 arg10 arg11 arg12 arg13 arg14 arg15 c X2 X3 X4) arg9 := by
  unfold Lends held
  iintro ⟨H2, H3, H4, H5, H6, H7, H8, ⟨%X, H9⟩, H10, H11, H12, H13, H14, H15⟩
  iexists X
  isplitl [H9]
  · iexact H9
  iintro %Y H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists Y; iexact H9
  isplitl [H10]; · iexact H10
  isplitl [H11]; · iexact H11
  isplitl [H12]; · iexact H12
  isplitl [H13]; · iexact H13
  isplitl [H14]; · iexact H14
  iexact H15

theorem held_10 : Lends (c : Thread nD τ) (held (F := F) arg2 arg3 arg4 arg5 arg6 arg7 arg8 arg9 arg10 arg11 arg12 arg13 arg14 arg15 c X2 X3 X4) arg10 := by
  unfold Lends held
  iintro ⟨H2, H3, H4, H5, H6, H7, H8, H9, ⟨%X, H10⟩, H11, H12, H13, H14, H15⟩
  iexists X
  isplitl [H10]
  · iexact H10
  iintro %Y H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists Y; iexact H10
  isplitl [H11]; · iexact H11
  isplitl [H12]; · iexact H12
  isplitl [H13]; · iexact H13
  isplitl [H14]; · iexact H14
  iexact H15

theorem held_11 : Lends (c : Thread nD τ) (held (F := F) arg2 arg3 arg4 arg5 arg6 arg7 arg8 arg9 arg10 arg11 arg12 arg13 arg14 arg15 c X2 X3 X4) arg11 := by
  unfold Lends held
  iintro ⟨H2, H3, H4, H5, H6, H7, H8, H9, H10, ⟨%X, H11⟩, H12, H13, H14, H15⟩
  iexists X
  isplitl [H11]
  · iexact H11
  iintro %Y H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists Y; iexact H11
  isplitl [H12]; · iexact H12
  isplitl [H13]; · iexact H13
  isplitl [H14]; · iexact H14
  iexact H15

theorem held_12 : Lends (c : Thread nD τ) (held (F := F) arg2 arg3 arg4 arg5 arg6 arg7 arg8 arg9 arg10 arg11 arg12 arg13 arg14 arg15 c X2 X3 X4) arg12 := by
  unfold Lends held
  iintro ⟨H2, H3, H4, H5, H6, H7, H8, H9, H10, H11, ⟨%X, H12⟩, H13, H14, H15⟩
  iexists X
  isplitl [H12]
  · iexact H12
  iintro %Y H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists Y; iexact H12
  isplitl [H13]; · iexact H13
  isplitl [H14]; · iexact H14
  iexact H15

theorem held_13 : Lends (c : Thread nD τ) (held (F := F) arg2 arg3 arg4 arg5 arg6 arg7 arg8 arg9 arg10 arg11 arg12 arg13 arg14 arg15 c X2 X3 X4) arg13 := by
  unfold Lends held
  iintro ⟨H2, H3, H4, H5, H6, H7, H8, H9, H10, H11, H12, ⟨%X, H13⟩, H14, H15⟩
  iexists X
  isplitl [H13]
  · iexact H13
  iintro %Y H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists Y; iexact H13
  isplitl [H14]; · iexact H14
  iexact H15

theorem held_14 : Lends (c : Thread nD τ) (held (F := F) arg2 arg3 arg4 arg5 arg6 arg7 arg8 arg9 arg10 arg11 arg12 arg13 arg14 arg15 c X2 X3 X4) arg14 := by
  unfold Lends held
  iintro ⟨H2, H3, H4, H5, H6, H7, H8, H9, H10, H11, H12, H13, ⟨%X, H14⟩, H15⟩
  iexists X
  isplitl [H14]
  · iexact H14
  iintro %Y H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists Y; iexact H14
  iexact H15

theorem held_15 : Lends (c : Thread nD τ) (held (F := F) arg2 arg3 arg4 arg5 arg6 arg7 arg8 arg9 arg10 arg11 arg12 arg13 arg14 arg15 c X2 X3 X4) arg15 := by
  unfold Lends held
  iintro ⟨H2, H3, H4, H5, H6, H7, H8, H9, H10, H11, H12, H13, H14, ⟨%X, H15⟩⟩
  iexists X
  isplitl [H15]
  · iexact H15
  iintro %Y H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists Y; iexact H15

end Lend

variable (m : (ℓ : Loc nD τ sig) → Buf (Elt F) ℓ) (ρ : Dev nD → PrngReg)

/-- The results' windows are forgotten here: this frame reads nothing of them. -/
def forgets0 : Fin 5 → Bool := fun w => decide (3 ≤ w.val)

def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => Pipeline.Dat.unnamed (cfg := cfg0) 3 t
    | 4 => fun t => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ d, owns (c : Thread nD τ) (st0_3 t) fullShare d)
    ∗ (∃ d, owns (c : Thread nD τ) (st0_4 t) fullShare d))

theorem PhiA0_eq (c : Dev nD) :
    (Pipeline.ΦA spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d))
          ∗ (∃ r, prngReg c r)) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before_0, before_1, before_2]
  iintro ⟨⟨⟨S0, S1, S2, S3, S4, S5, S6, S7, S8⟩, Hg⟩, HO, ⟨%d0, H0⟩, ⟨%d1, H1⟩, ⟨%d2, H2⟩, H3, H4⟩
  iapply (wp_wand_r frame (wpE (defs₀ (F := F)) Variants.none c none) Set.univ
    (Q := fun _ => held (F := F) (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t)))
  isplitl [S0 S1 S2 S3 S4 S5 S6 S7 S8 H0 H1 H2 H3 H4]
  · iapply (show held (F := F) (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t) ⊢ _ from
      keeps_body (held_2 _ _ _ _ _ _ _ _ _ _ _ _ _ _ c _ _ _) (held_3 _ _ _ _ _ _ _ _ _ _ _ _ _ _ c _ _ _) (held_4 _ _ _ _ _ _ _ _ _ _ _ _ _ _ c _ _ _) (held_5 _ _ _ _ _ _ _ _ _ _ _ _ _ _ c _ _ _) (held_6 _ _ _ _ _ _ _ _ _ _ _ _ _ _ c _ _ _) (held_7 _ _ _ _ _ _ _ _ _ _ _ _ _ _ c _ _ _) (held_8 _ _ _ _ _ _ _ _ _ _ _ _ _ _ c _ _ _) (held_9 _ _ _ _ _ _ _ _ _ _ _ _ _ _ c _ _ _) (held_10 _ _ _ _ _ _ _ _ _ _ _ _ _ _ c _ _ _) (held_11 _ _ _ _ _ _ _ _ _ _ _ _ _ _ c _ _ _) (held_12 _ _ _ _ _ _ _ _ _ _ _ _ _ _ c _ _ _) (held_13 _ _ _ _ _ _ _ _ _ _ _ _ _ _ c _ _ _) (held_14 _ _ _ _ _ _ _ _ _ _ _ _ _ _ c _ _ _) (held_15 _ _ _ _ _ _ _ _ _ _ _ _ _ _ c _ _ _))
    unfold held
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iintro %a H
    unfold held
    icases H with ⟨H0, H1, H2, H3, H4, S0, S1, S2, S3, S4, S5, S6, S7, S8⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · iexact Hg
    isplitl [HO]; · iexact HO
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The program runs, its arguments end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩, h.2⟩) (run_main m ρ)

end Cert.KernelIdeal.Hand

end
-- ==== Proof.Coords.lean ====
/- Arrays read at natural coordinates (zero outside), and how the rectangles a program loads and stores, and the reshapes of the
   loaded vectors, read at them. -/
module

public import Idealize.ShloMosaic.Lib.Pointwise
public import proofs.«01_k».proof.Proof.Triple

@[expose] public section

noncomputable section

namespace Cert.Fold

open Idealize.ShloMosaic

section
variable {α : Type} [Zero α] {n0 n1 n2 n3 n4 m0 m1 m2 m3 m4 : ℕ}

/-- A matrix at natural coordinates. -/
def at2 (X : (⟨2, ![n0, n1]⟩ : Shape).Idx → α) (a b : ℕ) : α :=
  if h : a < n0 ∧ b < n1 then X (ix2 ⟨a, h.1⟩ ⟨b, h.2⟩) else 0

/-- A rank-3 array at natural coordinates. -/
def at3 (X : (⟨3, ![n0, n1, n2]⟩ : Shape).Idx → α) (a b c : ℕ) : α :=
  if h : a < n0 ∧ b < n1 ∧ c < n2 then X (ix3 ⟨a, h.1⟩ ⟨b, h.2.1⟩ ⟨c, h.2.2⟩) else 0

/-- A rank-4 array at natural coordinates. -/
def at4 (X : (⟨4, ![n0, n1, n2, n3]⟩ : Shape).Idx → α) (a b c d : ℕ) : α :=
  if h : a < n0 ∧ b < n1 ∧ c < n2 ∧ d < n3 then X (ix4 ⟨a, h.1⟩ ⟨b, h.2.1⟩ ⟨c, h.2.2.1⟩ ⟨d, h.2.2.2⟩) else 0

/-- A rank-5 array at natural coordinates. -/
def at5 (X : (⟨5, ![n0, n1, n2, n3, n4]⟩ : Shape).Idx → α) (a b c d e : ℕ) : α :=
  if h : a < n0 ∧ b < n1 ∧ c < n2 ∧ d < n3 ∧ e < n4 then
    X (ix5 ⟨a, h.1⟩ ⟨b, h.2.1⟩ ⟨c, h.2.2.1⟩ ⟨d, h.2.2.2.1⟩ ⟨e, h.2.2.2.2⟩) else 0

theorem at2_ix (X : (⟨2, ![n0, n1]⟩ : Shape).Idx → α) (a : Fin n0) (b : Fin n1) : X (ix2 a b) = at2 X a b := by
  rw [at2, dif_pos ⟨a.isLt, b.isLt⟩]
theorem at3_ix (X : (⟨3, ![n0, n1, n2]⟩ : Shape).Idx → α) (a : Fin n0) (b : Fin n1) (c : Fin n2) : X (ix3 a b c) = at3 X a b c := by
  rw [at3, dif_pos ⟨a.isLt, b.isLt, c.isLt⟩]
theorem at4_ix (X : (⟨4, ![n0, n1, n2, n3]⟩ : Shape).Idx → α) (a : Fin n0) (b : Fin n1) (c : Fin n2) (d : Fin n3) :
    X (ix4 a b c d) = at4 X a b c d := by
  rw [at4, dif_pos ⟨a.isLt, b.isLt, c.isLt, d.isLt⟩]
theorem at5_ix (X : (⟨5, ![n0, n1, n2, n3, n4]⟩ : Shape).Idx → α) (a : Fin n0) (b : Fin n1) (c : Fin n2) (d : Fin n3) (e : Fin n4) :
    X (ix5 a b c d e) = at5 X a b c d e := by
  rw [at5, dif_pos ⟨a.isLt, b.isLt, c.isLt, d.isLt, e.isLt⟩]

theorem at2_idx (X : (⟨2, ![n0, n1]⟩ : Shape).Idx → α) (y) : X y = at2 X (y 0) (y 1) := by
  exact (congrArg X (ix2_eta y)).symm.trans (at2_ix X (y 0) (y 1))
theorem at3_idx (X : (⟨3, ![n0, n1, n2]⟩ : Shape).Idx → α) (y) : X y = at3 X (y 0) (y 1) (y 2) := by
  exact (congrArg X (ix3_eta y)).symm.trans (at3_ix X (y 0) (y 1) (y 2))
theorem at4_idx (X : (⟨4, ![n0, n1, n2, n3]⟩ : Shape).Idx → α) (y) : X y = at4 X (y 0) (y 1) (y 2) (y 3) := by
  exact (congrArg X (ix4_eta y)).symm.trans (at4_ix X (y 0) (y 1) (y 2) (y 3))
theorem at5_idx (X : (⟨5, ![n0, n1, n2, n3, n4]⟩ : Shape).Idx → α) (y) : X y = at5 X (y 0) (y 1) (y 2) (y 3) (y 4) := by
  exact (congrArg X (ix5_eta y)).symm.trans (at5_ix X (y 0) (y 1) (y 2) (y 3) (y 4))

/-! ### Loads -/

/-- What a load of the rectangle `r` returns. -/
def rd {s : Shape} (X : s.Idx → α) (r : LoadRect s) : r.shape.Idx → α := fun j => X (r.idx j)

theorem at2_rd {X : (⟨2, ![n0, n1]⟩ : Shape).Idx → α} {off : Fin 2 → ℕ} (inb) (a b : ℕ) (ha : a < m0) (hb : b < m1) :
    at2 (rd X (Rect.unit (s := ⟨2, ![n0, n1]⟩) off ![m0, m1] inb).toLoadRect) a b = at2 X (off 0 + a) (off 1 + b) := by
  rw [at2, dif_pos ⟨ha, hb⟩, rd, at2_idx X]
  simp [Nat.one_mul]

theorem at2_cast_rd3 {X : (⟨3, ![n0, n1, n2]⟩ : Shape).Idx → α} {off : Fin 3 → ℕ} (inb)
    (h : (⟨3, ![1, m1, m2]⟩ : Shape).ShapeCasts ⟨2, ![m1, m2]⟩) (a b : ℕ) (ha : a < m1) (hb : b < m2) :
    at2 (shapeCast ⟨2, ![m1, m2]⟩ (rd X (Rect.unit (s := ⟨3, ![n0, n1, n2]⟩) off ![1, m1, m2] inb).toLoadRect) h) a b
      = at3 X (off 0) (off 1 + a) (off 2 + b) := by
  rw [at2, dif_pos ⟨ha, hb⟩, shapeCast_apply _ h _ (ix3 0 ⟨a, ha⟩ ⟨b, hb⟩), rd, at3_idx X]
  · simp [Nat.one_mul]
  · rw [Shape.rowMajor_val_three, Shape.rowMajor_val_two]; simp

theorem at2_cast_rd4 {X : (⟨4, ![n0, n1, n2, n3]⟩ : Shape).Idx → α} {off : Fin 4 → ℕ} (inb)
    (h : (⟨4, ![1, 1, m1, m2]⟩ : Shape).ShapeCasts ⟨2, ![m1, m2]⟩) (a b : ℕ) (ha : a < m1) (hb : b < m2) :
    at2 (shapeCast ⟨2, ![m1, m2]⟩ (rd X (Rect.unit (s := ⟨4, ![n0, n1, n2, n3]⟩) off ![1, 1, m1, m2] inb).toLoadRect) h) a b
      = at4 X (off 0) (off 1) (off 2 + a) (off 3 + b) := by
  rw [at2, dif_pos ⟨ha, hb⟩, shapeCast_apply _ h _ (ix4 0 0 ⟨a, ha⟩ ⟨b, hb⟩), rd, at4_idx X]
  · simp [Nat.one_mul]
  · rw [Shape.rowMajor_val_four, Shape.rowMajor_val_two]; simp

/-! ### Stores -/

theorem putR_unit2 (X : (⟨2, ![n0, n1]⟩ : Shape).Idx → α) {off : Fin 2 → ℕ} (inb) (w : (⟨2, ![m0, m1]⟩ : Shape).Idx → α) (a b : ℕ) :
    at2 (putR X (Rect.unit (s := ⟨2, ![n0, n1]⟩) off ![m0, m1] inb) w) a b
      = if off 0 ≤ a ∧ a < off 0 + m0 ∧ off 1 ≤ b ∧ b < off 1 + m1 then at2 w (a - off 0) (b - off 1) else at2 X a b := by
  have i0 : off 0 + m0 ≤ n0 := inb 0
  have i1 : off 1 + m1 ≤ n1 := inb 1
  by_cases h : off 0 ≤ a ∧ a < off 0 + m0 ∧ off 1 ≤ b ∧ b < off 1 + m1
  · have h' := h
    obtain ⟨l0, u0, l1, u1⟩ := h'
    rw [if_pos h, at2, dif_pos (show a < n0 ∧ b < n1 by omega), at2, dif_pos (show a - off 0 < m0 ∧ b - off 1 < m1 by omega)]
    have e : (Rect.unit (s := ⟨2, ![n0, n1]⟩) off ![m0, m1] inb).emb (ix2 ⟨a - off 0, by omega⟩ ⟨b - off 1, by omega⟩)
        = ix2 ⟨a, by omega⟩ ⟨b, by omega⟩ := by
      funext k; apply Fin.ext
      match k with
      | ⟨0, _⟩ => show off 0 + 1 * (a - off 0) = a; omega
      | ⟨1, _⟩ => show off 1 + 1 * (b - off 1) = b; omega
    rw [← e, putR_emb]
  · rw [if_neg h]
    unfold at2
    split
    · refine putR_off _ _ _ _ fun j hj => h ?_
      have e0 : off 0 + 1 * (j 0).val = a := congrArg Fin.val (congrFun hj 0)
      have b0 : (j 0).val < m0 := (j 0).isLt
      have e1 : off 1 + 1 * (j 1).val = b := congrArg Fin.val (congrFun hj 1)
      have b1 : (j 1).val < m1 := (j 1).isLt
      omega
    · rfl

theorem putR_unit3 (X : (⟨3, ![n0, n1, n2]⟩ : Shape).Idx → α) {off : Fin 3 → ℕ} (inb) (w : (⟨3, ![m0, m1, m2]⟩ : Shape).Idx → α) (a b c : ℕ) :
    at3 (putR X (Rect.unit (s := ⟨3, ![n0, n1, n2]⟩) off ![m0, m1, m2] inb) w) a b c
      = if off 0 ≤ a ∧ a < off 0 + m0 ∧ off 1 ≤ b ∧ b < off 1 + m1 ∧ off 2 ≤ c ∧ c < off 2 + m2 then at3 w (a - off 0) (b - off 1) (c - off 2) else at3 X a b c := by
  have i0 : off 0 + m0 ≤ n0 := inb 0
  have i1 : off 1 + m1 ≤ n1 := inb 1
  have i2 : off 2 + m2 ≤ n2 := inb 2
  by_cases h : off 0 ≤ a ∧ a < off 0 + m0 ∧ off 1 ≤ b ∧ b < off 1 + m1 ∧ off 2 ≤ c ∧ c < off 2 + m2
  · have h' := h
    obtain ⟨l0, u0, l1, u1, l2, u2⟩ := h'
    rw [if_pos h, at3, dif_pos (show a < n0 ∧ b < n1 ∧ c < n2 by omega), at3, dif_pos (show a - off 0 < m0 ∧ b - off 1 < m1 ∧ c - off 2 < m2 by omega)]
    have e : (Rect.unit (s := ⟨3, ![n0, n1, n2]⟩) off ![m0, m1, m2] inb).emb (ix3 ⟨a - off 0, by omega⟩ ⟨b - off 1, by omega⟩ ⟨c - off 2, by omega⟩)
        = ix3 ⟨a, by omega⟩ ⟨b, by omega⟩ ⟨c, by omega⟩ := by
      funext k; apply Fin.ext
      match k with
      | ⟨0, _⟩ => show off 0 + 1 * (a - off 0) = a; omega
      | ⟨1, _⟩ => show off 1 + 1 * (b - off 1) = b; omega
      | ⟨2, _⟩ => show off 2 + 1 * (c - off 2) = c; omega
    rw [← e, putR_emb]
  · rw [if_neg h]
    unfold at3
    split
    · refine putR_off _ _ _ _ fun j hj => h ?_
      have e0 : off 0 + 1 * (j 0).val = a := congrArg Fin.val (congrFun hj 0)
      have b0 : (j 0).val < m0 := (j 0).isLt
      have e1 : off 1 + 1 * (j 1).val = b := congrArg Fin.val (congrFun hj 1)
      have b1 : (j 1).val < m1 := (j 1).isLt
      have e2 : off 2 + 1 * (j 2).val = c := congrArg Fin.val (congrFun hj 2)
      have b2 : (j 2).val < m2 := (j 2).isLt
      omega
    · rfl

theorem putR_unit4 (X : (⟨4, ![n0, n1, n2, n3]⟩ : Shape).Idx → α) {off : Fin 4 → ℕ} (inb) (w : (⟨4, ![m0, m1, m2, m3]⟩ : Shape).Idx → α) (a b c d : ℕ) :
    at4 (putR X (Rect.unit (s := ⟨4, ![n0, n1, n2, n3]⟩) off ![m0, m1, m2, m3] inb) w) a b c d
      = if off 0 ≤ a ∧ a < off 0 + m0 ∧ off 1 ≤ b ∧ b < off 1 + m1 ∧ off 2 ≤ c ∧ c < off 2 + m2 ∧ off 3 ≤ d ∧ d < off 3 + m3 then at4 w (a - off 0) (b - off 1) (c - off 2) (d - off 3) else at4 X a b c d := by
  have i0 : off 0 + m0 ≤ n0 := inb 0
  have i1 : off 1 + m1 ≤ n1 := inb 1
  have i2 : off 2 + m2 ≤ n2 := inb 2
  have i3 : off 3 + m3 ≤ n3 := inb 3
  by_cases h : off 0 ≤ a ∧ a < off 0 + m0 ∧ off 1 ≤ b ∧ b < off 1 + m1 ∧ off 2 ≤ c ∧ c < off 2 + m2 ∧ off 3 ≤ d ∧ d < off 3 + m3
  · have h' := h
    obtain ⟨l0, u0, l1, u1, l2, u2, l3, u3⟩ := h'
    rw [if_pos h, at4, dif_pos (show a < n0 ∧ b < n1 ∧ c < n2 ∧ d < n3 by omega), at4, dif_pos (show a - off 0 < m0 ∧ b - off 1 < m1 ∧ c - off 2 < m2 ∧ d - off 3 < m3 by omega)]
    have e : (Rect.unit (s := ⟨4, ![n0, n1, n2, n3]⟩) off ![m0, m1, m2, m3] inb).emb (ix4 ⟨a - off 0, by omega⟩ ⟨b - off 1, by omega⟩ ⟨c - off 2, by omega⟩ ⟨d - off 3, by omega⟩)
        = ix4 ⟨a, by omega⟩ ⟨b, by omega⟩ ⟨c, by omega⟩ ⟨d, by omega⟩ := by
      funext k; apply Fin.ext
      match k with
      | ⟨0, _⟩ => show off 0 + 1 * (a - off 0) = a; omega
      | ⟨1, _⟩ => show off 1 + 1 * (b - off 1) = b; omega
      | ⟨2, _⟩ => show off 2 + 1 * (c - off 2) = c; omega
      | ⟨3, _⟩ => show off 3 + 1 * (d - off 3) = d; omega
    rw [← e, putR_emb]
  · rw [if_neg h]
    unfold at4
    split
    · refine putR_off _ _ _ _ fun j hj => h ?_
      have e0 : off 0 + 1 * (j 0).val = a := congrArg Fin.val (congrFun hj 0)
      have b0 : (j 0).val < m0 := (j 0).isLt
      have e1 : off 1 + 1 * (j 1).val = b := congrArg Fin.val (congrFun hj 1)
      have b1 : (j 1).val < m1 := (j 1).isLt
      have e2 : off 2 + 1 * (j 2).val = c := congrArg Fin.val (congrFun hj 2)
      have b2 : (j 2).val < m2 := (j 2).isLt
      have e3 : off 3 + 1 * (j 3).val = d := congrArg Fin.val (congrFun hj 3)
      have b3 : (j 3).val < m3 := (j 3).isLt
      omega
    · rfl

end

end Cert.Fold

end
-- ==== Proof.Values.lean ====
/- The vector operations of the kernel over the extended reals, read at natural coordinates. -/
module

public import proofs.«01_k».proof.Proof.Coords
public import Idealize.ShloMosaic.Lib.MatmulPlain

@[expose] public section

noncomputable section

namespace Cert.Fold

open Idealize.ShloMosaic
open scoped BigOperators

section
variable {n0 n1 n2 n3 m1 m2 : ℕ} {φ : FTy}

theorem at2_addf (u v : FVec Ideal ⟨2, ![n0, n1]⟩ φ) (a b : ℕ) : at2 (addf u v) a b = at2 u a b + at2 v a b := by
  unfold at2; split
  · rfl
  · exact (add_zero (0 : EReal)).symm

theorem at2_subf (u v : FVec Ideal ⟨2, ![n0, n1]⟩ φ) (a b : ℕ) : at2 (subf u v) a b = at2 u a b - at2 v a b := by
  unfold at2; split
  · rfl
  · exact (sub_zero (0 : EReal)).symm

theorem at2_mulf (u v : FVec Ideal ⟨2, ![n0, n1]⟩ φ) (a b : ℕ) : at2 (mulf u v) a b = at2 u a b * at2 v a b := by
  unfold at2; split
  · rfl
  · exact (mul_zero (0 : EReal)).symm

theorem at2_maximumf (u v : FVec Ideal ⟨2, ![n0, n1]⟩ φ) (a b : ℕ) : at2 (maximumf u v) a b = max (at2 u a b) (at2 v a b) := by
  unfold at2; split
  · rfl
  · exact (max_self (0 : EReal)).symm

/-- The magnitude of an extended real. -/
def mag (x : EReal) : EReal := max x (-x)

theorem at2_absf (u : FVec Ideal ⟨2, ![n0, n1]⟩ φ) (a b : ℕ) : at2 (absf u) a b = mag (at2 u a b) := by
  unfold at2 mag; split
  · rfl
  · simp

section
variable {α : Type} [Zero α]

/-- A store of one row block of a rank-3 array. -/
theorem put3row (X : (⟨3, ![n0, n1, n2]⟩ : Shape).Idx → α) {off : Fin 3 → ℕ} (inb) (w : (⟨2, ![m1, m2]⟩ : Shape).Idx → α)
    (h : (⟨2, ![m1, m2]⟩ : Shape).ShapeCasts ⟨3, ![1, m1, m2]⟩) (a b c : ℕ) :
    at3 (putR X (Rect.unit (s := ⟨3, ![n0, n1, n2]⟩) off ![1, m1, m2] inb) (shapeCast ⟨3, ![1, m1, m2]⟩ w h)) a b c
      = if a = off 0 ∧ (off 1 ≤ b ∧ b < off 1 + m1) ∧ (off 2 ≤ c ∧ c < off 2 + m2) then at2 w (b - off 1) (c - off 2) else at3 X a b c := by
  rw [putR_unit3]
  by_cases hc : a = off 0 ∧ (off 1 ≤ b ∧ b < off 1 + m1) ∧ (off 2 ≤ c ∧ c < off 2 + m2)
  · rw [if_pos hc, if_pos (by omega), at3, dif_pos (by omega), at2, dif_pos (by omega)]
    refine shapeCast_apply _ h _ _ ?_
    rw [Shape.rowMajor_val_three, Shape.rowMajor_val_two]
    have : a - off 0 = 0 := by omega
    simp [this]
  · rw [if_neg hc, if_neg (by omega)]

/-- A store of one whole matrix of a rank-3 array. -/
theorem put3full (X : (⟨3, ![n0, n1, n2]⟩ : Shape).Idx → α) {i : ℕ} (inb) (w : (⟨2, ![n1, n2]⟩ : Shape).Idx → α)
    (h : (⟨2, ![n1, n2]⟩ : Shape).ShapeCasts ⟨3, ![1, n1, n2]⟩) (a b c : ℕ) (hb : b < n1) (hc : c < n2) :
    at3 (putR X (Rect.unit (s := ⟨3, ![n0, n1, n2]⟩) ![i, 0, 0] ![1, n1, n2] inb) (shapeCast ⟨3, ![1, n1, n2]⟩ w h)) a b c
      = if a = i then at2 w b c else at3 X a b c := by
  rw [put3row]
  refine if_congr ?_ rfl rfl
  simp [hb, hc]

/-- A store of one row block of a rank-4 array. -/
theorem put4row (X : (⟨4, ![n0, n1, n2, n3]⟩ : Shape).Idx → α) {off : Fin 4 → ℕ} (inb) (w : (⟨2, ![m1, m2]⟩ : Shape).Idx → α)
    (h : (⟨2, ![m1, m2]⟩ : Shape).ShapeCasts ⟨4, ![1, 1, m1, m2]⟩) (a b c d : ℕ) :
    at4 (putR X (Rect.unit (s := ⟨4, ![n0, n1, n2, n3]⟩) off ![1, 1, m1, m2] inb) (shapeCast ⟨4, ![1, 1, m1, m2]⟩ w h)) a b c d
      = if a = off 0 ∧ b = off 1 ∧ (off 2 ≤ c ∧ c < off 2 + m1) ∧ (off 3 ≤ d ∧ d < off 3 + m2) then at2 w (c - off 2) (d - off 3)
        else at4 X a b c d := by
  rw [putR_unit4]
  by_cases hc : a = off 0 ∧ b = off 1 ∧ (off 2 ≤ c ∧ c < off 2 + m1) ∧ (off 3 ≤ d ∧ d < off 3 + m2)
  · rw [if_pos hc, if_pos (by omega), at4, dif_pos (by omega), at2, dif_pos (by omega)]
    refine shapeCast_apply _ h _ _ ?_
    rw [Shape.rowMajor_val_four, Shape.rowMajor_val_two]
    have e0 : a - off 0 = 0 := by omega
    have e1 : b - off 1 = 0 := by omega
    simp [e0, e1]
  · rw [if_neg hc, if_neg (by omega)]

/-- The same, with the offsets by name. -/
theorem put4row' (X : (⟨4, ![n0, n1, n2, n3]⟩ : Shape).Idx → α) {o0 o1 o2 o3 : ℕ} (inb) (w : (⟨2, ![m1, m2]⟩ : Shape).Idx → α)
    (h : (⟨2, ![m1, m2]⟩ : Shape).ShapeCasts ⟨4, ![1, 1, m1, m2]⟩) (a b c d : ℕ) :
    at4 (putR X (Rect.unit (s := ⟨4, ![n0, n1, n2, n3]⟩) ![o0, o1, o2, o3] ![1, 1, m1, m2] inb) (shapeCast ⟨4, ![1, 1, m1, m2]⟩ w h)) a b c d
      = if a = o0 ∧ b = o1 ∧ (o2 ≤ c ∧ c < o2 + m1) ∧ (o3 ≤ d ∧ d < o3 + m2) then at2 w (c - o2) (d - o3) else at4 X a b c d :=
  put4row X inb w h a b c d

/-- The same of a rank-3 array. -/
theorem put3row' (X : (⟨3, ![n0, n1, n2]⟩ : Shape).Idx → α) {o0 o1 o2 : ℕ} (inb) (w : (⟨2, ![m1, m2]⟩ : Shape).Idx → α)
    (h : (⟨2, ![m1, m2]⟩ : Shape).ShapeCasts ⟨3, ![1, m1, m2]⟩) (a b c : ℕ) :
    at3 (putR X (Rect.unit (s := ⟨3, ![n0, n1, n2]⟩) ![o0, o1, o2] ![1, m1, m2] inb) (shapeCast ⟨3, ![1, m1, m2]⟩ w h)) a b c
      = if a = o0 ∧ (o1 ≤ b ∧ b < o1 + m1) ∧ (o2 ≤ c ∧ c < o2 + m2) then at2 w (b - o1) (c - o2) else at3 X a b c :=
  put3row X inb w h a b c

/-- A reshape that joins the first two axes of a rank-3 vector, itself a rank-5 load with two unit axes. -/
theorem at2_cast_rd5 {X : (⟨5, ![1, n0, n1, n2, n3]⟩ : Shape).Idx → α} {off : Fin 5 → ℕ} {p q s pq : ℕ}
    (inb : ∀ a : Fin 5, off a + ![1, p, 1, q, s] a ≤ ![1, n0, n1, n2, n3] a)
    (h : (⟨5, ![1, p, 1, q, s]⟩ : Shape).ShapeCasts ⟨3, ![p, q, s]⟩) (h' : (⟨3, ![p, q, s]⟩ : Shape).ShapeCasts ⟨2, ![pq, s]⟩)
    (hpq : pq = p * q) (a b : ℕ) (ha : a < pq) (hb : b < s) :
    at2 (shapeCast ⟨2, ![pq, s]⟩ (shapeCast ⟨3, ![p, q, s]⟩
        (rd X (Rect.unit (s := ⟨5, ![1, n0, n1, n2, n3]⟩) off ![1, p, 1, q, s] inb).toLoadRect) h) h') a b
      = at5 X (off 0) (off 1 + a / q) (off 2) (off 3 + a % q) (off 4 + b) := by
  subst hpq
  have hq : 0 < q := by rcases Nat.eq_zero_or_pos q with rfl | h0; simp at ha; exact h0
  have h1 : a / q < p := Nat.div_lt_of_lt_mul (by rw [Nat.mul_comm]; exact ha)
  have h2 : a % q < q := Nat.mod_lt _ hq
  rw [at2, dif_pos ⟨ha, hb⟩, shapeCast_apply _ h' _ (ix3 ⟨a / q, h1⟩ ⟨a % q, h2⟩ ⟨b, hb⟩),
    shapeCast_apply _ h _ (ix5 0 ⟨a / q, h1⟩ 0 ⟨a % q, h2⟩ ⟨b, hb⟩), rd, at5_idx X]
  · simp [Nat.one_mul]
  · rw [Shape.rowMajor_val_five, Shape.rowMajor_val_three]; simp
  · rw [Shape.rowMajor_val_three, Shape.rowMajor_val_two]; simp [Nat.div_add_mod']

/-- The same of a rank-4 load with one unit axis. -/
theorem at2_cast_rd4' {X : (⟨4, ![n0, n1, n2, n3]⟩ : Shape).Idx → α} {off : Fin 4 → ℕ} {p q s pq : ℕ}
    (inb : ∀ a : Fin 4, off a + ![p, 1, q, s] a ≤ ![n0, n1, n2, n3] a)
    (h : (⟨4, ![p, 1, q, s]⟩ : Shape).ShapeCasts ⟨3, ![p, q, s]⟩) (h' : (⟨3, ![p, q, s]⟩ : Shape).ShapeCasts ⟨2, ![pq, s]⟩)
    (hpq : pq = p * q) (a b : ℕ) (ha : a < pq) (hb : b < s) :
    at2 (shapeCast ⟨2, ![pq, s]⟩ (shapeCast ⟨3, ![p, q, s]⟩
        (rd X (Rect.unit (s := ⟨4, ![n0, n1, n2, n3]⟩) off ![p, 1, q, s] inb).toLoadRect) h) h') a b
      = at4 X (off 0 + a / q) (off 1) (off 2 + a % q) (off 3 + b) := by
  subst hpq
  have hq : 0 < q := by rcases Nat.eq_zero_or_pos q with rfl | h0; simp at ha; exact h0
  have h1 : a / q < p := Nat.div_lt_of_lt_mul (by rw [Nat.mul_comm]; exact ha)
  have h2 : a % q < q := Nat.mod_lt _ hq
  rw [at2, dif_pos ⟨ha, hb⟩, shapeCast_apply _ h' _ (ix3 ⟨a / q, h1⟩ ⟨a % q, h2⟩ ⟨b, hb⟩),
    shapeCast_apply _ h _ (ix4 ⟨a / q, h1⟩ 0 ⟨a % q, h2⟩ ⟨b, hb⟩), rd, at4_idx X]
  · simp [Nat.one_mul]
  · rw [Shape.rowMajor_val_four, Shape.rowMajor_val_three]; simp
  · rw [Shape.rowMajor_val_three, Shape.rowMajor_val_two]; simp [Nat.div_add_mod']

end

end

/-! ### A product with two blocks of columns -/

section Mm
variable {M K N : ℕ} {φ₁ φ₂ : FTy}

theorem at2_matmul (prec : Option ContractPrecision) (lhs : FVec Ideal ⟨2, ![M, K]⟩ φ₁) (rhs : FVec Ideal ⟨2, ![K, N]⟩ φ₂)
    (a b : ℕ) (ha : a < M) (hb : b < N) :
    at2 (FloatOps.matmul (DotDims.plain M K N) prec lhs rhs (constant ⟨2, ![M, N]⟩ .f32 0x00000000#32)) a b
      = ∑ k ∈ Finset.range K, at2 lhs a k * at2 rhs k b := by
  rw [at2, dif_pos ⟨ha, hb⟩]
  refine (Ideal.matmul_plain_apply prec lhs rhs _ ⟨a, ha⟩ ⟨b, hb⟩).trans ?_
  refine (congrArg₂ (· + ·) (show constant (F := Ideal) ⟨2, ![M, N]⟩ .f32 0x00000000#32 _ = (0 : EReal) from Ideal.ofBits_zero_f32) rfl).trans ?_
  rw [zero_add, Finset.sum_range]
  exact Finset.sum_congr rfl fun k _ => congrArg₂ (· * ·) (at2_ix lhs ⟨a, ha⟩ k) (at2_ix rhs k ⟨b, hb⟩)

theorem at2_slice {α : Type} [Zero α] {n0 n1 m0 m1 : ℕ} (X : (⟨2, ![n0, n1]⟩ : Shape).Idx → α) (o1 : ℕ)
    (h : (⟨2, ![n0, n1]⟩ : Shape).Slices ![0, o1] ⟨2, ![m0, m1]⟩) (a b : ℕ) (ha : a < m0) (hb : b < m1) :
    at2 (extractStridedSlice ⟨2, ![m0, m1]⟩ ![0, o1] X h) a b = at2 X a (o1 + b) := by
  rw [at2, dif_pos ⟨ha, hb⟩, Pointwise.extractStridedSlice_apply, Shape.Idx.norm_def, at2_idx X]
  simp

end Mm

end Cert.Fold

end
-- ==== Proof.Butterfly.lean ====
/- The butterfly of a sequence of extended reals, as the kernel performs it, stage by stage. -/
module

public import Mathlib.Data.EReal.Operations

@[expose] public section

noncomputable section

namespace Cert.Fold

/-- One stage: of the entries `i` and `i + 2^t`, whose indices differ in bit `t`, the sum and the difference. -/
def stg (t : ℕ) (f : ℕ → EReal) (i : ℕ) : EReal :=
  if i / 2 ^ t % 2 = 1 then f (i - 2 ^ t) - f i else f i + f (i + 2 ^ t)

/-- The first `n` stages. -/
def bfly : ℕ → (ℕ → EReal) → ℕ → EReal
  | 0, f => f
  | n + 1, f => stg n (bfly n f)

/-- No stage leaves the sequence alone. -/
theorem bfly_zero (f : ℕ → EReal) (i : ℕ) : bfly 0 f i = f i := rfl
/-- A stage at an index whose new bit is set: the difference of the pair. -/
theorem bfly_hi (n : ℕ) (f : ℕ → EReal) (i : ℕ) (h : i / 2 ^ n % 2 = 1) : bfly (n + 1) f i = bfly n f (i - 2 ^ n) - bfly n f i := if_pos h
/-- A stage at an index whose new bit is clear: the sum of the pair. -/
theorem bfly_lo (n : ℕ) (f : ℕ → EReal) (i : ℕ) (h : i / 2 ^ n % 2 = 0) : bfly (n + 1) f i = bfly n f i + bfly n f (i + 2 ^ n) :=
  if_neg (by omega)

/-- In a range of whole blocks of `2 P`, the partner of an index whose bit `P` is clear lies in the range. -/
theorem partner_lt {P m i : ℕ} (hP : 0 < P) (h0 : i / P % 2 = 0) (hi : i < P * 2 * m) : i + P < P * 2 * m := by
  have e := Nat.div_add_mod i P
  have e2 := Nat.mod_lt i hP
  obtain ⟨q, hq⟩ : ∃ q, i / P = 2 * q := ⟨i / P / 2, by omega⟩
  rw [hq] at e
  have hqm : q < m := by
    by_contra hc
    have : P * 2 * m ≤ P * 2 * q := Nat.mul_le_mul_left _ (by omega)
    have : P * (2 * q) = P * 2 * q := by ring
    omega
  have h1 : P * 2 * (q + 1) ≤ P * 2 * m := Nat.mul_le_mul_left _ (by omega)
  have h2 : P * 2 * (q + 1) = P * (2 * q) + P + P := by ring
  omega

/-- The first `n` stages stay within an aligned range. -/
theorem bfly_congr (n N : ℕ) (hN : 2 ^ n ∣ N) {f g : ℕ → EReal} (h : ∀ j < N, f j = g j) : ∀ i < N, bfly n f i = bfly n g i := by
  induction n with
  | zero => exact h
  | succ n ih =>
    have ih := ih (dvd_trans (pow_dvd_pow 2 (Nat.le_succ n)) hN)
    intro i hi
    rcases Nat.mod_two_eq_zero_or_one (i / 2 ^ n) with h0 | h1
    · have hlt : i + 2 ^ n < N := by
        obtain ⟨m, rfl⟩ := hN
        rw [pow_succ] at *
        exact partner_lt (by positivity) h0 hi
      rw [bfly_lo n f i h0, bfly_lo n g i h0, ih i hi, ih _ hlt]
    · rw [bfly_hi n f i h1, bfly_hi n g i h1, ih i hi, ih _ (lt_of_le_of_lt (Nat.sub_le _ _) hi)]

end Cert.Fold

end
-- ==== Proof.Runs.lean ====
/- A weakest-precondition calculus over a program's buffers as plain values: `Runs own s p Q` says that from the buffers at the
   contents `s` the program runs to a return whose value and contents satisfy `Q`. -/
module

public import proofs.«01_k».proof.Proof.Triple

@[expose] public section

noncomputable section

namespace Cert.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Runs
variable {nD : Nat} {τ : Topo} {sig : RefSig} {Ix : Type} [DecidableEq Ix]
variable {Val : EltTy → Type} {Name : Type} [DecidableEq Name]
variable {U : Type} [URA U]
variable {Lvl : Type} [Preorder Lvl] {Λ : Labels}

variable (defs : Defs nD τ sig Val Λ) (c : Thread nD τ) {σ : Type} (own : σ → sProp (MT nD τ sig Ix Val Name U Lvl))

/-- From the contents `s` the program returns, with a value and contents that satisfy `Q`. -/
def Runs {α : Type} (s : σ) (p : Prog (TpuEff nD τ sig Val Λ c.2) α) (Q : α → σ → Prop) : Prop :=
  own s ⊢ wp frame (wpE defs Variants.none c none) Set.univ p (fun a => iprop(∃ s', ⌜Q a s'⌝ ∗ own s'))

variable {defs} {c} {own}

theorem Runs.pure {α : Type} {s : σ} {a : α} {Q : α → σ → Prop} (h : Q a s) : Runs defs c own s (Pure.pure a) Q := by
  unfold Runs; rw [wp_pure]; iintro H; imodintro; iexists s; isplitr
  · ipureintro; exact h
  · iexact H

theorem Runs.mono {α : Type} {s : σ} {p : Prog (TpuEff nD τ sig Val Λ c.2) α} {Q Q' : α → σ → Prop}
    (h : Runs defs c own s p Q) (hQ : ∀ a s', Q a s' → Q' a s') : Runs defs c own s p Q' := by
  unfold Runs at *
  refine h.trans (wp_mono _ _ _ fun a => ?_)
  iintro ⟨%s', %hq, H⟩
  iexists s'; isplitr
  · ipureintro; exact hQ _ _ hq
  · iexact H

theorem Runs.bind {α β : Type} {s : σ} {p : Prog (TpuEff nD τ sig Val Λ c.2) α} {k : α → Prog (TpuEff nD τ sig Val Λ c.2) β}
    {Q : β → σ → Prop} (h : Runs defs c own s p (fun a s' => Runs defs c own s' (k a) Q)) : Runs defs c own s (p >>= k) Q := by
  unfold Runs at *; rw [wp_bind]
  refine h.trans (wp_mono _ _ _ fun a => ?_)
  iintro ⟨%s', %hq, H⟩
  iapply (show own s' ⊢ _ from hq); iexact H

/-- A load, where the contents hold the memref's values at `X`. -/
theorem Runs.load {sp : CoreSpace} {s : Shape} {e : EltTy} {st : σ} {m : Memref sig c.2.kind sp s e} {X : s.Idx → Val e}
    {r : LoadRect s} {hl : m.view.LoadsAt r} {Q : (r.shape.Idx → Val e) → σ → Prop}
    (hP : own st ⊢ iprop(owns c m fullShare X ∗ (owns c m fullShare X -∗ own st)))
    (h : Q (fun j => X (r.idx j)) st) :
    Runs defs c own st (Prog.lift (.load m r hl)) Q := by
  unfold Runs
  refine (show own st ⊢ _ from Tr.load hP).trans (wp_mono _ _ _ fun a => ?_)
  iintro ⟨%hq, H⟩
  iexists st; isplitr
  · ipureintro; subst hq; exact h
  · iexact H

/-- An unmasked store, where the contents hold the memref's values at `X` and `set` replaces them. -/
theorem Runs.store {sp : CoreSpace} {s : Shape} {e : EltTy} {st : σ} {set : (s.Idx → Val e) → σ}
    {m : Memref sig c.2.kind sp s e} {X : s.Idx → Val e}
    {r : Rect s} {w : r.shape.Idx → Val e} {hx : (m.access r).Stores Finset.univ} {hm : Finset.univ = Finset.univ ∨ ∀ a, r.stride a = 1}
    {Q : PUnit → σ → Prop}
    (hP : own st ⊢ iprop(owns c m fullShare X ∗ (∀ Y, owns c m fullShare Y -∗ own (set Y))))
    (h : Q ⟨⟩ (set (putR X r w))) :
    Runs defs c own st (Prog.lift (.store m r w Finset.univ hx hm)) Q := by
  unfold Runs
  refine (show own st ⊢ _ from Tr.store (P' := fun Y => own (set Y)) hP).trans (wp_mono _ _ _ fun a => ?_)
  iintro ⟨-, H⟩
  iexists (set (putR X r w)); isplitr
  · ipureintro; exact h
  · iexact H

/-- A counted loop, by an invariant of the trips done, the carried value and the contents. -/
theorem Runs.loop {w : ℕ} {γ : Type} {lb ub st : BitVec w} {hok : Scf.OK lb ub st} {init : γ} {s : σ}
    {body : Fin (Scf.trips lb ub st) → γ → Prog (TpuEff nD τ sig Val Λ c.2) γ} {Q : γ → σ → Prop}
    (I : ℕ → γ → σ → Prop) (h0 : I 0 init s)
    (h : ∀ (k : Fin (Scf.trips lb ub st)) (acc : γ) (s : σ), I k acc s → Runs defs c own s (body k acc) (I (k + 1)))
    (hQ : ∀ acc s, I (Scf.trips lb ub st) acc s → Q acc s) :
    Runs defs c own s (Scf.for lb ub st hok init body) Q := by
  unfold Runs at *
  iintro H
  iapply (Scf.wp_for frame (wpE defs Variants.none c none) Set.univ lb ub st hok init body
    (fun k acc => iprop(∃ s', ⌜I k acc s'⌝ ∗ own s'))
    (fun k acc => by
      iintro ⟨%s', %e, H⟩
      iapply (show own s' ⊢ _ from h k acc s' e); iexact H))
  isplitl [H]
  · iexists s; isplitr
    · ipureintro; exact h0
    · iexact H
  · iintro %acc ⟨%s', %e, H⟩
    iexists s'; isplitr
    · ipureintro; exact hQ _ _ e
    · iexact H

end Runs

end Cert.Fold

end
-- ==== Proof.KernelIdealSteps.lean ====
/- The kernel body's fourteen buffers as plain contents, and the rule of a load from and a store to each. -/
module

public import proofs.«01_k».proof.KernelIdeal
public import proofs.«01_k».proof.Proof.Gen.KernelIdeal
public import proofs.«01_k».proof.Proof.Gen.KernelIdeal.Frame
public import Idealize.ShloMosaic.PureOps.Ideal
public import proofs.«01_k».proof.Proof.Runs
public import proofs.«01_k».proof.Proof.Coords

@[expose] public section

set_option maxRecDepth 16384

noncomputable section

namespace Cert.KernelIdeal.Hand

open Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What the body's buffers hold: the three inputs, the two results, and the scratch. -/
structure St where
  /-- The Hadamard block. -/
  h : S256x256.Idx → Elt Ideal .bf16
  /-- The signs. -/
  sg : S256x8x16x128.Idx → Elt Ideal .bf16
  /-- The column block of the argument. -/
  x : S1x256x8x16x128.Idx → Elt Ideal .bf16
  /-- The codes written. -/
  o : S1x128x16384.Idx → Elt Ideal .i8
  /-- The scales written. -/
  q : S1x128x256.Idx → Elt Ideal .f32
  /-- The transform over the inner index and over `ih`. -/
  p : S8x32x128x128.Idx → Elt Ideal .f32
  /-- The products of an even `c`. -/
  d0 : S16x256x128.Idx → Elt Ideal .f32
  /-- The products of an odd `c`. -/
  d1 : S16x256x128.Idx → Elt Ideal .f32
  /-- An even tile after the transform over `c`. -/
  v0 : S8x128x128.Idx → Elt Ideal .f32
  /-- An odd tile after the transform over `c`. -/
  v1 : S8x128x128.Idx → Elt Ideal .f32
  /-- An even tile's code words. -/
  w0 : S136x128.Idx → Elt Ideal .i32
  /-- An odd tile's code words. -/
  w1 : S136x128.Idx → Elt Ideal .i32
  /-- The two tiles' reciprocals. -/
  r : S2x8x128.Idx → Elt Ideal .f32
  /-- The scales. -/
  sc : S256x128.Idx → Elt Ideal .f32

variable (arg2 : Memref sig .tc .vmem S256x256 .bf16)
variable (arg3 : Memref sig .tc .vmem S256x8x16x128 .bf16)
variable (arg4 : Memref sig .tc .vmem S1x256x8x16x128 .bf16)
variable (arg5 : Memref sig .tc .vmem S1x128x16384 .i8)
variable (arg6 : Memref sig .tc .vmem S1x128x256 .f32)
variable (arg7 : Memref sig .tc .vmem S8x32x128x128 .f32)
variable (arg8 : Memref sig .tc .vmem S16x256x128 .f32)
variable (arg9 : Memref sig .tc .vmem S16x256x128 .f32)
variable (arg10 : Memref sig .tc .vmem S8x128x128 .f32)
variable (arg11 : Memref sig .tc .vmem S8x128x128 .f32)
variable (arg12 : Memref sig .tc .vmem S136x128 .i32)
variable (arg13 : Memref sig .tc .vmem S136x128 .i32)
variable (arg14 : Memref sig .tc .vmem S2x8x128 .f32)
variable (arg15 : Memref sig .tc .vmem S256x128 .f32)
variable (c : Dev nD)

/-- The ownership of the fourteen buffers at given contents. -/
def ownSt (s : St) : sProp (MT nD τ sig Unit (Elt Ideal) ℕ (UR sig nD τ) ℕ) :=
  iprop(owns (c : Thread nD τ) arg2 fullShare s.h
    ∗ owns (c : Thread nD τ) arg3 fullShare s.sg
    ∗ owns (c : Thread nD τ) arg4 fullShare s.x
    ∗ owns (c : Thread nD τ) arg5 fullShare s.o
    ∗ owns (c : Thread nD τ) arg6 fullShare s.q
    ∗ owns (c : Thread nD τ) arg7 fullShare s.p
    ∗ owns (c : Thread nD τ) arg8 fullShare s.d0
    ∗ owns (c : Thread nD τ) arg9 fullShare s.d1
    ∗ owns (c : Thread nD τ) arg10 fullShare s.v0
    ∗ owns (c : Thread nD τ) arg11 fullShare s.v1
    ∗ owns (c : Thread nD τ) arg12 fullShare s.w0
    ∗ owns (c : Thread nD τ) arg13 fullShare s.w1
    ∗ owns (c : Thread nD τ) arg14 fullShare s.r
    ∗ owns (c : Thread nD τ) arg15 fullShare s.sc)

variable {arg2 arg3 arg4 arg5 arg6 arg7 arg8 arg9 arg10 arg11 arg12 arg13 arg14 arg15} {c}

variable {h : S256x256.Idx → Elt Ideal .bf16}
variable {sg : S256x8x16x128.Idx → Elt Ideal .bf16}
variable {x : S1x256x8x16x128.Idx → Elt Ideal .bf16}
variable {o : S1x128x16384.Idx → Elt Ideal .i8}
variable {q : S1x128x256.Idx → Elt Ideal .f32}
variable {p : S8x32x128x128.Idx → Elt Ideal .f32}
variable {d0 : S16x256x128.Idx → Elt Ideal .f32}
variable {d1 : S16x256x128.Idx → Elt Ideal .f32}
variable {v0 : S8x128x128.Idx → Elt Ideal .f32}
variable {v1 : S8x128x128.Idx → Elt Ideal .f32}
variable {w0 : S136x128.Idx → Elt Ideal .i32}
variable {w1 : S136x128.Idx → Elt Ideal .i32}
variable {r : S2x8x128.Idx → Elt Ideal .f32}
variable {sc : S256x128.Idx → Elt Ideal .f32}

theorem ld2 {r' : LoadRect S256x256} {hl : arg2.view.LoadsAt r'} {Q : (r'.shape.Idx → Elt Ideal .bf16) → St → Prop}
    (hQ : Q (rd h r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg2 r' hl)) Q := by
  refine Runs.load (X := h) ?_ hQ
  unfold ownSt
  iintro ⟨H2, H3, H4, H5, H6, H7, H8, H9, H10, H11, H12, H13, H14, H15⟩
  isplitl [H2]
  · iexact H2
  · iintro H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld3 {r' : LoadRect S256x8x16x128} {hl : arg3.view.LoadsAt r'} {Q : (r'.shape.Idx → Elt Ideal .bf16) → St → Prop}
    (hQ : Q (rd sg r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg3 r' hl)) Q := by
  refine Runs.load (X := sg) ?_ hQ
  unfold ownSt
  iintro ⟨H2, H3, H4, H5, H6, H7, H8, H9, H10, H11, H12, H13, H14, H15⟩
  isplitl [H3]
  · iexact H3
  · iintro H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld4 {r' : LoadRect S1x256x8x16x128} {hl : arg4.view.LoadsAt r'} {Q : (r'.shape.Idx → Elt Ideal .bf16) → St → Prop}
    (hQ : Q (rd x r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg4 r' hl)) Q := by
  refine Runs.load (X := x) ?_ hQ
  unfold ownSt
  iintro ⟨H2, H3, H4, H5, H6, H7, H8, H9, H10, H11, H12, H13, H14, H15⟩
  isplitl [H4]
  · iexact H4
  · iintro H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld5 {r' : LoadRect S1x128x16384} {hl : arg5.view.LoadsAt r'} {Q : (r'.shape.Idx → Elt Ideal .i8) → St → Prop}
    (hQ : Q (rd o r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg5 r' hl)) Q := by
  refine Runs.load (X := o) ?_ hQ
  unfold ownSt
  iintro ⟨H2, H3, H4, H5, H6, H7, H8, H9, H10, H11, H12, H13, H14, H15⟩
  isplitl [H5]
  · iexact H5
  · iintro H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st5 {r' : Rect S1x128x16384} {w : r'.shape.Idx → Elt Ideal .i8} {hx : (arg5.access r').Stores Finset.univ}
    {hm : Finset.univ = Finset.univ ∨ ∀ a, r'.stride a = 1} {Q : PUnit → St → Prop}
    (hQ : Q ⟨⟩ ⟨h, sg, x, (putR o r' w), q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg5 r' w Finset.univ hx hm)) Q := by
  refine Runs.store (X := o) (set := fun Y => ⟨h, sg, x, Y, q, p, d0, d1, v0, v1, w0, w1, r, sc⟩) ?_ hQ
  unfold ownSt
  iintro ⟨H2, H3, H4, H5, H6, H7, H8, H9, H10, H11, H12, H13, H14, H15⟩
  isplitl [H5]
  · iexact H5
  · iintro %Y H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld6 {r' : LoadRect S1x128x256} {hl : arg6.view.LoadsAt r'} {Q : (r'.shape.Idx → Elt Ideal .f32) → St → Prop}
    (hQ : Q (rd q r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg6 r' hl)) Q := by
  refine Runs.load (X := q) ?_ hQ
  unfold ownSt
  iintro ⟨H2, H3, H4, H5, H6, H7, H8, H9, H10, H11, H12, H13, H14, H15⟩
  isplitl [H6]
  · iexact H6
  · iintro H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st6 {r' : Rect S1x128x256} {w : r'.shape.Idx → Elt Ideal .f32} {hx : (arg6.access r').Stores Finset.univ}
    {hm : Finset.univ = Finset.univ ∨ ∀ a, r'.stride a = 1} {Q : PUnit → St → Prop}
    (hQ : Q ⟨⟩ ⟨h, sg, x, o, (putR q r' w), p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg6 r' w Finset.univ hx hm)) Q := by
  refine Runs.store (X := q) (set := fun Y => ⟨h, sg, x, o, Y, p, d0, d1, v0, v1, w0, w1, r, sc⟩) ?_ hQ
  unfold ownSt
  iintro ⟨H2, H3, H4, H5, H6, H7, H8, H9, H10, H11, H12, H13, H14, H15⟩
  isplitl [H6]
  · iexact H6
  · iintro %Y H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld7 {r' : LoadRect S8x32x128x128} {hl : arg7.view.LoadsAt r'} {Q : (r'.shape.Idx → Elt Ideal .f32) → St → Prop}
    (hQ : Q (rd p r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg7 r' hl)) Q := by
  refine Runs.load (X := p) ?_ hQ
  unfold ownSt
  iintro ⟨H2, H3, H4, H5, H6, H7, H8, H9, H10, H11, H12, H13, H14, H15⟩
  isplitl [H7]
  · iexact H7
  · iintro H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st7 {r' : Rect S8x32x128x128} {w : r'.shape.Idx → Elt Ideal .f32} {hx : (arg7.access r').Stores Finset.univ}
    {hm : Finset.univ = Finset.univ ∨ ∀ a, r'.stride a = 1} {Q : PUnit → St → Prop}
    (hQ : Q ⟨⟩ ⟨h, sg, x, o, q, (putR p r' w), d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg7 r' w Finset.univ hx hm)) Q := by
  refine Runs.store (X := p) (set := fun Y => ⟨h, sg, x, o, q, Y, d0, d1, v0, v1, w0, w1, r, sc⟩) ?_ hQ
  unfold ownSt
  iintro ⟨H2, H3, H4, H5, H6, H7, H8, H9, H10, H11, H12, H13, H14, H15⟩
  isplitl [H7]
  · iexact H7
  · iintro %Y H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld8 {r' : LoadRect S16x256x128} {hl : arg8.view.LoadsAt r'} {Q : (r'.shape.Idx → Elt Ideal .f32) → St → Prop}
    (hQ : Q (rd d0 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg8 r' hl)) Q := by
  refine Runs.load (X := d0) ?_ hQ
  unfold ownSt
  iintro ⟨H2, H3, H4, H5, H6, H7, H8, H9, H10, H11, H12, H13, H14, H15⟩
  isplitl [H8]
  · iexact H8
  · iintro H8
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st8 {r' : Rect S16x256x128} {w : r'.shape.Idx → Elt Ideal .f32} {hx : (arg8.access r').Stores Finset.univ}
    {hm : Finset.univ = Finset.univ ∨ ∀ a, r'.stride a = 1} {Q : PUnit → St → Prop}
    (hQ : Q ⟨⟩ ⟨h, sg, x, o, q, p, (putR d0 r' w), d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg8 r' w Finset.univ hx hm)) Q := by
  refine Runs.store (X := d0) (set := fun Y => ⟨h, sg, x, o, q, p, Y, d1, v0, v1, w0, w1, r, sc⟩) ?_ hQ
  unfold ownSt
  iintro ⟨H2, H3, H4, H5, H6, H7, H8, H9, H10, H11, H12, H13, H14, H15⟩
  isplitl [H8]
  · iexact H8
  · iintro %Y H8
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld9 {r' : LoadRect S16x256x128} {hl : arg9.view.LoadsAt r'} {Q : (r'.shape.Idx → Elt Ideal .f32) → St → Prop}
    (hQ : Q (rd d1 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg9 r' hl)) Q := by
  refine Runs.load (X := d1) ?_ hQ
  unfold ownSt
  iintro ⟨H2, H3, H4, H5, H6, H7, H8, H9, H10, H11, H12, H13, H14, H15⟩
  isplitl [H9]
  · iexact H9
  · iintro H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st9 {r' : Rect S16x256x128} {w : r'.shape.Idx → Elt Ideal .f32} {hx : (arg9.access r').Stores Finset.univ}
    {hm : Finset.univ = Finset.univ ∨ ∀ a, r'.stride a = 1} {Q : PUnit → St → Prop}
    (hQ : Q ⟨⟩ ⟨h, sg, x, o, q, p, d0, (putR d1 r' w), v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg9 r' w Finset.univ hx hm)) Q := by
  refine Runs.store (X := d1) (set := fun Y => ⟨h, sg, x, o, q, p, d0, Y, v0, v1, w0, w1, r, sc⟩) ?_ hQ
  unfold ownSt
  iintro ⟨H2, H3, H4, H5, H6, H7, H8, H9, H10, H11, H12, H13, H14, H15⟩
  isplitl [H9]
  · iexact H9
  · iintro %Y H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld10 {r' : LoadRect S8x128x128} {hl : arg10.view.LoadsAt r'} {Q : (r'.shape.Idx → Elt Ideal .f32) → St → Prop}
    (hQ : Q (rd v0 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg10 r' hl)) Q := by
  refine Runs.load (X := v0) ?_ hQ
  unfold ownSt
  iintro ⟨H2, H3, H4, H5, H6, H7, H8, H9, H10, H11, H12, H13, H14, H15⟩
  isplitl [H10]
  · iexact H10
  · iintro H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st10 {r' : Rect S8x128x128} {w : r'.shape.Idx → Elt Ideal .f32} {hx : (arg10.access r').Stores Finset.univ}
    {hm : Finset.univ = Finset.univ ∨ ∀ a, r'.stride a = 1} {Q : PUnit → St → Prop}
    (hQ : Q ⟨⟩ ⟨h, sg, x, o, q, p, d0, d1, (putR v0 r' w), v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg10 r' w Finset.univ hx hm)) Q := by
  refine Runs.store (X := v0) (set := fun Y => ⟨h, sg, x, o, q, p, d0, d1, Y, v1, w0, w1, r, sc⟩) ?_ hQ
  unfold ownSt
  iintro ⟨H2, H3, H4, H5, H6, H7, H8, H9, H10, H11, H12, H13, H14, H15⟩
  isplitl [H10]
  · iexact H10
  · iintro %Y H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld11 {r' : LoadRect S8x128x128} {hl : arg11.view.LoadsAt r'} {Q : (r'.shape.Idx → Elt Ideal .f32) → St → Prop}
    (hQ : Q (rd v1 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg11 r' hl)) Q := by
  refine Runs.load (X := v1) ?_ hQ
  unfold ownSt
  iintro ⟨H2, H3, H4, H5, H6, H7, H8, H9, H10, H11, H12, H13, H14, H15⟩
  isplitl [H11]
  · iexact H11
  · iintro H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st11 {r' : Rect S8x128x128} {w : r'.shape.Idx → Elt Ideal .f32} {hx : (arg11.access r').Stores Finset.univ}
    {hm : Finset.univ = Finset.univ ∨ ∀ a, r'.stride a = 1} {Q : PUnit → St → Prop}
    (hQ : Q ⟨⟩ ⟨h, sg, x, o, q, p, d0, d1, v0, (putR v1 r' w), w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg11 r' w Finset.univ hx hm)) Q := by
  refine Runs.store (X := v1) (set := fun Y => ⟨h, sg, x, o, q, p, d0, d1, v0, Y, w0, w1, r, sc⟩) ?_ hQ
  unfold ownSt
  iintro ⟨H2, H3, H4, H5, H6, H7, H8, H9, H10, H11, H12, H13, H14, H15⟩
  isplitl [H11]
  · iexact H11
  · iintro %Y H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld12 {r' : LoadRect S136x128} {hl : arg12.view.LoadsAt r'} {Q : (r'.shape.Idx → Elt Ideal .i32) → St → Prop}
    (hQ : Q (rd w0 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg12 r' hl)) Q := by
  refine Runs.load (X := w0) ?_ hQ
  unfold ownSt
  iintro ⟨H2, H3, H4, H5, H6, H7, H8, H9, H10, H11, H12, H13, H14, H15⟩
  isplitl [H12]
  · iexact H12
  · iintro H12
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st12 {r' : Rect S136x128} {w : r'.shape.Idx → Elt Ideal .i32} {hx : (arg12.access r').Stores Finset.univ}
    {hm : Finset.univ = Finset.univ ∨ ∀ a, r'.stride a = 1} {Q : PUnit → St → Prop}
    (hQ : Q ⟨⟩ ⟨h, sg, x, o, q, p, d0, d1, v0, v1, (putR w0 r' w), w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg12 r' w Finset.univ hx hm)) Q := by
  refine Runs.store (X := w0) (set := fun Y => ⟨h, sg, x, o, q, p, d0, d1, v0, v1, Y, w1, r, sc⟩) ?_ hQ
  unfold ownSt
  iintro ⟨H2, H3, H4, H5, H6, H7, H8, H9, H10, H11, H12, H13, H14, H15⟩
  isplitl [H12]
  · iexact H12
  · iintro %Y H12
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld13 {r' : LoadRect S136x128} {hl : arg13.view.LoadsAt r'} {Q : (r'.shape.Idx → Elt Ideal .i32) → St → Prop}
    (hQ : Q (rd w1 r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg13 r' hl)) Q := by
  refine Runs.load (X := w1) ?_ hQ
  unfold ownSt
  iintro ⟨H2, H3, H4, H5, H6, H7, H8, H9, H10, H11, H12, H13, H14, H15⟩
  isplitl [H13]
  · iexact H13
  · iintro H13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st13 {r' : Rect S136x128} {w : r'.shape.Idx → Elt Ideal .i32} {hx : (arg13.access r').Stores Finset.univ}
    {hm : Finset.univ = Finset.univ ∨ ∀ a, r'.stride a = 1} {Q : PUnit → St → Prop}
    (hQ : Q ⟨⟩ ⟨h, sg, x, o, q, p, d0, d1, v0, v1, w0, (putR w1 r' w), r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg13 r' w Finset.univ hx hm)) Q := by
  refine Runs.store (X := w1) (set := fun Y => ⟨h, sg, x, o, q, p, d0, d1, v0, v1, w0, Y, r, sc⟩) ?_ hQ
  unfold ownSt
  iintro ⟨H2, H3, H4, H5, H6, H7, H8, H9, H10, H11, H12, H13, H14, H15⟩
  isplitl [H13]
  · iexact H13
  · iintro %Y H13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld14 {r' : LoadRect S2x8x128} {hl : arg14.view.LoadsAt r'} {Q : (r'.shape.Idx → Elt Ideal .f32) → St → Prop}
    (hQ : Q (rd r r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg14 r' hl)) Q := by
  refine Runs.load (X := r) ?_ hQ
  unfold ownSt
  iintro ⟨H2, H3, H4, H5, H6, H7, H8, H9, H10, H11, H12, H13, H14, H15⟩
  isplitl [H14]
  · iexact H14
  · iintro H14
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st14 {r' : Rect S2x8x128} {w : r'.shape.Idx → Elt Ideal .f32} {hx : (arg14.access r').Stores Finset.univ}
    {hm : Finset.univ = Finset.univ ∨ ∀ a, r'.stride a = 1} {Q : PUnit → St → Prop}
    (hQ : Q ⟨⟩ ⟨h, sg, x, o, q, p, d0, d1, v0, v1, w0, w1, (putR r r' w), sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg14 r' w Finset.univ hx hm)) Q := by
  refine Runs.store (X := r) (set := fun Y => ⟨h, sg, x, o, q, p, d0, d1, v0, v1, w0, w1, Y, sc⟩) ?_ hQ
  unfold ownSt
  iintro ⟨H2, H3, H4, H5, H6, H7, H8, H9, H10, H11, H12, H13, H14, H15⟩
  isplitl [H14]
  · iexact H14
  · iintro %Y H14
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ld15 {r' : LoadRect S256x128} {hl : arg15.view.LoadsAt r'} {Q : (r'.shape.Idx → Elt Ideal .f32) → St → Prop}
    (hQ : Q (rd sc r') ⟨h, sg, x, o, q, p, d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.load arg15 r' hl)) Q := by
  refine Runs.load (X := sc) ?_ hQ
  unfold ownSt
  iintro ⟨H2, H3, H4, H5, H6, H7, H8, H9, H10, H11, H12, H13, H14, H15⟩
  isplitl [H15]
  · iexact H15
  · iintro H15
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem st15 {r' : Rect S256x128} {w : r'.shape.Idx → Elt Ideal .f32} {hx : (arg15.access r').Stores Finset.univ}
    {hm : Finset.univ = Finset.univ ∨ ∀ a, r'.stride a = 1} {Q : PUnit → St → Prop}
    (hQ : Q ⟨⟩ ⟨h, sg, x, o, q, p, d0, d1, v0, v1, w0, w1, r, (putR sc r' w)⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Prog.lift (.store arg15 r' w Finset.univ hx hm)) Q := by
  refine Runs.store (X := sc) (set := fun Y => ⟨h, sg, x, o, q, p, d0, d1, v0, v1, w0, w1, r, Y⟩) ?_ hQ
  unfold ownSt
  iintro ⟨H2, H3, H4, H5, H6, H7, H8, H9, H10, H11, H12, H13, H14, H15⟩
  isplitl [H15]
  · iexact H15
  · iintro %Y H15
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.KernelIdealMaps.lean ====
/- What the kernel computes before the scales, read at natural coordinates: the products with the block of signs, the butterfly over the
   sixteen row groups, and the butterfly over the eight columns. -/
module

public import proofs.«01_k».proof.Proof.Values
public import proofs.«01_k».proof.Proof.Butterfly
public import proofs.«01_k».proof.Proof.KernelIdealSteps

@[expose] public section

noncomputable section

namespace Cert.KernelIdeal.Hand

open Idealize.ShloMosaic Cert.Fold Cert.KernelIdeal.Gen
open scoped BigOperators

/-- The product for row group `ih` and column `c`: row `r`, lane `l`. -/
def D (h : S256x256.Idx → EReal) (sg : S256x8x16x128.Idx → EReal) (x : S1x256x8x16x128.Idx → EReal) (c ih r l : ℕ) : EReal :=
  ∑ k ∈ Finset.range 256, at2 h r k * (at5 x 0 (ih * 16 + k / 16) c (k % 16) l * at4 sg (ih * 16 + k / 16) c (k % 16) l)

/-- Two arrays joined along the second axis, at an index. -/
theorem at2_concat {α : Type} [Zero α] (L R : S256x128.Idx → α) (a b : ℕ) (ha : a < 256) :
    at2 (concatenate S256x256 1 [⟨S256x128, L⟩, ⟨S256x128, R⟩] concatenates_S256x128_S256x128_S256x256_d1) a b
      = if b < 128 then at2 L a b else at2 R a (b - 128) := by
  by_cases hb : b < 256
  · rw [at2, dif_pos ⟨ha, hb⟩, concatenate_cons_apply, concatenateAt_cons]
    split
    · rename_i h
      have h' : b < 128 := h
      rw [if_pos h', Shape.Idx.norm_def, at2_idx L]
      rfl
    · rename_i h
      have h' : ¬ b < 128 := h
      rw [if_neg h']
      refine (at2_idx R _).trans ?_
      rfl
  · rw [at2, dif_neg (by omega), if_neg (by omega), at2, dif_neg (by omega)]

section
variable {h : S256x256.Idx → EReal} {sg : S256x8x16x128.Idx → EReal} {x : S1x256x8x16x128.Idx → EReal}

/-- The signed argument of row group `ih` and column `c`, as the kernel loads it. -/
theorem at2_signed {c ih : ℕ} {ox : Fin 5 → ℕ} {os : Fin 4 → ℕ} (hox : ox = ![0, ih * 16, c, 0, 0]) (hos : os = ![ih * 16, c, 0, 0])
    (inbx) (inbs) (a) (b) (a') (b') (k l : ℕ) (hk : k < 256) (hl : l < 128) :
    at2 (mulf (F := Ideal) (φ := .bf16)
      (shapeCast S256x128 (shapeCast S16x16x128 (rd x (Rect.unit (s := S1x256x8x16x128) ox S1x16x1x16x128.size inbx).toLoadRect) a) b)
      (shapeCast S256x128 (shapeCast S16x16x128 (rd sg (Rect.unit (s := S256x8x16x128) os S16x1x16x128.size inbs).toLoadRect) a') b')) k l
      = at5 x 0 (ih * 16 + k / 16) c (k % 16) l * at4 sg (ih * 16 + k / 16) c (k % 16) l := by
  subst hox hos
  rw [at2_mulf]
  refine (congrArg₂ (· * ·) (at2_cast_rd5 (p := 16) (q := 16) inbx a b rfl k l hk hl)
    (at2_cast_rd4' (p := 16) (q := 16) inbs a' b' rfl k l hk hl)).trans ?_
  simp

theorem at2_block (inb) (hc) (a b : ℕ) (ha : a < 256) (hb : b < 256) :
    at2 (shapeCast S256x256 (rd h (Rect.unit (s := S256x256) ![0, 0] S256x256.size inb).toLoadRect) hc) a b = at2 h a b := by
  refine (congrArg (fun w : S256x256.Idx → EReal => at2 w a b) (shapeCast_self (s := S256x256) _ hc)).trans ?_
  refine (at2_rd (m0 := 256) (m1 := 256) inb a b ha hb).trans ?_
  simp

/-- A half of the product with two row groups side by side. -/
theorem mm_fst {c ih : ℕ} {ox : Fin 5 → ℕ} {os : Fin 4 → ℕ} (hox : ox = ![0, ih * 16, c, 0, 0]) (hos : os = ![ih * 16, c, 0, 0])
    (inb) (hc) (inbx) (inbs) (a) (b) (a') (b') (R : S256x128.Idx → EReal) (hs) (r l : ℕ) (hr : r < 256) (hl : l < 128) :
    at2 (extractStridedSlice S256x128 ![0, 0]
      (matmul (F := Ideal) (φ₁ := .bf16) (φ₂ := .bf16) dot_S256x256_S256x256_S256x256_1_0_0_1_n_n none
        (shapeCast S256x256 (rd h (Rect.unit (s := S256x256) ![0, 0] S256x256.size inb).toLoadRect) hc)
        (concatenate S256x256 1 [⟨S256x128, mulf (F := Ideal) (φ := .bf16)
      (shapeCast S256x128 (shapeCast S16x16x128 (rd x (Rect.unit (s := S1x256x8x16x128) ox S1x16x1x16x128.size inbx).toLoadRect) a) b)
      (shapeCast S256x128 (shapeCast S16x16x128 (rd sg (Rect.unit (s := S256x8x16x128) os S16x1x16x128.size inbs).toLoadRect) a') b')⟩,
          ⟨S256x128, R⟩] concatenates_S256x128_S256x128_S256x256_d1) (constant S256x256 .f32 0x00000000#32)) hs) r l
      = D h sg x c ih r l := by
  rw [at2_slice _ 0 hs r l hr hl, Nat.zero_add]
  refine (at2_matmul none _ _ r l hr (by omega)).trans (Finset.sum_congr rfl fun k hk => ?_)
  have hk := Finset.mem_range.mp hk
  rw [at2_concat _ _ k l hk, if_pos hl, at2_signed hox hos _ _ _ _ _ _ k l hk hl, at2_block _ _ r k hr hk]

/-- The right half of a joined product. -/
theorem mm_snd {c ih : ℕ} {ox : Fin 5 → ℕ} {os : Fin 4 → ℕ} (hox : ox = ![0, ih * 16, c, 0, 0]) (hos : os = ![ih * 16, c, 0, 0])
    (inb) (hc) (inbx) (inbs) (a) (b) (a') (b') (L : S256x128.Idx → EReal) (hs) (r l : ℕ) (hr : r < 256) (hl : l < 128) :
    at2 (extractStridedSlice S256x128 ![0, 128]
      (matmul (F := Ideal) (φ₁ := .bf16) (φ₂ := .bf16) dot_S256x256_S256x256_S256x256_1_0_0_1_n_n none
        (shapeCast S256x256 (rd h (Rect.unit (s := S256x256) ![0, 0] S256x256.size inb).toLoadRect) hc)
        (concatenate S256x256 1 [⟨S256x128, L⟩, ⟨S256x128, mulf (F := Ideal) (φ := .bf16)
      (shapeCast S256x128 (shapeCast S16x16x128 (rd x (Rect.unit (s := S1x256x8x16x128) ox S1x16x1x16x128.size inbx).toLoadRect) a) b)
      (shapeCast S256x128 (shapeCast S16x16x128 (rd sg (Rect.unit (s := S256x8x16x128) os S16x1x16x128.size inbs).toLoadRect) a') b')⟩]
          concatenates_S256x128_S256x128_S256x256_d1) (constant S256x256 .f32 0x00000000#32)) hs) r l
      = D h sg x c ih r l := by
  rw [at2_slice _ 128 hs r l hr hl]
  refine (at2_matmul none _ _ r (128 + l) hr (by omega)).trans (Finset.sum_congr rfl fun k hk => ?_)
  have hk := Finset.mem_range.mp hk
  rw [at2_concat _ _ k _ hk, if_neg (by omega), Nat.add_sub_cancel_left, at2_signed hox hos _ _ _ _ _ _ k l hk hl, at2_block _ _ r k hr hk]

end

section
variable {h : S256x256.Idx → EReal} {sg : S256x8x16x128.Idx → EReal} {x : S1x256x8x16x128.Idx → EReal}

/-- The first `n` row groups of the products of column `c` are in place. -/
def DOn (h : S256x256.Idx → EReal) (sg : S256x8x16x128.Idx → EReal) (x : S1x256x8x16x128.Idx → EReal) (c n : ℕ)
    (d : S16x256x128.Idx → EReal) : Prop :=
  ∀ ih < n, ∀ r < 256, ∀ l < 128, at3 d ih r l = D h sg x c ih r l

theorem DOn.zero {c : ℕ} {d : S16x256x128.Idx → EReal} : DOn h sg x c 0 d := fun _ h => absurd h (Nat.not_lt_zero _)

theorem DOn.succ {c : ℕ} {d : S16x256x128.Idx → EReal} {w : S256x128.Idx → EReal} (n : ℕ) (inb) (hc) (hd : DOn h sg x c n d)
    (hw : ∀ r < 256, ∀ l < 128, at2 w r l = D h sg x c n r l) :
    DOn h sg x c (n + 1) (putR d (Rect.unit (s := S16x256x128) ![n, 0, 0] S1x256x128.size inb) (shapeCast S1x256x128 w hc)) := by
  intro ih hih r hr l hl
  refine (put3full d inb w hc ih r l hr hl).trans ?_
  split
  · subst ih; exact hw r hr l hl
  · exact hd ih (by omega) r hr l hl

theorem DOn.step {c : ℕ} {d : S16x256x128.Idx → EReal} {w : S256x128.Idx → EReal} (n : ℕ) {off : Fin 3 → ℕ} {inb} {hc}
    (hw : ∀ r < 256, ∀ l < 128, at2 w r l = D h sg x c n r l) (ho : off = ![n, 0, 0]) (hd : DOn h sg x c n d) :
    DOn h sg x c (n + 1) (putR d (Rect.unit (s := S16x256x128) off S1x256x128.size inb) (shapeCast S1x256x128 w hc)) := by
  subst ho; exact DOn.succ n _ _ hd hw

end

/-- The rows that trip `k` of a loop over the rows writes of the transform over `ih`, for the first `s` of its sixteen groups. -/
def RowOn (dd : S16x256x128.Idx → EReal) (C k s : ℕ) (old new : S8x32x128x128.Idx → EReal) : Prop :=
  ∀ a b e l, at4 new a b e l
    = if a = C ∧ b < 32 ∧ e < 128 ∧ l < 128 ∧ b % 2 * 16 + e / 8 = k ∧ b / 2 < s then
        bfly 4 (fun ih => at3 dd ih (k * 8 + e % 8) l) (b / 2)
      else at4 old a b e l

theorem RowOn.zero {dd : S16x256x128.Idx → EReal} {C k : ℕ} {old : S8x32x128x128.Idx → EReal} : RowOn dd C k 0 old old := by
  intro a b e l; rw [if_neg (by omega)]

theorem RowOn.step {dd : S16x256x128.Idx → EReal} {C k : ℕ} {old new : S8x32x128x128.Idx → EReal} {w : S8x128.Idx → EReal} (s : ℕ)
    {off : Fin 4 → ℕ} {inb} {hc} (hk : k < 32) (hs : s < 16)
    (hw : ∀ e < 8, ∀ l < 128, at2 w e l = bfly 4 (fun ih => at3 dd ih (k * 8 + e) l) s)
    (ho : off = ![C, 2 * s + k / 16, k % 16 * 8, 0]) (hd : RowOn dd C k s old new) :
    RowOn dd C k (s + 1) old (putR new (Rect.unit (s := S8x32x128x128) off S1x1x8x128.size inb) (shapeCast S1x1x8x128 w hc)) := by
  subst ho
  intro a b e l
  refine (put4row' new inb w hc a b e l).trans ?_
  rw [hd a b e l]
  by_cases h1 : a = C ∧ b < 32 ∧ e < 128 ∧ l < 128 ∧ b % 2 * 16 + e / 8 = k ∧ b / 2 < s + 1
  · rw [if_pos h1]
    by_cases h2 : b / 2 < s
    · rw [if_neg (by omega), if_pos (by omega)]
    · have hb : b / 2 = s := by omega
      rw [if_pos (by omega), hb, show e % 8 = e - k % 16 * 8 by omega, hw _ (by omega) _ (by omega)]
      rfl
  · rw [if_neg h1, if_neg (by omega), if_neg (by omega)]

/-- What a loop over the rows has written of the transform over `ih` after `k` trips. -/
def Slab (dd : S16x256x128.Idx → EReal) (C k : ℕ) (old new : S8x32x128x128.Idx → EReal) : Prop :=
  ∀ a b e l, at4 new a b e l
    = if a = C ∧ b < 32 ∧ e < 128 ∧ l < 128 ∧ b % 2 * 16 + e / 8 < k then
        bfly 4 (fun ih => at3 dd ih ((b % 2 * 16 + e / 8) * 8 + e % 8) l) (b / 2)
      else at4 old a b e l

theorem Slab.zero {dd : S16x256x128.Idx → EReal} {C : ℕ} {old : S8x32x128x128.Idx → EReal} : Slab dd C 0 old old := by
  intro a b e l; rw [if_neg (by omega)]

theorem Slab.step {dd : S16x256x128.Idx → EReal} {C k : ℕ} {old mid new : S8x32x128x128.Idx → EReal} (h : Slab dd C k old mid)
    (hr : RowOn dd C k 16 mid new) : Slab dd C (k + 1) old new := by
  intro a b e l
  rw [hr a b e l, h a b e l]
  by_cases h1 : a = C ∧ b < 32 ∧ e < 128 ∧ l < 128 ∧ b % 2 * 16 + e / 8 < k + 1
  · rw [if_pos h1]
    by_cases h2 : b % 2 * 16 + e / 8 = k
    · rw [if_pos (by omega), h2]
    · rw [if_neg (by omega), if_pos (by omega)]
  · rw [if_neg h1, if_neg (by omega), if_neg (by omega)]

end Cert.KernelIdeal.Hand

end
-- ==== Proof.KernelIdealTrip1.lean ====
/- The first loop's region: the products of the next two columns, and the butterflies of two columns over the row groups. -/
module

public import proofs.«01_k».proof.Proof.KernelIdealMaps

@[expose] public section

set_option maxRecDepth 16384

noncomputable section

namespace Cert.KernelIdeal.Hand

open Cert.Fold Cert.KernelIdeal.Gen
open Idealize.ShloMosaic Idealize.ShloMosaic.TcCoe Idealize.SL.Sem

/-- The region of the first loop, as the kernel has it. -/
def trip1 (i : grid0.Coords) (arg2 : Memref sig .tc .vmem S256x256 .bf16) (harg2 : arg2.IsWhole) (arg3 : Memref sig .tc .vmem S256x8x16x128 .bf16) (harg3 : arg3.IsWhole) (arg4 : Memref sig .tc .vmem S1x256x8x16x128 .bf16) (harg4 : arg4.IsWhole) (arg5 : Memref sig .tc .vmem S1x128x16384 .i8) (harg5 : arg5.IsWhole) (arg6 : Memref sig .tc .vmem S1x128x256 .f32) (harg6 : arg6.IsWhole) (arg7 : Memref sig .tc .vmem S8x32x128x128 .f32) (harg7 : arg7.IsWhole) (arg8 : Memref sig .tc .vmem S16x256x128 .f32) (harg8 : arg8.IsWhole) (arg9 : Memref sig .tc .vmem S16x256x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S136x128 .i32) (harg12 : arg12.IsWhole) (arg13 : Memref sig .tc .vmem S136x128 .i32) (harg13 : arg13.IsWhole) (arg14 : Memref sig .tc .vmem S2x8x128 .f32) (harg14 : arg14.IsWhole) (arg15 : Memref sig .tc .vmem S256x128 .f32) (harg15 : arg15.IsWhole) (c0_i32 c1_i32 : BitVec 32) (k0_t1 : Fin k0_t1_loop.trips) :
    Prog (TpuEff nD τ sig (Elt Ideal) Λ₀ .tc) PUnit := do
  let ⟨v485, v486⟩ : Σ' (v485 : BitVec 32), BitVec 32 ← k0_part11 i arg2 harg2 arg3 harg3 arg4 harg4 arg5 harg5 arg6 harg6 arg7 harg7 arg8 harg8 arg9 harg9 arg10 harg10 arg11 harg11 arg12 harg12 arg13 harg13 arg14 harg14 arg15 harg15 c0_i32 c1_i32 k0_t1
  k0_part12 i arg2 harg2 arg3 harg3 arg4 harg4 arg5 harg5 arg6 harg6 arg7 harg7 arg8 harg8 arg9 harg9 arg10 harg10 arg11 harg11 arg12 harg12 arg13 harg13 arg14 harg14 arg15 harg15 k0_t1 v486
  let v580 : FVec Ideal S256x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 k0_t1 v486
  let ⟨v610, v614⟩ : Σ' (v610 : FVec Ideal S256x128 .bf16), FVec Ideal S256x128 .bf16 ← k0_part14 i arg2 harg2 arg3 harg3 arg4 harg4 arg5 harg5 arg6 harg6 arg7 harg7 arg8 harg8 arg9 harg9 arg10 harg10 arg11 harg11 arg12 harg12 arg13 harg13 arg14 harg14 arg15 harg15 k0_t1 v486 v580
  let v645 : FVec Ideal S256x128 .bf16 ← k0_part15 i arg2 harg2 arg3 harg3 arg4 harg4 arg5 harg5 arg6 harg6 arg7 harg7 arg8 harg8 arg9 harg9 arg10 harg10 arg11 harg11 arg12 harg12 arg13 harg13 arg14 harg14 arg15 harg15 k0_t1 v486 v610 v614
  let ⟨v675, v679⟩ : Σ' (v675 : FVec Ideal S256x128 .bf16), FVec Ideal S256x128 .bf16 ← k0_part16 i arg2 harg2 arg3 harg3 arg4 harg4 arg5 harg5 arg6 harg6 arg7 harg7 arg8 harg8 arg9 harg9 arg10 harg10 arg11 harg11 arg12 harg12 arg13 harg13 arg14 harg14 arg15 harg15 k0_t1 v486 v645
  let ⟨v705, v709, v712⟩ : Σ' (v705 : FVec Ideal S256x128 .bf16) (v709 : FVec Ideal S256x128 .bf16), FVec Ideal S16x16x128 .bf16 ← k0_part17 i arg2 harg2 arg3 harg3 arg4 harg4 arg5 harg5 arg6 harg6 arg7 harg7 arg8 harg8 arg9 harg9 arg10 harg10 arg11 harg11 arg12 harg12 arg13 harg13 arg14 harg14 arg15 harg15 k0_t1 v486 v675 v679
  let ⟨v729, v738, v742⟩ : Σ' (v729 : BitVec 32) (v738 : FVec Ideal S256x128 .bf16), FVec Ideal S256x128 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 k0_t1 v485 v705 v709 v712
  let ⟨v768, v772, v775⟩ : Σ' (v768 : FVec Ideal S256x128 .bf16) (v772 : FVec Ideal S256x128 .bf16), FVec Ideal S16x16x128 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 k0_t1 v729 v738 v742
  let v808 : FVec Ideal S256x256 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 k0_t1 v729 v768 v772 v775
  let ⟨v841, v842⟩ : Σ' (v841 : FVec Ideal S256x256 .f32), FVec Ideal S256x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 k0_t1 v729 v808
  let ⟨v871, v872⟩ : Σ' (v871 : FVec Ideal S256x256 .f32), FVec Ideal S256x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 k0_t1 v729 v841 v842
  let v906 : FVec Ideal S256x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 k0_t1 v729 v871 v872
  k0_part24 i arg2 harg2 arg3 harg3 arg4 harg4 arg5 harg5 arg6 harg6 arg7 harg7 arg8 harg8 arg9 harg9 arg10 harg10 arg11 harg11 arg12 harg12 arg13 harg13 arg14 harg14 arg15 harg15 k0_t1 v729 v906
  let ⟨v970, c0_i32_719⟩ : Σ' (v970 : BitVec 32), BitVec 32 ← k0_part25 i arg2 harg2 arg3 harg3 arg4 harg4 arg5 harg5 arg6 harg6 arg7 harg7 arg8 harg8 arg9 harg9 arg10 harg10 arg11 harg11 arg12 harg12 arg13 harg13 arg14 harg14 arg15 harg15 k0_t1 v485 v729
  let c1_i32_721 : BitVec 32 := 1#32
  Scf.Loop.for k0_t3_loop k0_t3_ok ⟨⟩ fun k0_t3 _ => do
    let ⟨arg17, v973, v976, v979, v982, v985, v988, v991, v994, v997, v1000, v1003, v1006⟩ : Σ' (arg17 : BitVec 32) (v973 : BitVec 32) (v976 : FVec Ideal S8x128 .f32) (v979 : FVec Ideal S8x128 .f32) (v982 : FVec Ideal S8x128 .f32) (v985 : FVec Ideal S8x128 .f32) (v988 : FVec Ideal S8x128 .f32) (v991 : FVec Ideal S8x128 .f32) (v994 : FVec Ideal S8x128 .f32) (v997 : FVec Ideal S8x128 .f32) (v1000 : FVec Ideal S8x128 .f32) (v1003 : FVec Ideal S8x128 .f32), FVec Ideal S8x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 c0_i32_719 c1_i32_721 k0_t3
    let ⟨v1039, v1041, v1043, v1045, v1046, v1047, v1048, v1049, v1050, v1051, v1052, v1053, v1054, v1055, v1056, v1057⟩ : Σ' (v1039 : FVec Ideal S8x128 .f32) (v1041 : FVec Ideal S8x128 .f32) (v1043 : FVec Ideal S8x128 .f32) (v1045 : FVec Ideal S8x128 .f32) (v1046 : FVec Ideal S8x128 .f32) (v1047 : FVec Ideal S8x128 .f32) (v1048 : FVec Ideal S8x128 .f32) (v1049 : FVec Ideal S8x128 .f32) (v1050 : FVec Ideal S8x128 .f32) (v1051 : FVec Ideal S8x128 .f32) (v1052 : FVec Ideal S8x128 .f32) (v1053 : FVec Ideal S8x128 .f32) (v1054 : FVec Ideal S8x128 .f32) (v1055 : FVec Ideal S8x128 .f32) (v1056 : FVec Ideal S8x128 .f32), FVec Ideal S8x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 k0_t3 v973 v976 v979 v982 v985 v988 v991 v994 v997 v1000 v1003 v1006
    let ⟨v1071, v1073, v1074, v1075, v1076, v1077, v1078, v1079, v1080, v1081, v1082, v1083, v1084, v1085, v1086, v1089⟩ : Σ' (v1071 : FVec Ideal S8x128 .f32) (v1073 : FVec Ideal S8x128 .f32) (v1074 : FVec Ideal S8x128 .f32) (v1075 : FVec Ideal S8x128 .f32) (v1076 : FVec Ideal S8x128 .f32) (v1077 : FVec Ideal S8x128 .f32) (v1078 : FVec Ideal S8x128 .f32) (v1079 : FVec Ideal S8x128 .f32) (v1080 : FVec Ideal S8x128 .f32) (v1081 : FVec Ideal S8x128 .f32) (v1082 : FVec Ideal S8x128 .f32) (v1083 : FVec Ideal S8x128 .f32) (v1084 : FVec Ideal S8x128 .f32) (v1085 : FVec Ideal S8x128 .f32) (v1086 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 arg15 harg15 k0_t1 v970 k0_t3 arg17 v1039 v1041 v1043 v1045 v1046 v1047 v1048 v1049 v1050 v1051 v1052 v1053 v1054 v1055 v1056 v1057
    k0_part9 i arg2 harg2 arg3 harg3 arg4 harg4 arg5 harg5 arg6 harg6 arg7 harg7 arg8 harg8 arg9 harg9 arg10 harg10 arg11 harg11 arg12 harg12 arg13 harg13 arg14 harg14 arg15 harg15 k0_t1 v970 k0_t3 v1074 v1076 v1078 v1080 v1082 v1084 v1086 v1089
    k0_part10 i arg2 harg2 arg3 harg3 arg4 harg4 arg5 harg5 arg6 harg6 arg7 harg7 arg8 harg8 arg9 harg9 arg10 harg10 arg11 harg11 arg12 harg12 arg13 harg13 arg14 harg14 arg15 harg15 k0_t1 v970 k0_t3 v1071 v1073 v1075 v1077 v1079 v1081 v1086 v1089
    let c0_777 : Index := 0#32
    let v1192 : Vec Ideal S1x1x8x128 .f32 ← Prog.lift (.load arg7 (Rect.unit (s := S8x32x128x128) (k0_off98 k0_t1 k0_t3 28#32) S1x1x8x128.size (k0_off98_inb k0_t1 k0_t3 14)).toLoadRect (View.loadsAt_vmem h_S1x1x8x128))
    have v1193 : FVec Ideal S8x128 .f32 := shapeCast S8x128 v1192 shapeCasts_S1x1x8x128_S8x128
    have v1194 : FVec Ideal S1x1x8x128 .f32 := shapeCast S1x1x8x128 v1083 shapeCasts_S8x128_S1x1x8x128
    Prog.lift (.store arg7 (Rect.unit (s := S8x32x128x128) (k0_off98 k0_t1 k0_t3 28#32) S1x1x8x128.size (k0_off98_inb k0_t1 k0_t3 14)) v1194 Finset.univ (View.stores_vmem_bits_univ h_S1x1x8x128 rfl) (.inl rfl))
    let c30_i32 : BitVec 32 := 30#32
    let v1195 : BitVec 32 := Scalar.addi c30_i32 v1086
    let v1196 : Index := Scalar.indexCast v970
    let v1197 : Index := Scalar.indexCast v1195
    let v1198 : Index := Scalar.indexCast v1089
    let c0_778 : Index := 0#32
    let v1199 : Vec Ideal S1x1x8x128 .f32 ← Prog.lift (.load arg7 (Rect.unit (s := S8x32x128x128) (k0_off98 k0_t1 k0_t3 30#32) S1x1x8x128.size (k0_off98_inb k0_t1 k0_t3 15)).toLoadRect (View.loadsAt_vmem h_S1x1x8x128))
    have v1200 : FVec Ideal S8x128 .f32 := shapeCast S8x128 v1199 shapeCasts_S1x1x8x128_S8x128
    have v1201 : FVec Ideal S1x1x8x128 .f32 := shapeCast S1x1x8x128 v1085 shapeCasts_S8x128_S1x1x8x128
    Prog.lift (.store arg7 (Rect.unit (s := S8x32x128x128) (k0_off98 k0_t1 k0_t3 30#32) S1x1x8x128.size (k0_off98_inb k0_t1 k0_t3 15)) v1201 Finset.univ (View.stores_vmem_bits_univ h_S1x1x8x128 rfl) (.inl rfl))
    pure ⟨⟩
  let c32_i32_722 : BitVec 32 := 32#32
  pure ⟨⟩

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {c : Dev nD} {i : grid0.Coords}

theorem off33 : ∀ t : Fin k0_t2_loop.trips, k0_off33 t = ![0, t.val * 8, 0] ∧ k0_off34 t = ![1, t.val * 8, 0] ∧ k0_off35 t = ![2, t.val * 8, 0] ∧ k0_off36 t = ![3, t.val * 8, 0] ∧ k0_off37 t = ![4, t.val * 8, 0] ∧ k0_off38 t = ![5, t.val * 8, 0] ∧ k0_off39 t = ![6, t.val * 8, 0] ∧ k0_off40 t = ![7, t.val * 8, 0] ∧ k0_off41 t = ![8, t.val * 8, 0] ∧ k0_off42 t = ![9, t.val * 8, 0] ∧ k0_off43 t = ![10, t.val * 8, 0] ∧ k0_off44 t = ![11, t.val * 8, 0] ∧ k0_off45 t = ![12, t.val * 8, 0] ∧ k0_off46 t = ![13, t.val * 8, 0] ∧ k0_off47 t = ![14, t.val * 8, 0] ∧ k0_off48 t = ![15, t.val * 8, 0] := by decide +kernel
theorem off82 : ∀ t : Fin k0_t3_loop.trips, k0_off82 t = ![0, t.val * 8, 0] ∧ k0_off83 t = ![1, t.val * 8, 0] ∧ k0_off84 t = ![2, t.val * 8, 0] ∧ k0_off85 t = ![3, t.val * 8, 0] ∧ k0_off86 t = ![4, t.val * 8, 0] ∧ k0_off87 t = ![5, t.val * 8, 0] ∧ k0_off88 t = ![6, t.val * 8, 0] ∧ k0_off89 t = ![7, t.val * 8, 0] ∧ k0_off90 t = ![8, t.val * 8, 0] ∧ k0_off91 t = ![9, t.val * 8, 0] ∧ k0_off92 t = ![10, t.val * 8, 0] ∧ k0_off93 t = ![11, t.val * 8, 0] ∧ k0_off94 t = ![12, t.val * 8, 0] ∧ k0_off95 t = ![13, t.val * 8, 0] ∧ k0_off96 t = ![14, t.val * 8, 0] ∧ k0_off97 t = ![15, t.val * 8, 0] := by decide +kernel

section
variable {h : S256x256.Idx → EReal} {sg : S256x8x16x128.Idx → EReal} {x : S1x256x8x16x128.Idx → EReal} {o q p d0 d1 v0 v1 w0 w1 r sc}

theorem cut8 {α : Type} {prog : Prog (TpuEff nD τ sig (Elt Ideal) Λ₀ .tc) α} {Q : α → St → Prop} (P : (S16x256x128.Idx → EReal) → Prop) (hP : P d0)
    (hk : ∀ d, P d → Runs (defs₀ (F := Ideal)) (c : Thread nD τ) (ownSt arg2 arg3 arg4 arg5 arg6 arg7 arg8 arg9 arg10 arg11 arg12 arg13 arg14 arg15 c) ⟨h, sg, x, o, q, p, d, d1, v0, v1, w0, w1, r, sc⟩ prog Q) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ prog Q := hk _ hP

theorem cut9 {α : Type} {prog : Prog (TpuEff nD τ sig (Elt Ideal) Λ₀ .tc) α} {Q : α → St → Prop} (P : (S16x256x128.Idx → EReal) → Prop) (hP : P d1)
    (hk : ∀ d, P d → Runs (defs₀ (F := Ideal)) (c : Thread nD τ) (ownSt arg2 arg3 arg4 arg5 arg6 arg7 arg8 arg9 arg10 arg11 arg12 arg13 arg14 arg15 c) ⟨h, sg, x, o, q, p, d0, d, v0, v1, w0, w1, r, sc⟩ prog Q) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ prog Q := hk _ hP

/-- A loop over the 32 row blocks writes one column of the transform over `ih`. -/
theorem ih_loop {lb ub st : BitVec 32} {hok : Scf.OK lb ub st} (hn : Scf.trips lb ub st = 32)
    {body : Fin (Scf.trips lb ub st) → PUnit → Prog (TpuEff nD τ sig (Elt Ideal) Λ₀ .tc) PUnit} {Q : PUnit → St → Prop}
    (dd : S16x256x128.Idx → EReal) (C : ℕ)
    (hbody : ∀ k p, Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (body k ⟨⟩)
      (fun _ s' => ∃ p', s' = ⟨h, sg, x, o, q, p', d0, d1, v0, v1, w0, w1, r, sc⟩ ∧ RowOn dd C k.val 16 p p'))
    (hQ : ∀ p', Slab dd C 32 p p' → Q ⟨⟩ ⟨h, sg, x, o, q, p', d0, d1, v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.for lb ub st hok ⟨⟩ body) Q := by
  refine Runs.loop (fun k _ s => ∃ p', s = ⟨h, sg, x, o, q, p', d0, d1, v0, v1, w0, w1, r, sc⟩ ∧ Slab dd C k p p') ⟨p, rfl, Slab.zero⟩
    (fun k _ s ⟨p', hs, hp⟩ => ?_) (fun _ s ⟨p', hs, hp⟩ => ?_)
  · subst hs
    exact (hbody k p').mono fun _ s' ⟨p'', hs, hr⟩ => ⟨p'', hs, hp.step hr⟩
  · subst hs; exact hQ p' (hn ▸ hp)

/-- A row block of a scratch array, as a loop over the rows loads it. -/
theorem at2_rows {dd : S16x256x128.Idx → EReal} {off : Fin 3 → ℕ} (inb) (hc) (e l : ℕ) (he : e < 8) (hl : l < 128) :
    at2 (shapeCast S8x128 (rd dd (Rect.unit (s := S16x256x128) off S1x8x128.size inb).toLoadRect) hc) e l
      = at3 dd (off 0) (off 1 + e) (off 2 + l) :=
  at2_cast_rd3 (m1 := 8) (m2 := 128) inb hc e l he hl

set_option maxHeartbeats 4000000 in
/-- One trip of the first loop: two products, two butterflies across the columns of blocks. -/
theorem trip1_runs (k0_t1 : Fin k0_t1_loop.trips) (Q : PUnit → St → Prop)
    (hQ : ∀ p1 p2 d0' d1', Slab d0 (2 * k0_t1.val) 32 p p1 → Slab d1' (2 * k0_t1.val + 1) 32 p1 p2 →
      DOn h sg x (2 * k0_t1.val + 1) 16 d1' → DOn h sg x (min (2 * k0_t1.val + 2) 7) 16 d0' →
      Q ⟨⟩ ⟨h, sg, x, o, q, p2, d0', d1', v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (trip1 i arg2 harg2 arg3 harg3 arg4 harg4 arg5 harg5 arg6 harg6 arg7 harg7 arg8 harg8 arg9 harg9 arg10 harg10 arg11 harg11 arg12 harg12 arg13 harg13 arg14 harg14 arg15 harg15 0#32 1#32 k0_t1) Q := by
  unfold trip1
  repeat (first
    | with_reducible refine Runs.bind ?_
    | with_reducible refine ld2 ?_
    | with_reducible refine ld3 ?_
    | with_reducible refine ld4 ?_
    | with_reducible refine ld7 ?_
    | with_reducible refine st7 ?_
    | with_reducible refine ld8 ?_
    | with_reducible refine st8 ?_
    | with_reducible refine ld9 ?_
    | with_reducible refine st9 ?_
    | with_reducible refine Runs.pure ?_
    | refine Runs.bind ?_)
  refine cut9 (DOn h sg x (2 * k0_t1.val + 1) 16) ?_ fun d1' hd1 => ?_
  · iterate 8
      refine DOn.step _ (by
        intro r hr l hl
        refine mm_snd ?_ ?_ _ _ _ _ _ _ _ _ _ _ r l hr hl
        all_goals (clear * -; revert k0_t1; decide +kernel)) rfl ?_
      refine DOn.step _ (by
        intro r hr l hl
        refine mm_fst ?_ ?_ _ _ _ _ _ _ _ _ _ _ r l hr hl
        all_goals (clear * -; revert k0_t1; decide +kernel)) rfl ?_
    exact DOn.zero
  refine ih_loop rfl d0 (2 * k0_t1.val) (fun k p => ?_) (fun p1 hp1 => ?_)
  ·
    repeat (first
      | with_reducible refine Runs.bind ?_
      | with_reducible refine ld2 ?_
      | with_reducible refine ld3 ?_
      | with_reducible refine ld4 ?_
      | with_reducible refine ld7 ?_
      | with_reducible refine st7 ?_
      | with_reducible refine ld8 ?_
      | with_reducible refine st8 ?_
      | with_reducible refine ld9 ?_
      | with_reducible refine st9 ?_
      | with_reducible refine Runs.pure ?_
      | refine Runs.bind ?_)

    refine ⟨_, rfl, ?_⟩
    refine RowOn.step 15 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 14 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 13 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 12 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 11 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 10 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 9 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 8 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 7 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 6 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 5 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 4 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 3 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 2 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 1 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    refine RowOn.step 0 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off33 k, Matrix.cons_val, Nat.zero_add]))
    exact RowOn.zero

  repeat (first
    | with_reducible refine Runs.bind ?_
    | with_reducible refine ld2 ?_
    | with_reducible refine ld3 ?_
    | with_reducible refine ld4 ?_
    | with_reducible refine ld7 ?_
    | with_reducible refine st7 ?_
    | with_reducible refine ld8 ?_
    | with_reducible refine st8 ?_
    | with_reducible refine ld9 ?_
    | with_reducible refine st9 ?_
    | with_reducible refine Runs.pure ?_
    | refine Runs.bind ?_)
  refine cut8 (DOn h sg x (min (2 * k0_t1.val + 2) 7) 16) ?_ fun d0' hd0 => ?_
  · iterate 8
      refine DOn.step _ (by
        intro r hr l hl
        refine mm_snd ?_ ?_ _ _ _ _ _ _ _ _ _ _ r l hr hl
        all_goals (clear * -; revert k0_t1; decide +kernel)) rfl ?_
      refine DOn.step _ (by
        intro r hr l hl
        refine mm_fst ?_ ?_ _ _ _ _ _ _ _ _ _ _ r l hr hl
        all_goals (clear * -; revert k0_t1; decide +kernel)) rfl ?_
    exact DOn.zero
  refine ih_loop rfl d1' (2 * k0_t1.val + 1) (fun k p => ?_) (fun p2 hp2 => ?_)
  ·
    repeat (first
      | with_reducible refine Runs.bind ?_
      | with_reducible refine ld2 ?_
      | with_reducible refine ld3 ?_
      | with_reducible refine ld4 ?_
      | with_reducible refine ld7 ?_
      | with_reducible refine st7 ?_
      | with_reducible refine ld8 ?_
      | with_reducible refine st8 ?_
      | with_reducible refine ld9 ?_
      | with_reducible refine st9 ?_
      | with_reducible refine Runs.pure ?_
      | refine Runs.bind ?_)

    refine ⟨_, rfl, ?_⟩
    refine RowOn.step 15 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 14 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 13 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 12 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 11 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 10 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 9 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 8 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 7 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 6 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 5 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 4 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 3 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 2 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 1 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    refine RowOn.step 0 k.isLt (by omega) ?_ (by clear * -; revert k0_t1 k; decide +kernel) ?_
    · intro e he l hl
      simp only [bfly_zero, bfly_hi, bfly_lo, Nat.reducePow, Nat.reduceDiv, Nat.reduceMod, Nat.reduceAdd, Nat.reduceSub, at2_addf, at2_subf]
      repeat' (first | with_reducible refine congrArg₂ HAdd.hAdd ?_ ?_ | with_reducible refine congrArg₂ HSub.hSub ?_ ?_ | exact (at2_rows _ _ e l he hl).trans (by simp only [off82 k, Matrix.cons_val, Nat.zero_add]))
    exact RowOn.zero

  repeat (first
    | with_reducible refine Runs.bind ?_
    | with_reducible refine ld2 ?_
    | with_reducible refine ld3 ?_
    | with_reducible refine ld4 ?_
    | with_reducible refine ld7 ?_
    | with_reducible refine st7 ?_
    | with_reducible refine ld8 ?_
    | with_reducible refine st8 ?_
    | with_reducible refine ld9 ?_
    | with_reducible refine st9 ?_
    | with_reducible refine Runs.pure ?_
    | refine Runs.bind ?_)
  exact hQ _ _ _ _ hp1 hp2 hd1 hd0

end

end Cert.KernelIdeal.Hand

end
-- ==== Proof.KernelIdealScale.lean ====
/- The butterfly over the eight columns, its running magnitudes and the scales of one tile of eight groups. -/
module

public import proofs.«01_k».proof.Proof.KernelIdealMaps

@[expose] public section

set_option maxRecDepth 16384

noncomputable section

namespace Cert.KernelIdeal.Hand

open Cert.Fold Cert.KernelIdeal.Gen
open Idealize.ShloMosaic Idealize.ShloMosaic.TcCoe Idealize.SL.Sem

/-- Row `row`, lane `l`, of output column `j` of tile `n`: the butterfly over the columns. -/
def V (p : S8x32x128x128.Idx → EReal) (n j row l : ℕ) : EReal := bfly 3 (fun c' => at4 p c' n row l) j

/-- The largest magnitude of columns `j` and `j + 4` of tile `n` over the rows `8 t + e`, `t < m`. -/
def Amax (p : S8x32x128x128.Idx → EReal) (n j m e l : ℕ) : EReal :=
  (Finset.range m).sup fun t => max (mag (V p n j (t * 8 + e) l)) (mag (V p n (j + 4) (t * 8 + e) l))

/-- The first trip's accumulator. -/
theorem Amax_one (p : S8x32x128x128.Idx → EReal) (n j e l : ℕ) :
    Amax p n j 1 e l = max (mag (V p n j (0 * 8 + e) l)) (mag (V p n (j + 4) (0 * 8 + e) l)) := by
  simp [Amax]

/-- One more trip of the accumulator. -/
theorem Amax_succ (p : S8x32x128x128.Idx → EReal) (n j m e l : ℕ) :
    Amax p n j (m + 1) e l = max (max (Amax p n j m e l) (mag (V p n j (m * 8 + e) l))) (mag (V p n (j + 4) (m * 8 + e) l)) := by
  unfold Amax
  rw [Finset.range_add_one, Finset.sup_insert, max_assoc (α := EReal)]
  show max (α := EReal) _ (max _ (Finset.sup _ _)) = max (max (Finset.sup _ _) _) _
  rw [← max_assoc (α := EReal), max_comm (α := EReal), ← max_assoc (α := EReal)]

/-- A vector register of the kernel. -/
abbrev Reg := FVec Ideal S8x128 .f32

/-- The four running maxima after `m` row blocks. -/
def CAcc (p : S8x32x128x128.Idx → EReal) (n m : ℕ) (a : Reg × Reg × Reg × Reg) : Prop :=
  ∀ e < 8, ∀ l < 128, at2 a.1 e l = Amax p n 0 m e l ∧ at2 a.2.1 e l = Amax p n 1 m e l ∧ at2 a.2.2.1 e l = Amax p n 2 m e l
    ∧ at2 a.2.2.2 e l = Amax p n 3 m e l

/-- One row block more. -/
def CStep (p : S8x32x128x128.Idx → EReal) (n m : ℕ) (a a' : Reg × Reg × Reg × Reg) : Prop :=
  ∀ e < 8, ∀ l < 128,
    at2 a'.1 e l = max (max (at2 a.1 e l) (mag (V p n 0 (m * 8 + e) l))) (mag (V p n 4 (m * 8 + e) l))
    ∧ at2 a'.2.1 e l = max (max (at2 a.2.1 e l) (mag (V p n 1 (m * 8 + e) l))) (mag (V p n 5 (m * 8 + e) l))
    ∧ at2 a'.2.2.1 e l = max (max (at2 a.2.2.1 e l) (mag (V p n 2 (m * 8 + e) l))) (mag (V p n 6 (m * 8 + e) l))
    ∧ at2 a'.2.2.2 e l = max (max (at2 a.2.2.2 e l) (mag (V p n 3 (m * 8 + e) l))) (mag (V p n 7 (m * 8 + e) l))

theorem CAcc.step {p : S8x32x128x128.Idx → EReal} {n m : ℕ} {a a' : Reg × Reg × Reg × Reg} (h : CAcc p n m a) (hs : CStep p n m a a') :
    CAcc p n (m + 1) a' := by
  intro e he l hl
  obtain ⟨h0, h1, h2, h3⟩ := h e he l hl
  obtain ⟨s0, s1, s2, s3⟩ := hs e he l hl
  rw [s0, s1, s2, s3, h0, h1, h2, h3]
  exact ⟨(Amax_succ ..).symm, (Amax_succ ..).symm, (Amax_succ ..).symm, (Amax_succ ..).symm⟩

/-- A row block of the transform over `ih`, as the kernel loads it. -/
theorem at2_prow {p : S8x32x128x128.Idx → EReal} {off : Fin 4 → ℕ} {j n t : ℕ} (ho : off = ![j, n, t * 8, 0]) (inb) (hc) (e l : ℕ)
    (he : e < 8) (hl : l < 128) :
    at2 (shapeCast S8x128 (rd p (Rect.unit (s := S8x32x128x128) off S1x1x8x128.size inb).toLoadRect) hc) e l = at4 p j n (t * 8 + e) l := by
  subst ho
  refine (at2_cast_rd4 (m1 := 8) (m2 := 128) (n0 := 8) (n1 := 32) (n2 := 128) (n3 := 128) inb hc e l he hl).trans ?_
  simp

/-- The scale of a group whose largest magnitude before normalisation is `m`. -/
def scaleOf (m : EReal) : EReal :=
  (select (cmpf (F := Ideal) (φ := .f32) .oeq (mulf (fun _ => m) (broadcast S8x128 (Scalar.ofBits .f32 0x3BB504F3#32))) (broadcast S8x128 (Scalar.ofBits .f32 0x00000000#32)))
    (broadcast S8x128 (Scalar.ofBits .f32 0x3F800000#32))
    (divf (mulf (fun _ => m) (broadcast S8x128 (Scalar.ofBits .f32 0x3BB504F3#32))) (broadcast S8x128 (Scalar.ofBits .f32 0x40E00000#32))) : Reg) (ix2 0 0)

theorem at2_scale (M : Reg) (e l : ℕ) (he : e < 8) (hl : l < 128) :
    at2 (select (cmpf (F := Ideal) (φ := .f32) .oeq (mulf M (broadcast S8x128 (Scalar.ofBits .f32 0x3BB504F3#32))) (broadcast S8x128 (Scalar.ofBits .f32 0x00000000#32)))
    (broadcast S8x128 (Scalar.ofBits .f32 0x3F800000#32))
    (divf (mulf M (broadcast S8x128 (Scalar.ofBits .f32 0x3BB504F3#32))) (broadcast S8x128 (Scalar.ofBits .f32 0x40E00000#32))) : Reg) e l
      = scaleOf (at2 M e l) := by
  rw [at2, dif_pos ⟨he, hl⟩, at2, dif_pos ⟨he, hl⟩]; rfl

/-- The scale of group `e` of tile `n`. -/
def Sc (p : S8x32x128x128.Idx → EReal) (n e l : ℕ) : EReal :=
  scaleOf (max (max (Amax p n 0 16 e l) (Amax p n 1 16 e l)) (max (Amax p n 2 16 e l) (Amax p n 3 16 e l)))

/-- The scales of the first `N` tiles are in place. -/
def SOn (p : S8x32x128x128.Idx → EReal) (N : ℕ) (sc : S256x128.Idx → EReal) : Prop :=
  ∀ n < N, ∀ e < 8, ∀ l < 128, at2 sc (n * 8 + e) l = Sc p n e l

theorem SOn.step {p : S8x32x128x128.Idx → EReal} {N : ℕ} {sc : S256x128.Idx → EReal} {w : Reg} {off : Fin 2 → ℕ} {inb} {hc}
    (hs : SOn p N sc) (ho : off = ![N * 8, 0]) (hw : ∀ e < 8, ∀ l < 128, at2 w e l = Sc p N e l) :
    SOn p (N + 1) (putR sc (Rect.unit (s := S256x128) off S8x128.size inb) (shapeCast S8x128 w hc)) := by
  subst ho
  intro n hn e he l hl
  refine (putR_unit2 (m0 := 8) (m1 := 128) sc inb _ (n * 8 + e) l).trans ?_
  have e0 : (![N * 8, 0] : Fin 2 → ℕ) 0 = N * 8 := rfl
  have e1 : (![N * 8, 0] : Fin 2 → ℕ) 1 = 0 := rfl
  rw [e0, e1]
  by_cases h : n = N
  · subst h
    rw [if_pos (by omega), Nat.add_sub_cancel_left, Nat.sub_zero]
    exact (congrArg (fun w : Reg => at2 w e l) (shapeCast_self (s := S8x128) w hc)).trans (hw e he l hl)
  · rw [if_neg (by omega)]; exact hs n (by omega) e he l hl

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {c : Dev nD}

/-- A loop over the row blocks of a tile: it changes one array, of which it keeps `P`, and carries the four running maxima. -/
theorem c_loop {lb ub st : BitVec 32} {hok : Scf.OK lb ub st} (hn : Scf.trips lb ub st = 15) {β : Type} (upd : β → St) {v : β}
    (P : ℕ → β → Prop) (p : S8x32x128x128.Idx → EReal) (n : ℕ) {a : Reg × Reg × Reg × Reg}
    {body : Fin (Scf.trips lb ub st) → Reg × Reg × Reg × Reg → Prog (TpuEff nD τ sig (Elt Ideal) Λ₀ .tc) (Reg × Reg × Reg × Reg)}
    {Q : Reg × Reg × Reg × Reg → St → Prop} (h0 : CAcc p n 1 a) (hv : P 1 v)
    (hbody : ∀ k a0 a1 a2 a3 v, Runs (defs₀ (F := Ideal)) (c : Thread nD τ) (ownSt arg2 arg3 arg4 arg5 arg6 arg7 arg8 arg9 arg10 arg11 arg12 arg13 arg14 arg15 c) (upd v) (body k (a0, a1, a2, a3)) (fun a' s' => ∃ v', s' = upd v' ∧ (P (k.val + 1) v → P (k.val + 1 + 1) v') ∧ CStep p n (k.val + 1) (a0, a1, a2, a3) a'))
    (hQ : ∀ a0 a1 a2 a3 v', P 16 v' → CAcc p n 16 (a0, a1, a2, a3) → Q (a0, a1, a2, a3) (upd v')) :
    Runs (defs₀ (F := Ideal)) (c : Thread nD τ) (ownSt arg2 arg3 arg4 arg5 arg6 arg7 arg8 arg9 arg10 arg11 arg12 arg13 arg14 arg15 c) (upd v) (Scf.for lb ub st hok a body) Q := by
  refine Runs.loop (fun k a s => ∃ v', s = upd v' ∧ P (k + 1) v' ∧ CAcc p n (k + 1) a) ⟨v, rfl, hv, h0⟩
    (fun k a s ⟨v', hs, hv', hp⟩ => ?_) (fun a s ⟨v', hs, hv', hp⟩ => ?_)
  · subst hs
    exact (hbody k a.1 a.2.1 a.2.2.1 a.2.2.2 v').mono fun _ s' ⟨p'', hs, hw, hr⟩ => ⟨p'', hs, hw hv', hp.step hr⟩
  · subst hs; exact hQ a.1 a.2.1 a.2.2.1 a.2.2.2 v' (by rw [hn] at hv'; exact hv') (by have h := hp; rw [hn] at h; exact h)

/-- A loop that changes one array, of which it keeps `P`. -/
theorem free_loop {lb ub st : BitVec 32} {hok : Scf.OK lb ub st} (hn : Scf.trips lb ub st = 8) {β : Type} (upd : β → St) (P : ℕ → β → Prop) {v : β}
    {body : Fin (Scf.trips lb ub st) → PUnit → Prog (TpuEff nD τ sig (Elt Ideal) Λ₀ .tc) PUnit}
    {Q : PUnit → St → Prop} (hv : P 0 v)
    (hbody : ∀ k v, Runs (defs₀ (F := Ideal)) (c : Thread nD τ) (ownSt arg2 arg3 arg4 arg5 arg6 arg7 arg8 arg9 arg10 arg11 arg12 arg13 arg14 arg15 c) (upd v) (body k ⟨⟩) (fun _ s' => ∃ v', s' = upd v' ∧ (P k.val v → P (k.val + 1) v')))
    (hQ : ∀ v', P 8 v' → Q ⟨⟩ (upd v')) :
    Runs (defs₀ (F := Ideal)) (c : Thread nD τ) (ownSt arg2 arg3 arg4 arg5 arg6 arg7 arg8 arg9 arg10 arg11 arg12 arg13 arg14 arg15 c) (upd v) (Scf.for lb ub st hok ⟨⟩ body) Q := by
  refine Runs.loop (fun k _ s => ∃ v', s = upd v' ∧ P k v') ⟨v, rfl, hv⟩ (fun k _ s ⟨v', hs, hv'⟩ => ?_) (fun _ s ⟨v', hs, hv'⟩ => ?_)
  · subst hs
    exact (hbody k v').mono fun _ s' ⟨w, hs, hw⟩ => ⟨w, hs, hw hv'⟩
  · subst hs; exact hQ v' (by rw [hn] at hv'; exact hv')

section Arrays
variable {h : S256x256.Idx → EReal} {sg : S256x8x16x128.Idx → EReal} {x : S1x256x8x16x128.Idx → EReal} {o q p d0 d1 v0 v1 w0 w1 r sc}

/-- The loop over the row blocks of a tile whose columns go to `v0`. -/
theorem c_loop0 {lb ub st : BitVec 32} {hok : Scf.OK lb ub st} (hn : Scf.trips lb ub st = 15)
    (P : ℕ → (S8x128x128.Idx → EReal) → Prop) (n : ℕ) {a : Reg × Reg × Reg × Reg}
    {body : Fin (Scf.trips lb ub st) → Reg × Reg × Reg × Reg → Prog (TpuEff nD τ sig (Elt Ideal) Λ₀ .tc) (Reg × Reg × Reg × Reg)}
    {Q : Reg × Reg × Reg × Reg → St → Prop} (h0 : CAcc p n 1 a) (hv : P 1 v0)
    (hbody : ∀ k a0 a1 a2 a3 v, Runs (defs₀ (F := Ideal)) (c : Thread nD τ) (ownSt arg2 arg3 arg4 arg5 arg6 arg7 arg8 arg9 arg10 arg11 arg12 arg13 arg14 arg15 c) ⟨h, sg, x, o, q, p, d0, d1, v, v1, w0, w1, r, sc⟩ (body k (a0, a1, a2, a3))
      (fun a' s' => ∃ v', s' = ⟨h, sg, x, o, q, p, d0, d1, v', v1, w0, w1, r, sc⟩ ∧ (P (k.val + 1) v → P (k.val + 1 + 1) v') ∧ CStep p n (k.val + 1) (a0, a1, a2, a3) a'))
    (hQ : ∀ a0 a1 a2 a3 v', P 16 v' → CAcc p n 16 (a0, a1, a2, a3) → Q (a0, a1, a2, a3) ⟨h, sg, x, o, q, p, d0, d1, v', v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.for lb ub st hok a body) Q :=
  c_loop hn (fun v => ⟨h, sg, x, o, q, p, d0, d1, v, v1, w0, w1, r, sc⟩) P p n h0 hv hbody hQ

/-- The loop over the row blocks of a tile whose columns go to `v1`. -/
theorem c_loop1 {lb ub st : BitVec 32} {hok : Scf.OK lb ub st} (hn : Scf.trips lb ub st = 15)
    (P : ℕ → (S8x128x128.Idx → EReal) → Prop) (n : ℕ) {a : Reg × Reg × Reg × Reg}
    {body : Fin (Scf.trips lb ub st) → Reg × Reg × Reg × Reg → Prog (TpuEff nD τ sig (Elt Ideal) Λ₀ .tc) (Reg × Reg × Reg × Reg)}
    {Q : Reg × Reg × Reg × Reg → St → Prop} (h0 : CAcc p n 1 a) (hv : P 1 v1)
    (hbody : ∀ k a0 a1 a2 a3 v, Runs (defs₀ (F := Ideal)) (c : Thread nD τ) (ownSt arg2 arg3 arg4 arg5 arg6 arg7 arg8 arg9 arg10 arg11 arg12 arg13 arg14 arg15 c) ⟨h, sg, x, o, q, p, d0, d1, v0, v, w0, w1, r, sc⟩ (body k (a0, a1, a2, a3))
      (fun a' s' => ∃ v', s' = ⟨h, sg, x, o, q, p, d0, d1, v0, v', w0, w1, r, sc⟩ ∧ (P (k.val + 1) v → P (k.val + 1 + 1) v') ∧ CStep p n (k.val + 1) (a0, a1, a2, a3) a'))
    (hQ : ∀ a0 a1 a2 a3 v', P 16 v' → CAcc p n 16 (a0, a1, a2, a3) → Q (a0, a1, a2, a3) ⟨h, sg, x, o, q, p, d0, d1, v0, v', w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.for lb ub st hok a body) Q :=
  c_loop hn (fun v => ⟨h, sg, x, o, q, p, d0, d1, v0, v, w0, w1, r, sc⟩) P p n h0 hv hbody hQ

/-- A loop that changes `w0` only. -/
theorem w_loop0 {lb ub st : BitVec 32} {hok : Scf.OK lb ub st} (hn : Scf.trips lb ub st = 8) (P : ℕ → (S136x128.Idx → BitVec 32) → Prop)
    {body : Fin (Scf.trips lb ub st) → PUnit → Prog (TpuEff nD τ sig (Elt Ideal) Λ₀ .tc) PUnit} {Q : PUnit → St → Prop} (hv : P 0 w0)
    (hbody : ∀ k v, Runs (defs₀ (F := Ideal)) (c : Thread nD τ) (ownSt arg2 arg3 arg4 arg5 arg6 arg7 arg8 arg9 arg10 arg11 arg12 arg13 arg14 arg15 c) ⟨h, sg, x, o, q, p, d0, d1, v0, v1, v, w1, r, sc⟩ (body k ⟨⟩) (fun _ s' => ∃ v', s' = ⟨h, sg, x, o, q, p, d0, d1, v0, v1, v', w1, r, sc⟩ ∧ (P k.val v → P (k.val + 1) v')))
    (hQ : ∀ v', P 8 v' → Q ⟨⟩ ⟨h, sg, x, o, q, p, d0, d1, v0, v1, v', w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.for lb ub st hok ⟨⟩ body) Q :=
  free_loop hn (fun v => ⟨h, sg, x, o, q, p, d0, d1, v0, v1, v, w1, r, sc⟩) P hv hbody hQ

/-- A loop that changes `w1` only. -/
theorem w_loop1 {lb ub st : BitVec 32} {hok : Scf.OK lb ub st} (hn : Scf.trips lb ub st = 8) (P : ℕ → (S136x128.Idx → BitVec 32) → Prop)
    {body : Fin (Scf.trips lb ub st) → PUnit → Prog (TpuEff nD τ sig (Elt Ideal) Λ₀ .tc) PUnit} {Q : PUnit → St → Prop} (hv : P 0 w1)
    (hbody : ∀ k v, Runs (defs₀ (F := Ideal)) (c : Thread nD τ) (ownSt arg2 arg3 arg4 arg5 arg6 arg7 arg8 arg9 arg10 arg11 arg12 arg13 arg14 arg15 c) ⟨h, sg, x, o, q, p, d0, d1, v0, v1, w0, v, r, sc⟩ (body k ⟨⟩) (fun _ s' => ∃ v', s' = ⟨h, sg, x, o, q, p, d0, d1, v0, v1, w0, v', r, sc⟩ ∧ (P k.val v → P (k.val + 1) v')))
    (hQ : ∀ v', P 8 v' → Q ⟨⟩ ⟨h, sg, x, o, q, p, d0, d1, v0, v1, w0, v', r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.for lb ub st hok ⟨⟩ body) Q :=
  free_loop hn (fun v => ⟨h, sg, x, o, q, p, d0, d1, v0, v1, w0, v, r, sc⟩) P hv hbody hQ

end Arrays

end Cert.KernelIdeal.Hand

end
-- ==== Proof.KernelIdealCodes.lean ====
/- The columns of one tile, their packed codes, and the packed codes in the first output: how each step of the kernel extends them. -/
module

public import proofs.«01_k».proof.Proof.KernelIdealScale
public import Idealize.ShloMosaic.Lib.BitcastPair

@[expose] public section

set_option maxRecDepth 16384

noncomputable section

namespace Cert.KernelIdeal.Hand

open Cert.Fold Cert.KernelIdeal.Gen
open Idealize.ShloMosaic Idealize.ShloMosaic.TcCoe Idealize.SL.Sem

variable {p : S8x32x128x128.Idx → EReal}

/-! ### The columns -/

/-- The rows of the first `m` row blocks of the eight columns of tile `n`, and of one row block more the first `C` columns, are in place. -/
def VPart (p : S8x32x128x128.Idx → EReal) (n m C : ℕ) (v : S8x128x128.Idx → EReal) : Prop :=
  ∀ j < 8, ∀ t < 16, ∀ e < 8, ∀ l < 128, t < m ∨ (t = m ∧ j < C) → at3 v j (t * 8 + e) l = V p n j (t * 8 + e) l

/-- The rows of the first `m` row blocks of the eight columns of tile `n` are in place. -/
def VOn (p : S8x32x128x128.Idx → EReal) (n m : ℕ) (v : S8x128x128.Idx → EReal) : Prop := VPart p n m 0 v

theorem VOn.zero {n : ℕ} {v : S8x128x128.Idx → EReal} : VOn p n 0 v := fun _ _ _ _ _ _ _ _ h => absurd h (by omega)

theorem VPart.all {n m : ℕ} {v : S8x128x128.Idx → EReal} (h : VPart p n m 8 v) : VOn p n (m + 1) v :=
  fun j hj t ht e he l hl hm => h j hj t ht e he l hl (by omega)

theorem VPart.put {n m C : ℕ} {v : S8x128x128.Idx → EReal} {w : Reg} {off : Fin 3 → ℕ} {inb} {hc} (h : VPart p n m C v)
    (ho : off = ![C, m * 8, 0]) (hw : ∀ e < 8, ∀ l < 128, at2 w e l = V p n C (m * 8 + e) l) :
    VPart p n m (C + 1) (putR v (Rect.unit (s := S8x128x128) off S1x8x128.size inb) (shapeCast S1x8x128 w hc)) := by
  subst ho
  intro j hj t ht e he l hl hm
  refine (put3row' (n0 := 8) (n1 := 128) (n2 := 128) (m1 := 8) (m2 := 128) v inb w hc j (t * 8 + e) l).trans ?_
  by_cases hh : j = C ∧ t = m
  · obtain ⟨rfl, rfl⟩ := hh
    rw [if_pos (by omega), Nat.add_sub_cancel_left, Nat.sub_zero]
    exact hw e he l hl
  · rw [if_neg (by omega)]; exact h j hj t ht e he l hl (by omega)

/-- A row block of a column, as the kernel loads it. -/
theorem at2_vrow {n : ℕ} {v : S8x128x128.Idx → EReal} (h : VOn p n 16 v) {off : Fin 3 → ℕ} {j t : ℕ} (ho : off = ![j, t * 8, 0]) (inb) (hc)
    (e l : ℕ) (hj : j < 8) (ht : t < 16) (he : e < 8) (hl : l < 128) :
    at2 (shapeCast S8x128 (rd v (Rect.unit (s := S8x128x128) off S1x8x128.size inb).toLoadRect) hc) e l = V p n j (t * 8 + e) l := by
  subst ho
  refine (at2_cast_rd3 (m1 := 8) (m2 := 128) (n0 := 8) (n1 := 128) (n2 := 128) inb hc e l he hl).trans ?_
  refine Eq.trans ?_ (h j hj t ht e he l hl (.inl ht))
  simp

/-! ### The reciprocals of the scales -/

theorem scale_of_acc {n : ℕ} {a0 a1 a2 a3 : Reg} (h : CAcc p n 16 (a0, a1, a2, a3)) (e : ℕ) (he : e < 8) (l : ℕ) (hl : l < 128) :
    at2 (select (cmpf (F := Ideal) (φ := .f32) .oeq (mulf (maximumf (maximumf a0 a1) (maximumf a2 a3)) (broadcast S8x128 (Scalar.ofBits .f32 0x3BB504F3#32))) (broadcast S8x128 (Scalar.ofBits .f32 0x00000000#32)))
    (broadcast S8x128 (Scalar.ofBits .f32 0x3F800000#32))
    (divf (mulf (maximumf (maximumf a0 a1) (maximumf a2 a3)) (broadcast S8x128 (Scalar.ofBits .f32 0x3BB504F3#32))) (broadcast S8x128 (Scalar.ofBits .f32 0x40E00000#32))) : Reg) e l
      = Sc p n e l := by
  refine (at2_scale _ e l he hl).trans (congrArg scaleOf ?_)
  obtain ⟨h0, h1, h2, h3⟩ := h e he l hl
  simp only [at2_maximumf]
  rw [h0, h1, h2, h3]

/-- The factor that takes an unnormalised value of a group of scale `s` to its code. -/
def recip (s : EReal) : EReal := (divf (broadcast S8x128 (Scalar.ofBits .f32 0x3BB504F3#32)) (fun _ => s) : Reg) (ix2 0 0)

/-- The factors of tile `n` are in slot `k`. -/
def ROn (p : S8x32x128x128.Idx → EReal) (n k : ℕ) (r : S2x8x128.Idx → EReal) : Prop :=
  ∀ e < 8, ∀ l < 128, at3 r k e l = recip (Sc p n e l)

theorem ROn.put {n k : ℕ} {r : S2x8x128.Idx → EReal} {w : Reg} {inb} {hc} (hw : ∀ e < 8, ∀ l < 128, at2 w e l = Sc p n e l) :
    ROn p n k (putR r (Rect.unit (s := S2x8x128) ![k, 0, 0] S1x8x128.size inb)
      (shapeCast S1x8x128 (divf (broadcast S8x128 (Scalar.ofBits .f32 0x3BB504F3#32)) w : Reg) hc)) := by
  intro e he l hl
  refine (put3full (n0 := 2) (n1 := 8) (n2 := 128) r inb _ hc k e l he hl).trans ?_
  rw [if_pos rfl, ← hw e he l hl, at2, dif_pos ⟨he, hl⟩, at2, dif_pos ⟨he, hl⟩]; rfl

theorem ROn.keep {n k k' : ℕ} {r : S2x8x128.Idx → EReal} {w : Reg} {inb} {hc} (h : ROn p n k r) (hk : k ≠ k') :
    ROn p n k (putR r (Rect.unit (s := S2x8x128) ![k', 0, 0] S1x8x128.size inb) (shapeCast S1x8x128 w hc)) := by
  intro e he l hl
  refine (put3full (n0 := 2) (n1 := 8) (n2 := 128) r inb _ hc k e l he hl).trans ?_
  rw [if_neg hk]; exact h e he l hl

theorem at2_recip {n k : ℕ} {r : S2x8x128.Idx → EReal} (h : ROn p n k r) (inb) (hc) (e l : ℕ) (he : e < 8) (hl : l < 128) :
    at2 (shapeCast S8x128 (rd r (Rect.unit (s := S2x8x128) ![k, 0, 0] S1x8x128.size inb).toLoadRect) hc) e l = recip (Sc p n e l) := by
  refine (at2_cast_rd3 (m1 := 8) (m2 := 128) (n0 := 2) (n1 := 8) (n2 := 128) inb hc e l he hl).trans ?_
  refine Eq.trans ?_ (h e he l hl)
  simp

/-! ### The words -/

/-- The codes of a register of values, given the factors. -/
abbrev codesV (A R : Reg) : IVec S8x128 32 :=
  fptosi 32 (roundeven (minimumf (broadcast S8x128 (Scalar.ofBits .f32 0x40E00000#32)) (maximumf (broadcast S8x128 (Scalar.ofBits .f32 0xC0E00000#32)) (mulf A R))) : Reg)

/-- Eight registers of codes packed, four bits each. -/
abbrev packV (q0 q1 q2 q3 q4 q5 q6 q7 : IVec S8x128 32) : IVec S8x128 32 :=
  ori (ori (ori (ori (ori (ori (ori (andi q0 (broadcast S8x128 15#32))
    (shli (andi q1 (broadcast S8x128 15#32)) (broadcast S8x128 4#32)))
    (shli (andi q2 (broadcast S8x128 15#32)) (broadcast S8x128 8#32)))
    (shli (andi q3 (broadcast S8x128 15#32)) (broadcast S8x128 12#32)))
    (shli (andi q4 (broadcast S8x128 15#32)) (broadcast S8x128 16#32)))
    (shli (andi q5 (broadcast S8x128 15#32)) (broadcast S8x128 20#32)))
    (shli (andi q6 (broadcast S8x128 15#32)) (broadcast S8x128 24#32)))
    (shli (andi q7 (broadcast S8x128 15#32)) (broadcast S8x128 28#32))

/-- The code of the value `a`, given the factor. -/
def code (a r : EReal) : BitVec 32 := codesV (fun _ => a) (fun _ => r) (ix2 0 0)

/-- Eight codes packed, four bits each. -/
def packW (q0 q1 q2 q3 q4 q5 q6 q7 : BitVec 32) : BitVec 32 :=
  packV (fun _ => q0) (fun _ => q1) (fun _ => q2) (fun _ => q3) (fun _ => q4) (fun _ => q5) (fun _ => q6) (fun _ => q7) (ix2 0 0)

theorem at2_pack (A0 A1 A2 A3 A4 A5 A6 A7 R : Reg) (e l : ℕ) (he : e < 8) (hl : l < 128) :
    at2 (packV (codesV A0 R) (codesV A1 R) (codesV A2 R) (codesV A3 R) (codesV A4 R) (codesV A5 R) (codesV A6 R) (codesV A7 R)) e l
      = packW (code (at2 A0 e l) (at2 R e l)) (code (at2 A1 e l) (at2 R e l)) (code (at2 A2 e l) (at2 R e l)) (code (at2 A3 e l) (at2 R e l))
        (code (at2 A4 e l) (at2 R e l)) (code (at2 A5 e l) (at2 R e l)) (code (at2 A6 e l) (at2 R e l)) (code (at2 A7 e l) (at2 R e l)) := by
  simp only [at2, dif_pos (show e < 8 ∧ l < 128 from ⟨he, hl⟩)]
  rfl

/-- The code of row block `t`, sublane `e`, of column `j` of tile `n`. -/
def Cd (p : S8x32x128x128.Idx → EReal) (n j t e l : ℕ) : BitVec 32 := code (V p n j (t * 8 + e) l) (recip (Sc p n e l))

/-- The word of half column `u` of group `e` of tile `n`. -/
def Wd (p : S8x32x128x128.Idx → EReal) (n e u l : ℕ) : BitVec 32 :=
  packW (Cd p n (u / 2) (u % 2 * 8 + 0) e l) (Cd p n (u / 2) (u % 2 * 8 + 1) e l) (Cd p n (u / 2) (u % 2 * 8 + 2) e l)
    (Cd p n (u / 2) (u % 2 * 8 + 3) e l) (Cd p n (u / 2) (u % 2 * 8 + 4) e l) (Cd p n (u / 2) (u % 2 * 8 + 5) e l)
    (Cd p n (u / 2) (u % 2 * 8 + 6) e l) (Cd p n (u / 2) (u % 2 * 8 + 7) e l)

/-- The first `m` words of each group of tile `n` are in place, 17 rows apart. -/
def WOn (p : S8x32x128x128.Idx → EReal) (n m : ℕ) (w : S136x128.Idx → BitVec 32) : Prop :=
  ∀ e < 8, ∀ u < m, ∀ l < 128, at2 w (e * 17 + u) l = Wd p n e u l

theorem WOn.zero {n : ℕ} {w : S136x128.Idx → BitVec 32} : WOn p n 0 w := fun _ _ _ h => absurd h (Nat.not_lt_zero _)

/-- A store of eight rows, 17 rows apart. -/
theorem put_strided {α : Type} [Zero α] (w : S136x128.Idx → α) {m : ℕ} (hm : m < 17) (inb) (sp) (a : S8x128.Idx → α) (e u l : ℕ) (he : e < 8) (hu : u < 17)
    (hl : l < 128) :
    at2 (putR w ⟨(⟨![m, 0], S8x128.size, ![17, 1], inb⟩ : LoadRect S136x128), sp⟩ a) (e * 17 + u) l
      = if u = m then at2 a e l else at2 w (e * 17 + u) l := by
  rw [at2, dif_pos (show e * 17 + u < 136 ∧ l < 128 by omega)]
  by_cases h : u = m
  · subst h
    rw [if_pos rfl, at2, dif_pos ⟨he, hl⟩]
    have e1 : (⟨(⟨![u, 0], S8x128.size, ![17, 1], inb⟩ : LoadRect S136x128), sp⟩ : Rect S136x128).emb (ix2 (n0 := 8) (n1 := 128) ⟨e, he⟩ ⟨l, hl⟩)
        = ix2 (n0 := 136) (n1 := 128) ⟨e * 17 + u, by omega⟩ ⟨l, hl⟩ := by
      funext k; apply Fin.ext
      match k with
      | ⟨0, _⟩ => show u + 17 * e = e * 17 + u; omega
      | ⟨1, _⟩ => show 0 + 1 * l = l; omega
    rw [← e1, putR_emb]
  · rw [if_neg h, at2, dif_pos (show e * 17 + u < 136 ∧ l < 128 by omega)]
    refine putR_off _ _ _ _ fun j hj => h ?_
    have e0 : m + 17 * (j 0).val = e * 17 + u := congrArg Fin.val (congrFun hj 0)
    omega

theorem WOn.put {n k jh m : ℕ} {w : S136x128.Idx → BitVec 32} {a : IVec S8x128 32} {off : Fin 2 → ℕ} {inb} {sp} {hc} (h : WOn p n m w)
    (hm : m = k * 2 + jh) (hk : k < 8) (hj : jh < 2) (ho : off = ![k * 2 + jh, 0])
    (hw : ∀ e < 8, ∀ l < 128, at2 a e l = packW (Cd p n k (jh * 8 + 0) e l) (Cd p n k (jh * 8 + 1) e l) (Cd p n k (jh * 8 + 2) e l)
      (Cd p n k (jh * 8 + 3) e l) (Cd p n k (jh * 8 + 4) e l) (Cd p n k (jh * 8 + 5) e l) (Cd p n k (jh * 8 + 6) e l) (Cd p n k (jh * 8 + 7) e l)) :
    WOn p n (m + 1) (putR w ⟨(⟨off, S8x128.size, ![17, 1], inb⟩ : LoadRect S136x128), sp⟩ (shapeCast S8x128 a hc)) := by
  subst hm ho
  intro e he u hu l hl
  refine (put_strided w (by omega) inb sp _ e u l he (by omega) hl).trans ?_
  by_cases hh : u = k * 2 + jh
  · subst hh
    rw [if_pos rfl]
    refine (congrArg (fun a : IVec S8x128 32 => at2 a e l) (shapeCast_self (s := S8x128) a hc)).trans ((hw e he l hl).trans ?_)
    unfold Wd
    rw [show (k * 2 + jh) / 2 = k by omega, show (k * 2 + jh) % 2 = jh by omega]
  · rw [if_neg hh]; exact h e he u (by omega) l hl

theorem WOn.two {n m : ℕ} {w : S136x128.Idx → BitVec 32} (h : WOn p n (m * 2 + 1 + 1) w) : WOn p n ((m + 1) * 2) w := by
  rw [show (m + 1) * 2 = m * 2 + 1 + 1 by omega]; exact h

/-- One row block of codes, from what the kernel loads. -/
theorem code_row {n j t k : ℕ} {v : S8x128x128.Idx → EReal} {r : S2x8x128.Idx → EReal} (hv : VOn p n 16 v) (hr : ROn p n k r) {off : Fin 3 → ℕ}
    (ho : off = ![j, t * 8, 0]) (inb) (hc) (inb') (hc') (e l : ℕ) (hj : j < 8) (ht : t < 16) (he : e < 8) (hl : l < 128) :
    code (at2 (shapeCast S8x128 (rd v (Rect.unit (s := S8x128x128) off S1x8x128.size inb).toLoadRect) hc) e l)
      (at2 (shapeCast S8x128 (rd r (Rect.unit (s := S2x8x128) ![k, 0, 0] S1x8x128.size inb').toLoadRect) hc') e l) = Cd p n j t e l := by
  rw [at2_vrow hv ho inb hc e l hj ht he hl, at2_recip hr inb' hc' e l he hl]; rfl

theorem packW_congr {q0 q1 q2 q3 q4 q5 q6 q7 r0 r1 r2 r3 r4 r5 r6 r7 : BitVec 32} (h0 : q0 = r0) (h1 : q1 = r1) (h2 : q2 = r2) (h3 : q3 = r3)
    (h4 : q4 = r4) (h5 : q5 = r5) (h6 : q6 = r6) (h7 : q7 = r7) : packW q0 q1 q2 q3 q4 q5 q6 q7 = packW r0 r1 r2 r3 r4 r5 r6 r7 := by
  subst h0 h1 h2 h3 h4 h5 h6 h7; rfl

/-! ### The packed codes in the first output -/

/-- Byte `b` of a word. -/
def byte (b : ℕ) (x : BitVec 32) : BitVec 8 := x.extractLsb' (8 * b) 8

/-- The words as bytes, transposed. -/
theorem at2_bytes (W : IVec S128x128 32) (hb) (ht) (l k : ℕ) (hl : l < 128) (hk : k < 512) :
    at2 (transpose S128x512 [1, 0] (bitcast S512x128 8 W hb) ht) l k = byte (k % 4) (at2 W (k / 4) l) := by
  rw [at2, dif_pos ⟨hl, hk⟩, at2, dif_pos (show k / 4 < 128 ∧ l < 128 by omega)]
  refine (transpose_apply [1, 0] _ ht _ (ix2 ⟨k, hk⟩ ⟨l, hl⟩) (fun b => by fin_cases b <;> rfl)).trans ?_
  refine BitVec.eq_of_getLsbD_eq fun q hq => ?_
  rw [bitcast_getLsbD W hb _ q hq (by decide)]
  have hrow : S512x128.row (ix2 (n0 := 512) (n1 := 128) ⟨k, hk⟩ ⟨l, hl⟩) = k := rfl
  rw [byte, BitVec.getLsbD_extractLsb', decide_eq_true hq, Bool.true_and]
  have e1 : (S512x128.row (ix2 (n0 := 512) (n1 := 128) ⟨k, hk⟩ ⟨l, hl⟩) * 8 + q) % 32 = 8 * (k % 4) + q := by rw [hrow]; omega
  rw [e1]
  refine congrArg (fun x : BitVec 32 => x.getLsbD _) (congrArg W ?_)
  funext a; apply Fin.ext
  match a with
  | ⟨0, _⟩ => show (k * 8 + q) / 32 = k / 4; omega
  | ⟨1, _⟩ => rfl

/-- Eight blocks of sixteen rows joined, at an index. -/
theorem at2_concat8 {α : Type} [Zero α] (a0 a1 a2 a3 a4 a5 a6 a7 : S16x128.Idx → α) (hcat) (g : Fin 8) (u l : ℕ) (hu : u < 16) (hl : l < 128) :
    at2 (concatenate S128x128 0 [⟨S16x128, a0⟩, ⟨S16x128, a1⟩, ⟨S16x128, a2⟩, ⟨S16x128, a3⟩, ⟨S16x128, a4⟩, ⟨S16x128, a5⟩, ⟨S16x128, a6⟩, ⟨S16x128, a7⟩] hcat) (g.val * 16 + u) l
      = at2 ((![a0, a1, a2, a3, a4, a5, a6, a7] : Fin 8 → S16x128.Idx → α) g) u l := by
  have hg := g.isLt
  rw [at2, dif_pos (show g.val * 16 + u < 128 ∧ l < 128 by omega), at2, dif_pos ⟨hu, hl⟩]
  fin_cases g
  · exact concatenate_apply_piece (t := S128x128) 0 _ hcat _ 0 (by show (0 : ℕ) < 8; decide) S16x128 a0 rfl rfl 0 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 1 (by show (1 : ℕ) < 8; decide) S16x128 a1 rfl rfl 16 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 2 (by show (2 : ℕ) < 8; decide) S16x128 a2 rfl rfl 32 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 3 (by show (3 : ℕ) < 8; decide) S16x128 a3 rfl rfl 48 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 4 (by show (4 : ℕ) < 8; decide) S16x128 a4 rfl rfl 64 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 5 (by show (5 : ℕ) < 8; decide) S16x128 a5 rfl rfl 80 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 6 (by show (6 : ℕ) < 8; decide) S16x128 a6 rfl rfl 96 rfl (ix2 ⟨u, hu⟩ ⟨l, hl⟩) (fun b hb => match b, hb with | ⟨0, _⟩, hb => absurd rfl hb | ⟨1, _⟩, _ => rfl) rfl
  · exact concatenate_apply_piece (t := S128x128) 0 _ hcat _ 7 (by show (7 : ℕ) < 8; decide) S16x128 a7 rfl rfl 112 rfl (ix2 ⟨u, hu⟩ ⟨l, hl⟩) (fun b hb => match b, hb with | ⟨0, _⟩, hb => absurd rfl hb | ⟨1, _⟩, _ => rfl) rfl

/-- The first `N` tiles of packed codes are in place. -/
def OOn (p : S8x32x128x128.Idx → EReal) (N : ℕ) (o : S1x128x16384.Idx → BitVec 8) : Prop :=
  ∀ n < N, ∀ k < 512, ∀ l < 128, at3 o 0 l (n * 512 + k) = byte (k % 4) (Wd p n (k / 64) (k / 4 % 16) l)

theorem OOn.zero {o : S1x128x16384.Idx → BitVec 8} : OOn p 0 o := fun _ h => absurd h (Nat.not_lt_zero _)

theorem OOn.put {N : ℕ} {o : S1x128x16384.Idx → BitVec 8} {w : S136x128.Idx → BitVec 32} {off : Fin 3 → ℕ} {inb i0 i1 i2 i3 i4 i5 i6 i7 hcat hb ht hc}
    (h : OOn p N o) (hw : WOn p N 16 w) (ho : off = ![0, 0, N * 512]) :
    OOn p (N + 1) (putR o (Rect.unit (s := S1x128x16384) off S1x128x512.size inb) (shapeCast S1x128x512 (transpose S128x512 [1, 0] (bitcast S512x128 8
      (concatenate S128x128 0
        [⟨S16x128, rd w (Rect.unit (s := S136x128) ![0, 0] S16x128.size i0).toLoadRect⟩,
         ⟨S16x128, rd w (Rect.unit (s := S136x128) ![17, 0] S16x128.size i1).toLoadRect⟩,
         ⟨S16x128, rd w (Rect.unit (s := S136x128) ![34, 0] S16x128.size i2).toLoadRect⟩,
         ⟨S16x128, rd w (Rect.unit (s := S136x128) ![51, 0] S16x128.size i3).toLoadRect⟩,
         ⟨S16x128, rd w (Rect.unit (s := S136x128) ![68, 0] S16x128.size i4).toLoadRect⟩,
         ⟨S16x128, rd w (Rect.unit (s := S136x128) ![85, 0] S16x128.size i5).toLoadRect⟩,
         ⟨S16x128, rd w (Rect.unit (s := S136x128) ![102, 0] S16x128.size i6).toLoadRect⟩,
         ⟨S16x128, rd w (Rect.unit (s := S136x128) ![119, 0] S16x128.size i7).toLoadRect⟩] hcat) hb) ht) hc)) := by
  subst ho
  intro n hn k hk l hl
  refine (put3row' (n0 := 1) (n1 := 128) (n2 := 16384) (m1 := 128) (m2 := 512) o inb _ hc 0 l (n * 512 + k)).trans ?_
  by_cases hh : n = N
  · subst hh
    rw [if_pos (by omega), Nat.add_sub_cancel_left, Nat.sub_zero]
    refine (at2_bytes _ hb ht l k hl hk).trans (congrArg (byte (k % 4)) ?_)
    have hk4 : k / 4 = k / 64 * 16 + k / 4 % 16 := by omega
    have hg : k / 64 < 8 := by omega
    have hu : k / 4 % 16 < 16 := Nat.mod_lt _ (by decide)
    refine (congrArg (fun a => at2 _ a l) hk4).trans ?_
    refine (at2_concat8 _ _ _ _ _ _ _ _ hcat ⟨k / 64, hg⟩ (k / 4 % 16) l hu hl).trans ?_
    refine Eq.trans ?_ (hw (k / 64) hg (k / 4 % 16) hu l hl)
    generalize k / 4 % 16 = u at hu
    generalize k / 64 = g at hg
    have key : ∀ (a : ℕ) (i), at2 (rd w (Rect.unit (s := S136x128) ![a, 0] S16x128.size i).toLoadRect) u l = at2 w (a + u) l := fun a i => by
      refine (at2_rd (n0 := 136) (n1 := 128) (m0 := 16) (m1 := 128) i u l hu hl).trans ?_
      simp
    interval_cases g <;> exact key _ _
  · rw [if_neg (by omega)]; exact h n (by omega) k hk l hl

end Cert.KernelIdeal.Hand

end
-- ==== Proof.KernelIdealTrip7.lean ====
/- The region of the loop over pairs of tiles: their columns, their scales, and the packing of the tiles before. -/
module

public import proofs.«01_k».proof.Proof.KernelIdealCodes

@[expose] public section

set_option maxRecDepth 16384

noncomputable section

namespace Cert.KernelIdeal.Hand

open Cert.Fold Cert.KernelIdeal.Gen
open Idealize.ShloMosaic Idealize.ShloMosaic.TcCoe Idealize.SL.Sem

/-- The region of the loop over pairs of tiles, as the kernel has it. -/
def trip7 (i : grid0.Coords) (arg2 : Memref sig .tc .vmem S256x256 .bf16) (harg2 : arg2.IsWhole) (arg3 : Memref sig .tc .vmem S256x8x16x128 .bf16) (harg3 : arg3.IsWhole) (arg4 : Memref sig .tc .vmem S1x256x8x16x128 .bf16) (harg4 : arg4.IsWhole) (arg5 : Memref sig .tc .vmem S1x128x16384 .i8) (harg5 : arg5.IsWhole) (arg6 : Memref sig .tc .vmem S1x128x256 .f32) (harg6 : arg6.IsWhole) (arg7 : Memref sig .tc .vmem S8x32x128x128 .f32) (harg7 : arg7.IsWhole) (arg8 : Memref sig .tc .vmem S16x256x128 .f32) (harg8 : arg8.IsWhole) (arg9 : Memref sig .tc .vmem S16x256x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S136x128 .i32) (harg12 : arg12.IsWhole) (arg13 : Memref sig .tc .vmem S136x128 .i32) (harg13 : arg13.IsWhole) (arg14 : Memref sig .tc .vmem S2x8x128 .f32) (harg14 : arg14.IsWhole) (arg15 : Memref sig .tc .vmem S256x128 .f32) (harg15 : arg15.IsWhole) (c0_i32_300 c1_i32_302 : BitVec 32) (k0_t7 : Fin k0_t7_loop.trips) :
    Prog (TpuEff nD τ sig (Elt Ideal) Λ₀ .tc) PUnit := do
  let v776 : IVec S128x512 8 ← k0_part56 i arg2 harg2 arg3 harg3 arg4 harg4 arg5 harg5 arg6 harg6 arg7 harg7 arg8 harg8 arg9 harg9 arg10 harg10 arg11 harg11 arg12 harg12 arg13 harg13 arg14 harg14 arg15 harg15 c0_i32_300 c1_i32_302 k0_t7
  let v780 : Vec Ideal S1x128x512 .i8 ← Prog.lift (.load arg5 (Rect.unit (s := S1x128x16384) (k0_off190 k0_t7 1#32) S1x128x512.size (k0_off190_inb k0_t7 1)).toLoadRect (View.loadsAt_vmem h_S1x128x512))
  have v781 : IVec S128x512 8 := shapeCast S128x512 v780 shapeCasts_S1x128x512_S128x512
  have v782 : IVec S1x128x512 8 := shapeCast S1x128x512 v776 shapeCasts_S128x512_S1x128x512
  Prog.lift (.store arg5 (Rect.unit (s := S1x128x16384) (k0_off190 k0_t7 1#32) S1x128x512.size (k0_off190_inb k0_t7 1)) v782 Finset.univ (View.stores_vmem h_S1x128x512 (harg5.storeExact_slice rfl _ (k0_off190_packedi8 k0_t7 1)) (fun _ => rfl)) (.inl rfl))
  pure ⟨⟩

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {i : grid0.Coords} {c : Dev nD}
variable {h : S256x256.Idx → EReal} {sg : S256x8x16x128.Idx → EReal} {x : S1x256x8x16x128.Idx → EReal} {o q p d0 d1 v0 v1 w0 w1 r sc}

set_option maxHeartbeats 4000000 in
/-- One trip of the second loop: two tiles of scales, and two tiles of packed codes. -/
theorem trip7_runs (k0_t7 : Fin k0_t7_loop.trips) (Q : PUnit → St → Prop) (hsc : SOn p (2 * k0_t7.val + 2) sc)
    (hv1 : VOn p (2 * k0_t7.val + 1) 16 v1) (hr : ROn p (2 * k0_t7.val + 1) 1 r) (hw0 : WOn p (2 * k0_t7.val) 16 w0) (ho : OOn p (2 * k0_t7.val) o)
    (hQ : ∀ o' v0' v1' w0' w1' r' sc', SOn p (2 * k0_t7.val + 2 + 1 + 1) sc' → VOn p (2 * k0_t7.val + 2 + 1) 16 v1' →
      ROn p (2 * k0_t7.val + 2 + 1) 1 r' → WOn p (2 * k0_t7.val + 2) 16 w0' → OOn p (2 * k0_t7.val + 1 + 1) o' →
      Q ⟨⟩ ⟨h, sg, x, o', q, p, d0, d1, v0', v1', w0', w1', r', sc'⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (trip7 i arg2 harg2 arg3 harg3 arg4 harg4 arg5 harg5 arg6 harg6 arg7 harg7 arg8 harg8 arg9 harg9 arg10 harg10 arg11 harg11 arg12 harg12 arg13 harg13 arg14 harg14 arg15 harg15 0#32 1#32 k0_t7) Q := by
  unfold trip7
  repeat (first
    | with_reducible refine Runs.bind ?_
    | with_reducible refine ld5 ?_
    | with_reducible refine ld7 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)

  refine c_loop0 rfl (VOn p (2 * k0_t7.val + 2)) (2 * k0_t7.val + 2) ?_ ?_ (fun k a0 a1 a2 a3 v => ?_) (fun a0 a1 a2 a3 v hV0 hA0 => ?_)
  · intro e he l hl
    simp only [Amax_one, V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k0_t7; decide +kernel) _ _ e l he hl)
  · refine VPart.all ?_
    iterate 8 refine VPart.put ?_ (by rfl) ?_
    · exact VOn.zero
    all_goals
      intro e he l hl
      simp only [V, bfly_zero, bfly_hi, bfly_lo, Nat.reducePow, Nat.reduceDiv, Nat.reduceMod, Nat.reduceAdd, Nat.reduceSub, at2_addf, at2_subf, at2_maximumf, at2_absf]
      repeat' (first | with_reducible refine congrArg₂ HAdd.hAdd ?_ ?_ | with_reducible refine congrArg₂ HSub.hSub ?_ ?_ | with_reducible rfl | exact at2_prow (by clear * -; revert k0_t7; decide +kernel) _ _ e l he hl)
  · dsimp only
    repeat (first
      | with_reducible refine Runs.bind ?_
      | with_reducible refine ld7 ?_
      | with_reducible refine ld10 ?_
      | with_reducible refine st10 ?_
      | with_reducible refine Runs.pure ?_
      | refine Runs.bind ?_)
    refine ⟨_, rfl, fun hv => ?_, ?_⟩
    · refine VPart.all ?_
      iterate 8 refine VPart.put ?_ (by clear * -; revert k; decide +kernel) ?_
      · exact hv
      all_goals
        intro e he l hl
        simp only [V, bfly_zero, bfly_hi, bfly_lo, Nat.reducePow, Nat.reduceDiv, Nat.reduceMod, Nat.reduceAdd, Nat.reduceSub, at2_addf, at2_subf, at2_maximumf, at2_absf]
        repeat' (first | with_reducible refine congrArg₂ HAdd.hAdd ?_ ?_ | with_reducible refine congrArg₂ HSub.hSub ?_ ?_ | with_reducible rfl | exact at2_prow (by clear * -; revert k0_t7 k; decide +kernel) _ _ e l he hl)
    intro e he l hl
    simp only [V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k0_t7 k; decide +kernel) _ _ e l he hl)
  dsimp only
  repeat (first
    | with_reducible refine Runs.bind ?_
    | with_reducible refine ld5 ?_
    | with_reducible refine ld7 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine w_loop1 rfl (fun m w => WOn p (2 * k0_t7.val + 1) (m * 2) w) WOn.zero (fun k w => ?_) (fun wB hWB => ?_)
  ·
    repeat (first
      | with_reducible refine Runs.bind ?_
      | with_reducible refine ld5 ?_
      | with_reducible refine ld7 ?_
      | with_reducible refine ld10 ?_
      | with_reducible refine ld11 ?_
      | with_reducible refine ld12 ?_
      | with_reducible refine ld13 ?_
      | with_reducible refine ld14 ?_
      | with_reducible refine ld15 ?_
      | with_reducible refine st12 ?_
      | with_reducible refine st13 ?_
      | with_reducible refine Runs.pure ?_
      | refine Runs.bind ?_)
    refine ⟨_, rfl, fun hw => ?_⟩
    have hk : k.val < 8 := k.isLt
    refine WOn.two (WOn.put (k := k.val) (jh := 1) (WOn.put (k := k.val) (jh := 0) hw rfl hk (by decide) (by clear * -; revert k; decide +kernel) ?_) rfl hk (by decide) (by clear * -; revert k; decide +kernel) ?_)
    all_goals
      intro e he l hl
      refine (at2_pack _ _ _ _ _ _ _ _ _ e l he hl).trans ?_
      refine packW_congr ?_ ?_ ?_ ?_ ?_ ?_ ?_ ?_
      all_goals exact code_row hv1 (ROn.keep hr (by decide)) (by clear * -; revert k; decide +kernel) _ _ _ _ e l hk (by decide) he hl
  repeat (first
    | with_reducible refine Runs.bind ?_
    | with_reducible refine ld5 ?_
    | with_reducible refine ld7 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine c_loop1 rfl (VOn p (2 * k0_t7.val + 2 + 1)) (2 * k0_t7.val + 2 + 1) ?_ ?_ (fun k a0 a1 a2 a3 v => ?_) (fun a0 a1 a2 a3 v hV1 hA1 => ?_)
  · intro e he l hl
    simp only [Amax_one, V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k0_t7; decide +kernel) _ _ e l he hl)
  · refine VPart.all ?_
    iterate 8 refine VPart.put ?_ (by rfl) ?_
    · exact VOn.zero
    all_goals
      intro e he l hl
      simp only [V, bfly_zero, bfly_hi, bfly_lo, Nat.reducePow, Nat.reduceDiv, Nat.reduceMod, Nat.reduceAdd, Nat.reduceSub, at2_addf, at2_subf, at2_maximumf, at2_absf]
      repeat' (first | with_reducible refine congrArg₂ HAdd.hAdd ?_ ?_ | with_reducible refine congrArg₂ HSub.hSub ?_ ?_ | with_reducible rfl | exact at2_prow (by clear * -; revert k0_t7; decide +kernel) _ _ e l he hl)
  · dsimp only
    repeat (first
      | with_reducible refine Runs.bind ?_
      | with_reducible refine ld7 ?_
      | with_reducible refine ld11 ?_
      | with_reducible refine st11 ?_
      | with_reducible refine Runs.pure ?_
      | refine Runs.bind ?_)
    refine ⟨_, rfl, fun hv => ?_, ?_⟩
    · refine VPart.all ?_
      iterate 8 refine VPart.put ?_ (by clear * -; revert k; decide +kernel) ?_
      · exact hv
      all_goals
        intro e he l hl
        simp only [V, bfly_zero, bfly_hi, bfly_lo, Nat.reducePow, Nat.reduceDiv, Nat.reduceMod, Nat.reduceAdd, Nat.reduceSub, at2_addf, at2_subf, at2_maximumf, at2_absf]
        repeat' (first | with_reducible refine congrArg₂ HAdd.hAdd ?_ ?_ | with_reducible refine congrArg₂ HSub.hSub ?_ ?_ | with_reducible rfl | exact at2_prow (by clear * -; revert k0_t7 k; decide +kernel) _ _ e l he hl)
    intro e he l hl
    simp only [V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k0_t7 k; decide +kernel) _ _ e l he hl)
  dsimp only
  repeat (first
    | with_reducible refine Runs.bind ?_
    | with_reducible refine ld5 ?_
    | with_reducible refine ld7 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine w_loop0 rfl (fun m w => WOn p (2 * k0_t7.val + 2) (m * 2) w) WOn.zero (fun k w => ?_) (fun wA hWA => ?_)
  ·
    repeat (first
      | with_reducible refine Runs.bind ?_
      | with_reducible refine ld5 ?_
      | with_reducible refine ld7 ?_
      | with_reducible refine ld10 ?_
      | with_reducible refine ld11 ?_
      | with_reducible refine ld12 ?_
      | with_reducible refine ld13 ?_
      | with_reducible refine ld14 ?_
      | with_reducible refine ld15 ?_
      | with_reducible refine st12 ?_
      | with_reducible refine st13 ?_
      | with_reducible refine Runs.pure ?_
      | refine Runs.bind ?_)
    refine ⟨_, rfl, fun hw => ?_⟩
    have hk : k.val < 8 := k.isLt
    refine WOn.two (WOn.put (k := k.val) (jh := 1) (WOn.put (k := k.val) (jh := 0) hw rfl hk (by decide) (by clear * -; revert k; decide +kernel) ?_) rfl hk (by decide) (by clear * -; revert k; decide +kernel) ?_)
    all_goals
      intro e he l hl
      refine (at2_pack _ _ _ _ _ _ _ _ _ e l he hl).trans ?_
      refine packW_congr ?_ ?_ ?_ ?_ ?_ ?_ ?_ ?_
      all_goals exact code_row hV0 (ROn.keep (ROn.put (scale_of_acc hA0)) (by decide)) (by clear * -; revert k; decide +kernel) _ _ _ _ e l hk (by decide) he hl
  repeat (first
    | with_reducible refine Runs.bind ?_
    | with_reducible refine ld5 ?_
    | with_reducible refine ld7 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine hQ _ _ _ _ _ _ _ ?_ hV1 ?_ hWA ?_
  · exact SOn.step (SOn.step hsc (by clear * -; revert k0_t7; decide +kernel) (scale_of_acc hA0)) (by clear * -; revert k0_t7; decide +kernel) (scale_of_acc hA1)
  · exact ROn.put (scale_of_acc hA1)
  · exact OOn.put (OOn.put ho hw0 (by clear * -; revert k0_t7; decide +kernel)) hWB (by clear * -; revert k0_t7; decide +kernel)

end Cert.KernelIdeal.Hand

end
-- ==== Proof.KernelIdealOut.lean ====
/- The packed codes and the scales of a lane block as functions of the body's inputs. -/
module

public import proofs.«01_k».proof.Proof.KernelIdealCodes

@[expose] public section

set_option maxRecDepth 16384

noncomputable section

namespace Cert.KernelIdeal.Hand

open Cert.Fold Cert.KernelIdeal.Gen
open Idealize.ShloMosaic Idealize.ShloMosaic.TcCoe Idealize.SL.Sem

section Values
variable (h : S256x256.Idx → EReal) (sg : S256x8x16x128.Idx → EReal) (x : S1x256x8x16x128.Idx → EReal)

/-- The transform over `ih` of the products, at natural coordinates. -/
def PV (a b e l : ℕ) : EReal := bfly 4 (fun ih => D h sg x a ih ((b % 2 * 16 + e / 8) * 8 + e % 8) l) (b / 2)

/-- The first `C` columns of the transform over `ih` are in place. -/
def POn (C : ℕ) (p : S8x32x128x128.Idx → EReal) : Prop := ∀ a < C, ∀ b < 32, ∀ e < 128, ∀ l < 128, at4 p a b e l = PV h sg x a b e l

/-- The whole transform over `ih`. -/
def PA : S8x32x128x128.Idx → EReal := fun y => PV h sg x (y 0) (y 1) (y 2) (y 3)

/-- The scales of the lane block: lane `l`, group `g`. -/
def QA : S1x128x256.Idx → EReal := fun y => Sc (PA h sg x) ((y 2).val / 8) ((y 2).val % 8) (y 1)

/-- The packed codes of the lane block: lane `l`, packed index `k`. -/
def OA : S1x128x16384.Idx → BitVec 8 := fun y =>
  byte ((y 2).val % 512 % 4) (Wd (PA h sg x) ((y 2).val / 512) ((y 2).val % 512 / 64) ((y 2).val % 512 / 4 % 16) (y 1))

variable {h sg x}

theorem POn.all {p : S8x32x128x128.Idx → EReal} (hp : POn h sg x 8 p) : p = PA h sg x := by
  funext y
  rw [at4_idx p]
  exact hp _ (y 0).isLt _ (y 1).isLt _ (y 2).isLt _ (y 3).isLt

theorem POn.step {C : ℕ} {d : S16x256x128.Idx → EReal} {p p' : S8x32x128x128.Idx → EReal} (hp : POn h sg x C p) (hd : DOn h sg x C 16 d)
    (hs : Slab d C 32 p p') : POn h sg x (C + 1) p' := by
  intro a ha b hb e he l hl
  rw [hs a b e l]
  by_cases hC : a = C
  · subst hC
    rw [if_pos ⟨rfl, hb, he, hl, by omega⟩]
    exact bfly_congr 4 16 (dvd_refl _) (fun j hj => hd j hj _ (by omega) l hl) _ (by omega)
  · rw [if_neg (fun hh => hC hh.1)]; exact hp a (by omega) b hb e he l hl

theorem final_scales {p : S8x32x128x128.Idx → EReal} {sc : S256x128.Idx → EReal} (hp : POn h sg x 8 p) (hs : SOn p 32 sc)
    (q : S1x128x256.Idx → EReal) {inb inb'} (ht) (hc) :
    putR q (Rect.unit (s := S1x128x256) ![0, 0, 0] S1x128x256.size inb)
      (shapeCast S1x128x256 (transpose S128x256 [1, 0] (rd sc (Rect.unit (s := S256x128) ![0, 0] S256x128.size inb').toLoadRect) ht) hc) = QA h sg x := by
  obtain rfl := hp.all
  funext y
  refine (at3_idx (n0 := 1) (n1 := 128) (n2 := 256) _ y).trans ?_
  refine (put3full (n0 := 1) (n1 := 128) (n2 := 256) q inb _ hc (y 0) (y 1) (y 2) (y 1).isLt (y 2).isLt).trans ?_
  have h0 : (y 0).val = 0 := by have h : (y 0).val < 1 := (y 0).isLt; omega
  have h1 : (y 1).val < 128 := (y 1).isLt
  have h2 : (y 2).val < 256 := (y 2).isLt
  rw [if_pos h0, at2, dif_pos ⟨h1, h2⟩]
  refine (transpose_apply [1, 0] _ ht _ (ix2 ⟨(y 2).val, h2⟩ ⟨(y 1).val, h1⟩) (fun b => by fin_cases b <;> rfl)).trans ?_
  have e := hs ((y 2).val / 8) (by omega) ((y 2).val % 8) (by omega) _ h1
  rw [Nat.div_add_mod'] at e
  refine Eq.trans ?_ (e.trans (show _ = QA h sg x y from rfl))
  refine (at2_ix (n0 := 256) (n1 := 128) _ _ _).trans ?_
  refine (at2_rd (n0 := 256) (n1 := 128) (m0 := 256) (m1 := 128) inb' _ _ h2 h1).trans ?_
  simp

theorem final_codes {p : S8x32x128x128.Idx → EReal} {o : S1x128x16384.Idx → BitVec 8} (hp : POn h sg x 8 p) (ho : OOn p 32 o) : o = OA h sg x := by
  obtain rfl := hp.all
  funext y
  have h0 : (y 0).val = 0 := by have h : (y 0).val < 1 := (y 0).isLt; omega
  have h2 : (y 2).val < 16384 := (y 2).isLt
  refine (at3_idx (n0 := 1) (n1 := 128) (n2 := 16384) o y).trans ?_
  have e := ho ((y 2).val / 512) (by omega) ((y 2).val % 512) (by omega) (y 1).val (y 1).isLt
  rw [Nat.div_add_mod'] at e
  rw [h0]
  exact e

end Values

end Cert.KernelIdeal.Hand

end
-- ==== Proof.KernelIdealBody.lean ====
/- What one run of the kernel's body leaves in its outputs: the packed codes and the scales of its lane block. -/
module

public import proofs.«01_k».proof.Proof.KernelIdealTrip1
public import proofs.«01_k».proof.Proof.KernelIdealTrip7
public import proofs.«01_k».proof.Proof.KernelIdealOut

@[expose] public section

set_option maxRecDepth 16384

noncomputable section

namespace Cert.KernelIdeal.Hand

open Cert.Fold Cert.KernelIdeal.Gen
open Idealize.ShloMosaic Idealize.ShloMosaic.TcCoe Idealize.SL.Sem

variable {arg2 : Memref sig .tc .vmem S256x256 .bf16} {harg2 : arg2.IsWhole}
variable {arg3 : Memref sig .tc .vmem S256x8x16x128 .bf16} {harg3 : arg3.IsWhole}
variable {arg4 : Memref sig .tc .vmem S1x256x8x16x128 .bf16} {harg4 : arg4.IsWhole}
variable {arg5 : Memref sig .tc .vmem S1x128x16384 .i8} {harg5 : arg5.IsWhole}
variable {arg6 : Memref sig .tc .vmem S1x128x256 .f32} {harg6 : arg6.IsWhole}
variable {arg7 : Memref sig .tc .vmem S8x32x128x128 .f32} {harg7 : arg7.IsWhole}
variable {arg8 : Memref sig .tc .vmem S16x256x128 .f32} {harg8 : arg8.IsWhole}
variable {arg9 : Memref sig .tc .vmem S16x256x128 .f32} {harg9 : arg9.IsWhole}
variable {arg10 : Memref sig .tc .vmem S8x128x128 .f32} {harg10 : arg10.IsWhole}
variable {arg11 : Memref sig .tc .vmem S8x128x128 .f32} {harg11 : arg11.IsWhole}
variable {arg12 : Memref sig .tc .vmem S136x128 .i32} {harg12 : arg12.IsWhole}
variable {arg13 : Memref sig .tc .vmem S136x128 .i32} {harg13 : arg13.IsWhole}
variable {arg14 : Memref sig .tc .vmem S2x8x128 .f32} {harg14 : arg14.IsWhole}
variable {arg15 : Memref sig .tc .vmem S256x128 .f32} {harg15 : arg15.IsWhole}
variable {i : grid0.Coords} {c : Dev nD}
variable {h : S256x256.Idx → EReal} {sg : S256x8x16x128.Idx → EReal} {x : S1x256x8x16x128.Idx → EReal} {o q p d0 d1 v0 v1 w0 w1 r sc}

/-- The loop over pairs of columns leaves the whole transform over `ih`. -/
theorem t1_loop {Q : PUnit → St → Prop} (h0 : DOn h sg x 0 16 d0)
    (hQ : ∀ p' d0' d1', POn h sg x 8 p' → Q ⟨⟩ ⟨h, sg, x, o, q, p', d0', d1', v0, v1, w0, w1, r, sc⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.Loop.for k0_t1_loop k0_t1_ok ⟨⟩ fun k0_t1 _ => trip1 i arg2 harg2 arg3 harg3 arg4 harg4 arg5 harg5 arg6 harg6 arg7 harg7 arg8 harg8 arg9 harg9 arg10 harg10 arg11 harg11 arg12 harg12 arg13 harg13 arg14 harg14 arg15 harg15 0#32 1#32 k0_t1) Q := by
  refine Runs.loop (fun k _ s => ∃ p' d0' d1', s = ⟨h, sg, x, o, q, p', d0', d1', v0, v1, w0, w1, r, sc⟩ ∧ POn h sg x (2 * k) p' ∧ DOn h sg x (min (2 * k) 7) 16 d0')
    ⟨p, d0, d1, rfl, fun a ha => absurd ha (by omega), h0⟩ (fun k _ s ⟨p', d0', d1', hs, hp, hd⟩ => ?_) (fun _ s ⟨p', d0', d1', hs, hp, _⟩ => ?_)
  · subst hs
    have hk : k.val < 4 := k.isLt
    refine trip1_runs k _ fun p1 p2 d0'' d1'' s1 s2 e1 e2 => ⟨p2, d0'', d1'', rfl, ?_, e2⟩
    rw [min_eq_left (by omega)] at hd
    exact (hp.step hd s1).step e1 s2
  · subst hs; exact hQ p' d0' d1' hp

/-- The loop over pairs of tiles leaves the scales of all tiles and the packed codes of all but the last two. -/
theorem t7_loop {Q : PUnit → St → Prop} (h0 : SOn p 2 sc) (hv1 : VOn p 1 16 v1) (hr : ROn p 1 1 r)
    (hw0 : WOn p 0 16 w0)
    (hQ : ∀ o' v0' v1' w0' w1' r' sc', SOn p 32 sc' → VOn p 31 16 v1' → ROn p 31 1 r' → WOn p 30 16 w0' → OOn p 30 o' →
      Q ⟨⟩ ⟨h, sg, x, o', q, p, d0, d1, v0', v1', w0', w1', r', sc'⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (Scf.Loop.for k0_t7_loop k0_t7_ok ⟨⟩ fun k0_t7 _ => trip7 i arg2 harg2 arg3 harg3 arg4 harg4 arg5 harg5 arg6 harg6 arg7 harg7 arg8 harg8 arg9 harg9 arg10 harg10 arg11 harg11 arg12 harg12 arg13 harg13 arg14 harg14 arg15 harg15 0#32 1#32 k0_t7) Q := by
  refine Runs.loop (fun k _ s => ∃ o' v0' v1' w0' w1' r' sc', s = ⟨h, sg, x, o', q, p, d0, d1, v0', v1', w0', w1', r', sc'⟩ ∧ SOn p (2 * k + 2) sc'
      ∧ VOn p (2 * k + 1) 16 v1' ∧ ROn p (2 * k + 1) 1 r' ∧ WOn p (2 * k) 16 w0' ∧ OOn p (2 * k) o')
    ⟨o, v0, v1, w0, w1, r, sc, rfl, h0, hv1, hr, hw0, OOn.zero⟩ (fun k _ s ⟨o', v0', v1', w0', w1', r', sc', hs, hp, h1, h2, h3, h4⟩ => ?_)
    (fun _ s ⟨o', v0', v1', w0', w1', r', sc', hs, hp, h1, h2, h3, h4⟩ => ?_)
  · subst hs
    exact trip7_runs k _ hp h1 h2 h3 h4 fun o' v0' v1' w0' w1' r' sc' hs g1 g2 g3 g4 => ⟨o', v0', v1', w0', w1', r', sc', rfl, hs, g1, g2, g3, g4⟩
  · subst hs; exact hQ o' v0' v1' w0' w1' r' sc' hp h1 h2 h3 h4

set_option maxHeartbeats 4000000 in
/-- One run of the body writes the packed codes and the scales of its lane block. -/
theorem fold_runs (Q : PUnit → St → Prop) (hQ : ∀ p' d0' d1' v0' v1' w0' w1' r' sc',
      Q ⟨⟩ ⟨h, sg, x, OA h sg x, QA h sg x, p', d0', d1', v0', v1', w0', w1', r', sc'⟩) :
    Runs (defs₀ (F := Ideal)) (c : Thread nD τ) (ownSt arg2 arg3 arg4 arg5 arg6 arg7 arg8 arg9 arg10 arg11 arg12 arg13 arg14 arg15 c) ⟨h, sg, x, o, q, p, d0, d1, v0, v1, w0, w1, r, sc⟩ (cc0_hadamard_fold i arg2 harg2 arg3 harg3 arg4 harg4 arg5 harg5 arg6 harg6 arg7 harg7 arg8 harg8 arg9 harg9 arg10 harg10 arg11 harg11 arg12 harg12 arg13 harg13 arg14 harg14 arg15 harg15) Q := by
  unfold cc0_hadamard_fold
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine t1_loop ?_ fun p' d0' d1' hp => ?_
  · iterate 8
      refine DOn.step _ (by
        intro r hr l hl
        refine mm_snd ?_ ?_ _ _ _ _ _ _ _ _ _ _ r l hr hl
        all_goals rfl) rfl ?_
      refine DOn.step _ (by
        intro r hr l hl
        refine mm_fst ?_ ?_ _ _ _ _ _ _ _ _ _ _ r l hr hl
        all_goals rfl) rfl ?_
    exact DOn.zero
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine c_loop0 rfl (VOn p' 0) 0 ?_ ?_ (fun k a0 a1 a2 a3 v => ?_) (fun a0 a1 a2 a3 v hV0 hA0 => ?_)
  · intro e he l hl
    simp only [Amax_one, V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by rfl) _ _ e l he hl)
  · refine VPart.all ?_
    iterate 8 refine VPart.put ?_ (by rfl) ?_
    · exact VOn.zero
    all_goals
      intro e he l hl
      simp only [V, bfly_zero, bfly_hi, bfly_lo, Nat.reducePow, Nat.reduceDiv, Nat.reduceMod, Nat.reduceAdd, Nat.reduceSub, at2_addf, at2_subf, at2_maximumf, at2_absf]
      repeat' (first | with_reducible refine congrArg₂ HAdd.hAdd ?_ ?_ | with_reducible refine congrArg₂ HSub.hSub ?_ ?_ | with_reducible rfl | exact at2_prow (by rfl) _ _ e l he hl)
  · dsimp only
    repeat (first
      | with_reducible refine Runs.bind ?_
      | with_reducible refine ld7 ?_
      | with_reducible refine ld10 ?_
      | with_reducible refine st10 ?_
      | with_reducible refine Runs.pure ?_
      | refine Runs.bind ?_)
    refine ⟨_, rfl, fun hv => ?_, ?_⟩
    · refine VPart.all ?_
      iterate 8 refine VPart.put ?_ (by clear * -; revert k; decide +kernel) ?_
      · exact hv
      all_goals
        intro e he l hl
        simp only [V, bfly_zero, bfly_hi, bfly_lo, Nat.reducePow, Nat.reduceDiv, Nat.reduceMod, Nat.reduceAdd, Nat.reduceSub, at2_addf, at2_subf, at2_maximumf, at2_absf]
        repeat' (first | with_reducible refine congrArg₂ HAdd.hAdd ?_ ?_ | with_reducible refine congrArg₂ HSub.hSub ?_ ?_ | with_reducible rfl | exact at2_prow (by clear * -; revert k; decide +kernel) _ _ e l he hl)
    intro e he l hl
    simp only [V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k; decide +kernel) _ _ e l he hl)
  dsimp only
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine c_loop1 rfl (VOn p' (0 + 1)) (0 + 1) ?_ ?_ (fun k a0 a1 a2 a3 v => ?_) (fun a0 a1 a2 a3 v hV1 hA1 => ?_)
  · intro e he l hl
    simp only [Amax_one, V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by rfl) _ _ e l he hl)
  · refine VPart.all ?_
    iterate 8 refine VPart.put ?_ (by rfl) ?_
    · exact VOn.zero
    all_goals
      intro e he l hl
      simp only [V, bfly_zero, bfly_hi, bfly_lo, Nat.reducePow, Nat.reduceDiv, Nat.reduceMod, Nat.reduceAdd, Nat.reduceSub, at2_addf, at2_subf, at2_maximumf, at2_absf]
      repeat' (first | with_reducible refine congrArg₂ HAdd.hAdd ?_ ?_ | with_reducible refine congrArg₂ HSub.hSub ?_ ?_ | with_reducible rfl | exact at2_prow (by rfl) _ _ e l he hl)
  · dsimp only
    repeat (first
      | with_reducible refine Runs.bind ?_
      | with_reducible refine ld7 ?_
      | with_reducible refine ld11 ?_
      | with_reducible refine st11 ?_
      | with_reducible refine Runs.pure ?_
      | refine Runs.bind ?_)
    refine ⟨_, rfl, fun hv => ?_, ?_⟩
    · refine VPart.all ?_
      iterate 8 refine VPart.put ?_ (by clear * -; revert k; decide +kernel) ?_
      · exact hv
      all_goals
        intro e he l hl
        simp only [V, bfly_zero, bfly_hi, bfly_lo, Nat.reducePow, Nat.reduceDiv, Nat.reduceMod, Nat.reduceAdd, Nat.reduceSub, at2_addf, at2_subf, at2_maximumf, at2_absf]
        repeat' (first | with_reducible refine congrArg₂ HAdd.hAdd ?_ ?_ | with_reducible refine congrArg₂ HSub.hSub ?_ ?_ | with_reducible rfl | exact at2_prow (by clear * -; revert k; decide +kernel) _ _ e l he hl)
    intro e he l hl
    simp only [V, bfly_zero, bfly_hi, bfly_lo, Nat.reducePow, Nat.reduceDiv, Nat.reduceMod, Nat.reduceAdd, Nat.reduceSub, at2_addf, at2_subf, at2_maximumf, at2_absf]
    refine ⟨?_, ?_, ?_, ?_⟩
    all_goals repeat' (first | with_reducible refine congrArg₂ max ?_ ?_ | with_reducible refine congrArg mag ?_ | with_reducible refine congrArg₂ HAdd.hAdd ?_ ?_ | with_reducible refine congrArg₂ HSub.hSub ?_ ?_ | with_reducible rfl | exact at2_prow (by clear * -; revert k; decide +kernel) _ _ e l he hl)
  dsimp only
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine w_loop0 rfl (fun m w => WOn p' 0 (m * 2) w) WOn.zero (fun k w => ?_) (fun wA hWA => ?_)
  ·
    repeat (first
      | with_reducible refine Runs.bind ?_
      | with_reducible refine ld2 ?_
      | with_reducible refine ld3 ?_
      | with_reducible refine ld4 ?_
      | with_reducible refine ld5 ?_
      | with_reducible refine ld6 ?_
      | with_reducible refine ld7 ?_
      | with_reducible refine ld8 ?_
      | with_reducible refine ld9 ?_
      | with_reducible refine ld10 ?_
      | with_reducible refine ld11 ?_
      | with_reducible refine ld12 ?_
      | with_reducible refine ld13 ?_
      | with_reducible refine ld14 ?_
      | with_reducible refine ld15 ?_
      | with_reducible refine st12 ?_
      | with_reducible refine st13 ?_
      | with_reducible refine Runs.pure ?_
      | refine Runs.bind ?_)
    refine ⟨_, rfl, fun hw => ?_⟩
    have hk : k.val < 8 := k.isLt
    refine WOn.two (WOn.put (k := k.val) (jh := 1) (WOn.put (k := k.val) (jh := 0) hw rfl hk (by decide) (by clear * -; revert k; decide +kernel) ?_) rfl hk (by decide) (by clear * -; revert k; decide +kernel) ?_)
    all_goals
      intro e he l hl
      refine (at2_pack _ _ _ _ _ _ _ _ _ e l he hl).trans ?_
      refine packW_congr ?_ ?_ ?_ ?_ ?_ ?_ ?_ ?_
      all_goals exact code_row hV0 (ROn.keep (ROn.put (scale_of_acc hA0)) (by decide)) (by clear * -; revert k; decide +kernel) _ _ _ _ e l hk (by decide) he hl
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine t7_loop ?_ hV1 ?_ hWA fun o' v0' v1' w0' w1' r' sc' hsc hv31 hr31 hw30 ho30 => ?_
  · exact SOn.step (SOn.step (fun n hn => absurd hn (Nat.not_lt_zero n)) rfl (scale_of_acc hA0)) rfl (scale_of_acc hA1)
  · exact ROn.put (scale_of_acc hA1)
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  refine w_loop1 rfl (fun m w => WOn p' 31 (m * 2) w) WOn.zero (fun k w => ?_) (fun wB hWB => ?_)
  ·
    repeat (first
      | with_reducible refine Runs.bind ?_
      | with_reducible refine ld2 ?_
      | with_reducible refine ld3 ?_
      | with_reducible refine ld4 ?_
      | with_reducible refine ld5 ?_
      | with_reducible refine ld6 ?_
      | with_reducible refine ld7 ?_
      | with_reducible refine ld8 ?_
      | with_reducible refine ld9 ?_
      | with_reducible refine ld10 ?_
      | with_reducible refine ld11 ?_
      | with_reducible refine ld12 ?_
      | with_reducible refine ld13 ?_
      | with_reducible refine ld14 ?_
      | with_reducible refine ld15 ?_
      | with_reducible refine st12 ?_
      | with_reducible refine st13 ?_
      | with_reducible refine Runs.pure ?_
      | refine Runs.bind ?_)
    refine ⟨_, rfl, fun hw => ?_⟩
    have hk : k.val < 8 := k.isLt
    refine WOn.two (WOn.put (k := k.val) (jh := 1) (WOn.put (k := k.val) (jh := 0) hw rfl hk (by decide) (by clear * -; revert k; decide +kernel) ?_) rfl hk (by decide) (by clear * -; revert k; decide +kernel) ?_)
    all_goals
      intro e he l hl
      refine (at2_pack _ _ _ _ _ _ _ _ _ e l he hl).trans ?_
      refine packW_congr ?_ ?_ ?_ ?_ ?_ ?_ ?_ ?_
      all_goals exact code_row hv31 hr31 (by clear * -; revert k; decide +kernel) _ _ _ _ e l hk (by decide) he hl
  repeat (first
    | with_reducible refine Runs.bind ?_
    | with_reducible refine ld2 ?_
    | with_reducible refine ld3 ?_
    | with_reducible refine ld4 ?_
    | with_reducible refine ld5 ?_
    | with_reducible refine ld6 ?_
    | with_reducible refine ld7 ?_
    | with_reducible refine ld8 ?_
    | with_reducible refine ld9 ?_
    | with_reducible refine ld10 ?_
    | with_reducible refine ld11 ?_
    | with_reducible refine ld12 ?_
    | with_reducible refine ld13 ?_
    | with_reducible refine ld14 ?_
    | with_reducible refine ld15 ?_
    | with_reducible refine st5 ?_
    | with_reducible refine st6 ?_
    | with_reducible refine st7 ?_
    | with_reducible refine st8 ?_
    | with_reducible refine st9 ?_
    | with_reducible refine st10 ?_
    | with_reducible refine st11 ?_
    | with_reducible refine st12 ?_
    | with_reducible refine st13 ?_
    | with_reducible refine st14 ?_
    | with_reducible refine st15 ?_
    | with_reducible refine Runs.pure ?_
    | refine Runs.bind ?_)
  rw [final_scales hp hsc, final_codes hp (OOn.put (OOn.put ho30 hw30 rfl) hWB rfl)]
  exact hQ _ _ _ _ _ _ _ _ _

end Cert.KernelIdeal.Hand

end
-- ==== Proof.KernelIdealValue.lean ====
/- The kernel's run with its two results: the arrays hold, block by block, what the body computes from its three input blocks. -/
module

public import proofs.«01_k».proof.Proof.KernelIdealFrame
public import proofs.«01_k».proof.Proof.KernelIdealBody

@[expose] public section

set_option maxRecDepth 16384

noncomputable section

namespace Cert.KernelIdeal.Hand

open Cert.KernelIdeal.Gen Cert.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Lend
variable (arg2 : Memref sig .tc .vmem S256x256 .bf16)
variable (arg3 : Memref sig .tc .vmem S256x8x16x128 .bf16)
variable (arg4 : Memref sig .tc .vmem S1x256x8x16x128 .bf16)
variable (arg5 : Memref sig .tc .vmem S1x128x16384 .i8)
variable (arg6 : Memref sig .tc .vmem S1x128x256 .f32)
variable (arg7 : Memref sig .tc .vmem S8x32x128x128 .f32)
variable (arg8 : Memref sig .tc .vmem S16x256x128 .f32)
variable (arg9 : Memref sig .tc .vmem S16x256x128 .f32)
variable (arg10 : Memref sig .tc .vmem S8x128x128 .f32)
variable (arg11 : Memref sig .tc .vmem S8x128x128 .f32)
variable (arg12 : Memref sig .tc .vmem S136x128 .i32)
variable (arg13 : Memref sig .tc .vmem S136x128 .i32)
variable (arg14 : Memref sig .tc .vmem S2x8x128 .f32)
variable (arg15 : Memref sig .tc .vmem S256x128 .f32)
variable (c : Dev nD)
variable (X2 : S256x256.Idx → EReal) (X3 : S256x8x16x128.Idx → EReal) (X4 : S1x256x8x16x128.Idx → EReal) (X5 : S1x128x16384.Idx → BitVec 8) (X6 : S1x128x256.Idx → EReal)

/-- The body's fourteen memrefs: the inputs and the results at the given contents, the rest at anything. -/
def heldV : sProp (MT nD τ sig Unit (Elt Ideal) ℕ (UR sig nD τ) ℕ) :=
  iprop(owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ (∃ X, owns (c : Thread nD τ) arg7 fullShare X)
    ∗ (∃ X, owns (c : Thread nD τ) arg8 fullShare X)
    ∗ (∃ X, owns (c : Thread nD τ) arg9 fullShare X)
    ∗ (∃ X, owns (c : Thread nD τ) arg10 fullShare X)
    ∗ (∃ X, owns (c : Thread nD τ) arg11 fullShare X)
    ∗ (∃ X, owns (c : Thread nD τ) arg12 fullShare X)
    ∗ (∃ X, owns (c : Thread nD τ) arg13 fullShare X)
    ∗ (∃ X, owns (c : Thread nD τ) arg14 fullShare X)
    ∗ (∃ X, owns (c : Thread nD τ) arg15 fullShare X))

theorem heldV_of :
    iprop(∃ s', ⌜∃ p' d0' d1' v0' v1' w0' w1' r' sc', s' = (⟨X2, X3, X4, X5, X6, p', d0', d1', v0', v1', w0', w1', r', sc'⟩ : St)⌝
      ∗ ownSt arg2 arg3 arg4 arg5 arg6 arg7 arg8 arg9 arg10 arg11 arg12 arg13 arg14 arg15 c s') ⊢ (heldV arg2 arg3 arg4 arg5 arg6 arg7 arg8 arg9 arg10 arg11 arg12 arg13 arg14 arg15 c X2 X3 X4 X5 X6 : sProp (MT nD τ sig Unit (Elt Ideal) ℕ (UR sig nD τ) ℕ)) := by
  iintro ⟨%s', %hq, H⟩
  obtain ⟨p', d0', d1', v0', v1', w0', w1', r', sc', rfl⟩ := hq
  unfold ownSt heldV
  icases H with ⟨H2, H3, H4, H5, H6, H7, H8, H9, H10, H11, H12, H13, H14, H15⟩
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

/-- One run of the body, from any contents of the results and the scratch buffers. -/
theorem fold_heldV {i : grid0.Coords} {harg2 harg3 harg4 harg5 harg6 harg7 harg8 harg9 harg10 harg11 harg12 harg13 harg14 harg15} {o q p d0 d1 v0 v1 w0 w1 r sc} :
    ownSt arg2 arg3 arg4 arg5 arg6 arg7 arg8 arg9 arg10 arg11 arg12 arg13 arg14 arg15 c ⟨X2, X3, X4, o, q, p, d0, d1, v0, v1, w0, w1, r, sc⟩
      ⊢ wp frame (wpE (defs₀ (F := Ideal)) Variants.none (c : Thread nD τ) none) Set.univ
          (cc0_hadamard_fold i arg2 harg2 arg3 harg3 arg4 harg4 arg5 harg5 arg6 harg6 arg7 harg7 arg8 harg8 arg9 harg9 arg10 harg10 arg11 harg11 arg12 harg12 arg13 harg13 arg14 harg14 arg15 harg15) (fun _ => heldV arg2 arg3 arg4 arg5 arg6 arg7 arg8 arg9 arg10 arg11 arg12 arg13 arg14 arg15 c X2 X3 X4 (OA X2 X3 X4) (QA X2 X3 X4)) :=
  BIBase.Entails.trans (fold_runs (c := c) (fun _ s' => ∃ p' d0' d1' v0' v1' w0' w1' r' sc',
      s' = (⟨X2, X3, X4, OA X2 X3 X4, QA X2 X3 X4, p', d0', d1', v0', v1', w0', w1', r', sc'⟩ : St))
      fun p' d0' d1' v0' v1' w0' w1' r' sc' => ⟨p', d0', d1', v0', v1', w0', w1', r', sc', rfl⟩)
    (wp_mono _ _ _ fun _ => heldV_of arg2 arg3 arg4 arg5 arg6 arg7 arg8 arg9 arg10 arg11 arg12 arg13 arg14 arg15 c X2 X3 X4 (OA X2 X3 X4) (QA X2 X3 X4))

end Lend

variable (m : (ℓ : Loc nD τ sig) → Buf (Elt Ideal) ℓ) (ρ : Dev nD → PrngReg)

/-- No window is forgotten here: the run reads every one. -/
def forgetsV : Fin 5 → Bool := fun _ => false

/-- The packed codes that the body computes at a grid point. -/
def outO (c : Dev nD) (t : Fin cfg0.N) : S1x128x16384.Idx → BitVec 8 := OA (iblk m c 0 t) (iblk m c 1 t) (iblk m c 2 t)

/-- The scales that the body computes at a grid point. -/
def outQ (c : Dev nD) (t : Fin cfg0.N) : S1x128x256.Idx → EReal := QA (iblk m c 0 t) (iblk m c 1 t) (iblk m c 2 t)

/-- What the pipeline holds of each window: the inputs whole, the results block by block. -/
def datsV (_ : Fin 1) (c : Dev nD) : Dat τ (Elt Ideal) Unit ℕ (UR sig nD τ) ℕ cfg0 c where
  A w := Gen.V m c (Pipeline.arrRef spec0 w)
  after := fun
    | 0 => fun t => iblk m c 0 t
    | 1 => fun t => iblk m c 1 t
    | 2 => fun t => iblk m c 2 t
    | 3 => fun t => outO m c t
    | 4 => fun t => outQ m c t
  Φ _ := Pipeline.ΦA spec0 c
  q _ := fullShare
  owed _ := 0

theorem A_eqV (c : Dev nD) (w : Fin cfg0.W) : (datsV m 0 c).A w = Gen.V m c (Pipeline.arrRef spec0 w) := by dsimp only [datsV]

theorem before_0V (c : Dev nD) (t : Fin cfg0.N) (d) : (datsV m 0 c).before 0 t d = iblk m c 0 t :=
  before0_0_of m (datsV m 0 c) (A_eqV m c 0) (fun t => by dsimp only [datsV]) t d
theorem before_1V (c : Dev nD) (t : Fin cfg0.N) (d) : (datsV m 0 c).before 1 t d = iblk m c 1 t :=
  before0_1_of m (datsV m 0 c) (A_eqV m c 1) (fun t => by dsimp only [datsV]) t d
theorem before_2V (c : Dev nD) (t : Fin cfg0.N) (d) : (datsV m 0 c).before 2 t d = iblk m c 2 t :=
  before0_2_of m (datsV m 0 c) (A_eqV m c 2) (fun t => by dsimp only [datsV]) t d

def bodyPreV (c : Dev nD) (t : Fin cfg0.N) : sProp (MT nD τ sig Unit (Elt Ideal) ℕ (UR sig nD τ) ℕ) :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d)))
def bodyPostV (c : Dev nD) (t : Fin cfg0.N) : sProp (MT nD τ sig Unit (Elt Ideal) ℕ (UR sig nD τ) ℕ) :=
  iprop((datsV m 0 c).Φ t.succ ∗ (datsV m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (outO m c t)
    ∗ owns (c : Thread nD τ) (st0_4 t) fullShare (outQ m c t))

/-- The body at one grid point, from the blocks to the results. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  rw [show (datsV m 0 c).Φ t.succ = (datsV m 0 c).Φ t.castSucc from rfl,
    show (datsV m 0 c).owesAt () t.succ = (datsV m 0 c).owesAt () t.castSucc from rfl,
    show (datsV m 0 c).Φ t.castSucc = Pipeline.ΦA spec0 c from rfl, PhiA0_eq]
  simp only [before_0V, before_1V, before_2V]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hg⟩, HO, ⟨%d0, H0⟩, ⟨%d1, H1⟩, ⟨%d2, H2⟩, ⟨%d3, H3⟩, ⟨%d4, H4⟩⟩
  iapply (wp_wand_r frame (wpE (defs₀ (F := Ideal)) Variants.none c none) Set.univ
    (Q := fun _ => heldV (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t) (outO m c t) (outQ m c t)))
  isplitl [S0 S1 S2 S3 S4 S5 S6 S7 S8 H0 H1 H2 H3 H4]
  · iapply (fold_heldV (st0_0 t) (st0_1 t) (st0_2 t) (st0_3 t) (st0_4 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c (iblk m c 0 t) (iblk m c 1 t) (iblk m c 2 t))
    unfold ownSt
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iintro %a H
    unfold heldV
    icases H with ⟨H0, H1, H2, H3, H4, S0, S1, S2, S3, S4, S5, S6, S7, S8⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · iexact Hg
    isplitl [HO]; · iexact HO
    isplitl [H0]; · iexact H0
    isplitl [H1]; · iexact H1
    isplitl [H2]; · iexact H2
    isplitl [H3]; · iexact H3
    iexact H4

/-- The body meets the pipeline's demand at every grid point. -/
theorem body_obligationV (c : Dev nD) :
    BodyObligation (datsV m 0 c) (defs₀ (F := Ideal)) Variants.none () Set.univ forgetsV := fun t => by
  rw [bigSep_W0, bigSep_W0, defs₀_row]
  exact triple_restated (sound_bodyV m c t) rfl .rfl fun _ => .rfl

set_option backward.isDefEq.respectTransparency.types false in
/-- The whole program runs, ending with what the pipeline wrote. -/
theorem run_mainV :
    θ_run defs (onTc (τ := τ) (main (F := Ideal))) (s₀ m ρ)
      (fun r => Pipeline.RDat.FramePost (cfgs 0) (fun c => (datsV m 0 c).toRForget forgetsV) (Gen.V m) r ∧ r.2.sem = fun _ => 0) :=
  Pipeline.θ_run_frame_forget (Q' := _) cfgs (datsV m) (0 : Fin 1) launch0 defs₀ Variants.none forgetsV m ρ main
    (hbody := fun c => (body_obligationV m c).loose) (hshare := fun c => (datsV m 0 c).share_full fun _ => rfl)
    (howed := fun _ _ => rfl) (V := Gen.V m) (hmain := hmain m Variants.none) (hA := A_eqV m) (hΦ := fun _ _ => rfl) (hQ' := fun _ h => h)

/-- The program's run: the results' arrays hold what the pipeline wrote of the body's results, the arguments end unchanged. -/
theorem run_results :
    θ_run defs (onTc (τ := τ) (main (F := Ideal))) ⟨m, fun _ => 0, ρ⟩ (fun r => ∀ c : Dev nD,
      r.2.mem ((c.tc : Thread nD τ).loc main_v39_0) = (datsV m 0 c).arrAt 3 cfg0.N
      ∧ r.2.mem ((c.tc : Thread nD τ).loc main_v39_1) = (datsV m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((datsV m 0 c).toRForget_arrAt_iff (fgt := forgetsV) (w := 3) rfl _ _).mp ((h.1 c).1 3),
    ((datsV m 0 c).toRForget_arrAt_iff (fgt := forgetsV) (w := 4) rfl _ _).mp ((h.1 c).1 4),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩) (run_mainV m ρ)

end Cert.KernelIdeal.Hand

end
-- ==== Proof.ButterflySum.lean ====
/- The butterfly as a signed sum: of real entries it is the Hadamard transform of each aligned block; where an entry of a block is
   infinite every output of the block is. -/
module

public import proofs.«01_k».proof.Proof.Butterfly
public import Mathlib.Data.Nat.Bitwise
public import Mathlib.Algebra.BigOperators.Intervals
public import Mathlib.Algebra.BigOperators.Ring.Finset
public import Mathlib.Tactic.Ring
public import Mathlib.Tactic.Positivity
public import Mathlib.Tactic.Linarith

@[expose] public section

noncomputable section

namespace Cert.Fold

/-- The sign of row `i`, column `j`: one factor `-1` for each of the lowest `n` bits that both have. -/
def chi (n i j : ℕ) : ℝ := ∏ t ∈ Finset.range n, if (i.testBit t && j.testBit t) = true then (-1 : ℝ) else 1

/-- One more bit of the sign. -/
theorem chi_succ (n i j : ℕ) : chi (n + 1) i j = chi n i j * (if (i.testBit n && j.testBit n) = true then (-1 : ℝ) else 1) := by
  rw [chi, Finset.prod_range_succ]; rfl

/-- The sign reads only the low bits of its two numbers. -/
theorem chi_congr {n i i' j j' : ℕ} (hi : ∀ t < n, i.testBit t = i'.testBit t) (hj : ∀ t < n, j.testBit t = j'.testBit t) :
    chi n i j = chi n i' j' := by
  unfold chi
  refine Finset.prod_congr rfl fun t ht => ?_
  rw [hi t (Finset.mem_range.1 ht), hj t (Finset.mem_range.1 ht)]

/-- The signs of digits in base `2 ^ m`. -/
theorem chi_digits (m n a b a' b' : ℕ) (hb : b < 2 ^ m) (hb' : b' < 2 ^ m) :
    chi (m + n) (2 ^ m * a + b) (2 ^ m * a' + b') = chi m b b' * chi n a a' := by
  unfold chi
  rw [Finset.prod_range_add]
  congr 1
  · refine Finset.prod_congr rfl fun t ht => ?_
    have ht := Finset.mem_range.1 ht
    rw [Nat.testBit_two_pow_mul_add a hb, Nat.testBit_two_pow_mul_add a' hb', if_pos ht, if_pos ht]
  · refine Finset.prod_congr rfl fun t _ => ?_
    rw [Nat.testBit_two_pow_mul_add a hb, Nat.testBit_two_pow_mul_add a' hb', if_neg (Nat.not_lt.2 (Nat.le_add_right m t)), if_neg (Nat.not_lt.2 (Nat.le_add_right m t)), Nat.add_sub_cancel_left]

/-- The real butterfly's output: the signed sum over the aligned block. -/
def had (n : ℕ) (φ : ℕ → ℝ) (i : ℕ) : ℝ := ∑ j ∈ Finset.range (2 ^ n), chi n i j * φ (2 ^ n * (i / 2 ^ n) + j)

theorem two_pow_add_testBit {n t : ℕ} (h : t < n) (j : ℕ) : (2 ^ n + j).testBit t = j.testBit t := Nat.testBit_two_pow_add_gt h j

/-- Of real entries the butterfly is the signed sum of its block. -/
theorem bfly_coe (n : ℕ) (φ : ℕ → ℝ) (f : ℕ → EReal) (hf : ∀ i, f i = (φ i : EReal)) : ∀ i, bfly n f i = (had n φ i : EReal) := by
  induction n with
  | zero => intro i; simp [bfly_zero, had, chi, hf]
  | succ n ih =>
    intro i
    have hP : 0 < 2 ^ n := by positivity
    have hbit : i.testBit n = decide (i / 2 ^ n % 2 = 1) := Nat.testBit_eq_decide_div_mod_eq
    have hq : 2 ^ (n + 1) * (i / 2 ^ (n + 1)) = 2 ^ n * (2 * (i / 2 ^ n / 2)) := by
      rw [Nat.pow_succ, ← Nat.div_div_eq_div_mul, Nat.mul_assoc]
    have hs : had (n + 1) φ i = ∑ j ∈ Finset.range (2 ^ n), chi n i j * φ (2 ^ n * (2 * (i / 2 ^ n / 2)) + j)
        + (if i / 2 ^ n % 2 = 1 then (-1 : ℝ) else 1) * ∑ j ∈ Finset.range (2 ^ n), chi n i j * φ (2 ^ n * (2 * (i / 2 ^ n / 2) + 1) + j) := by
      unfold had
      rw [hq, show 2 ^ (n + 1) = 2 ^ n + 2 ^ n by ring, Finset.sum_range_add, Finset.mul_sum]
      congr 1
      · refine Finset.sum_congr rfl fun j hj => ?_
        rw [chi_succ, Nat.testBit_lt_two_pow (Finset.mem_range.1 hj)]; simp
      · refine Finset.sum_congr rfl fun j hj => ?_
        rw [chi_succ, chi_congr (i' := i) (j' := j) (fun _ _ => rfl) (fun t ht => two_pow_add_testBit ht j),
          show (2 ^ n + j).testBit n = true by rw [Nat.testBit_two_pow_add_eq, Nat.testBit_lt_two_pow (Finset.mem_range.1 hj)]; rfl, hbit,
          show 2 ^ n * (2 * (i / 2 ^ n / 2)) + (2 ^ n + j) = 2 ^ n * (2 * (i / 2 ^ n / 2) + 1) + j by ring]
        by_cases h1 : i / 2 ^ n % 2 = 1 <;> simp [h1]
    rcases Nat.mod_two_eq_zero_or_one (i / 2 ^ n) with h0 | h1
    · rw [bfly_lo n f i h0, ih, ih, ← EReal.coe_add, hs, if_neg (by omega), one_mul]
      have e1 : (i + 2 ^ n) / 2 ^ n = 2 * (i / 2 ^ n / 2) + 1 := by rw [Nat.add_div_right _ hP]; omega
      have e0 : i / 2 ^ n = 2 * (i / 2 ^ n / 2) := by omega
      congr 2
      · unfold had; rw [← e0]
      · unfold had; rw [e1]
        refine Finset.sum_congr rfl fun j hj => ?_
        rw [chi_congr (i := i + 2 ^ n) (i' := i) (j' := j) (fun t ht => by rw [Nat.add_comm]; exact two_pow_add_testBit ht i) (fun _ _ => rfl)]
    · rw [bfly_hi n f i h1, ih, ih, ← EReal.coe_sub, hs, if_pos h1]
      have hle : 2 ^ n ≤ i := by
        by_contra hc
        rw [Nat.div_eq_of_lt (by omega)] at h1
        simp at h1
      have e1 : i / 2 ^ n = 2 * (i / 2 ^ n / 2) + 1 := by omega
      have e0 : (i - 2 ^ n) / 2 ^ n = 2 * (i / 2 ^ n / 2) := by
        have := Nat.add_div_right (i - 2 ^ n) hP
        rw [Nat.sub_add_cancel hle] at this
        omega
      rw [neg_one_mul, sub_eq_add_neg]
      congr 3
      · unfold had; rw [e0]
        refine Finset.sum_congr rfl fun j hj => ?_
        rw [chi_congr (i := i - 2 ^ n) (i' := i) (j' := j) (fun t ht => by
          have := two_pow_add_testBit ht (i - 2 ^ n)
          rw [Nat.add_sub_cancel' hle] at this; exact this.symm) (fun _ _ => rfl)]
      · unfold had; rw [← e1]

/-- An infinite value. -/
def Inf (x : EReal) : Prop := x = ⊤ ∨ x = ⊥

theorem Inf.add {x y : EReal} (h : Inf x ∨ Inf y) : Inf (x + y) := by
  unfold Inf at *
  induction x <;> induction y <;> simp_all [EReal.coe_add_top, EReal.top_add_coe]

theorem Inf.neg {x : EReal} (h : Inf x) : Inf (-x) := by
  unfold Inf at *
  rcases h with rfl | rfl <;> simp

theorem Inf.sub {x y : EReal} (h : Inf x ∨ Inf y) : Inf (x - y) := by
  rw [sub_eq_add_neg]; exact Inf.add (h.imp_right Inf.neg)

theorem Inf.sum {n : ℕ} {f : ℕ → EReal} {j : ℕ} (hj : j < n) (h : Inf (f j)) : Inf (∑ i ∈ Finset.range n, f i) := by
  rw [← Finset.add_sum_erase _ _ (Finset.mem_range.2 hj)]
  exact Inf.add (Or.inl h)

/-- An infinite entry makes the outputs of its whole block infinite. -/
theorem bfly_inf (n : ℕ) (f : ℕ → EReal) : ∀ i j, i / 2 ^ n = j / 2 ^ n → Inf (f j) → Inf (bfly n f i) := by
  induction n with
  | zero => intro i j h hj; simp at h; subst h; exact hj
  | succ n ih =>
    intro i j h hj
    have hP : 0 < 2 ^ n := by positivity
    rw [Nat.pow_succ, ← Nat.div_div_eq_div_mul, ← Nat.div_div_eq_div_mul] at h
    rcases Nat.mod_two_eq_zero_or_one (i / 2 ^ n) with h0 | h1
    · rw [bfly_lo n f i h0]
      refine Inf.add ?_
      by_cases hc : i / 2 ^ n = j / 2 ^ n
      · exact Or.inl (ih i j hc hj)
      · refine Or.inr (ih _ j ?_ hj)
        rw [Nat.add_div_right _ hP]; omega
    · rw [bfly_hi n f i h1]
      refine Inf.sub ?_
      by_cases hc : i / 2 ^ n = j / 2 ^ n
      · exact Or.inr (ih i j hc hj)
      · refine Or.inl (ih _ j ?_ hj)
        have hle : 2 ^ n ≤ i := by
          by_contra hlt
          rw [Nat.div_eq_of_lt (by omega)] at h1
          simp at h1
        have := Nat.add_div_right (i - 2 ^ n) hP
        rw [Nat.sub_add_cancel hle] at this
        omega

/-- A sum over `N * M` indices by blocks of `M`. -/
theorem sum_blocks {A : Type} [AddCommMonoid A] (N M : ℕ) (F : ℕ → A) :
    ∑ j ∈ Finset.range (N * M), F j = ∑ a ∈ Finset.range N, ∑ b ∈ Finset.range M, F (M * a + b) := by
  induction N with
  | zero => simp
  | succ N ih => rw [Nat.succ_mul, Finset.sum_range_add, ih, Finset.sum_range_succ, Nat.mul_comm N M]

end Cert.Fold

end
-- ==== Proof.Fold.lean ====
/- The factored butterfly agrees with the plain one: a sum over the digits `il`, `jl` with the signs of their bits, then a butterfly of
   four stages over the digit `ih`, then one of three stages over the digit `c`, has the magnitudes of the butterfly of all fifteen
   stages. -/
module

public import proofs.«01_k».proof.Proof.ButterflySum
public import proofs.«01_k».proof.Proof.Values

@[expose] public section

noncomputable section

namespace Cert.Fold

theorem chi_sign (n i j : ℕ) : chi n i j = 1 ∨ chi n i j = -1 := by
  induction n with
  | zero => left; simp [chi]
  | succ n ih => rw [chi_succ]; split <;> rcases ih with h | h <;> simp [h]

/-- The magnitude of an infinite value is the top. -/
theorem mag_inf {x : EReal} (h : Inf x) : mag x = ⊤ := by
  rcases h with rfl | rfl <;> simp [mag]

theorem Inf.sign_mul {x : EReal} (h : Inf x) (n i j : ℕ) : Inf ((chi n i j : EReal) * x) := by
  rcases chi_sign n i j with e | e <;> rw [e]
  · simpa using h
  · rw [EReal.coe_neg, EReal.coe_one, neg_one_mul]; exact h.neg

/-- The entry of digits `ih`, `k = (il, jl)` and `c`. -/
def dig (ih k c : ℕ) : ℕ := ih * 2048 + k / 16 * 128 + c * 16 + k % 16

/-- The factored transform. -/
def fac (f : ℕ → EReal) (q : ℕ) (a c : ℕ) : EReal :=
  bfly 3 (fun c' => bfly 4 (fun ih => ∑ k ∈ Finset.range 256, (chi 8 q k : EReal) * f (dig ih k c')) a) c

theorem coe_sum (s : Finset ℕ) (φ : ℕ → ℝ) : ((∑ k ∈ s, φ k : ℝ) : EReal) = ∑ k ∈ s, (φ k : EReal) := by
  induction s using Finset.induction_on with
  | empty => simp
  | insert a s ha ih => rw [Finset.sum_insert ha, Finset.sum_insert ha, EReal.coe_add, ih]

theorem dig_lt {ih k c : ℕ} (h1 : ih < 16) (h2 : k < 256) (h3 : c < 8) : dig ih k c < 32768 := by unfold dig; omega

/-- Of real entries the factored transform is the signed sum of all of them. -/
theorem fac_real (φ : ℕ → ℝ) (il jl ih c : ℕ) (hil : il < 16) (hjl : jl < 16) (hih : ih < 16) (hc : c < 8) :
    fac (fun d => (φ d : EReal)) (16 * il + jl) ih c = bfly 15 (fun d => (φ d : EReal)) (16 * (8 * (16 * ih + il) + c) + jl) := by
  have h1 : ∀ c', bfly 4 (fun ih => ∑ k ∈ Finset.range 256, (chi 8 (16 * il + jl) k : EReal) * (φ (dig ih k c') : EReal)) ih
      = ((had 4 (fun ih => ∑ k ∈ Finset.range 256, chi 8 (16 * il + jl) k * φ (dig ih k c')) ih : ℝ) : EReal) := fun c' =>
    bfly_coe 4 _ _ (fun ih => by
      rw [coe_sum]; exact Finset.sum_congr rfl fun k _ => by rw [EReal.coe_mul]) ih
  unfold fac
  rw [bfly_coe 3 _ _ h1, bfly_coe 15 φ _ (fun _ => rfl)]
  refine congrArg (fun r : ℝ => (r : EReal)) ?_
  unfold had
  have e8 : c / 2 ^ 3 = 0 := Nat.div_eq_of_lt hc
  have e16 : ih / 2 ^ 4 = 0 := Nat.div_eq_of_lt hih
  have e15 : (16 * (8 * (16 * ih + il) + c) + jl) / 2 ^ 15 = 0 := Nat.div_eq_of_lt (by norm_num; omega)
  rw [e8, e16, e15]
  simp only [Nat.mul_zero, Nat.zero_add]
  rw [show (2 : ℕ) ^ 15 = 16 * 2048 by norm_num, sum_blocks 16 2048]
  have inner : ∀ a, (∑ b ∈ Finset.range 2048, chi 15 (16 * (8 * (16 * ih + il) + c) + jl) (2048 * a + b) * φ (2048 * a + b))
      = ∑ il' ∈ Finset.range 16, ∑ c' ∈ Finset.range 8, ∑ jl' ∈ Finset.range 16,
        (chi 4 jl jl' * (chi 3 c c' * (chi 4 il il' * chi 4 ih a))) * φ (16 * (8 * (16 * a + il') + c') + jl') := fun a => by
    rw [show (2048 : ℕ) = 16 * 128 by norm_num, sum_blocks 16 128]
    refine Finset.sum_congr rfl fun il' hil' => ?_
    rw [show (128 : ℕ) = 8 * 16 by norm_num, sum_blocks 8 16]
    refine Finset.sum_congr rfl fun c' hc' => Finset.sum_congr rfl fun jl' hjl' => ?_
    have hil' := Finset.mem_range.1 hil'
    have hc' := Finset.mem_range.1 hc'
    have hjl' := Finset.mem_range.1 hjl'
    rw [show 16 * (8 * 16) * a + (8 * 16 * il' + (16 * c' + jl')) = 2 ^ 4 * (2 ^ 3 * (2 ^ 4 * a + il') + c') + jl' by ring,
      show 16 * (8 * (16 * ih + il) + c) + jl = 2 ^ 4 * (2 ^ 3 * (2 ^ 4 * ih + il) + c) + jl by ring,
      show (15 : ℕ) = 4 + (3 + (4 + 4)) by norm_num, chi_digits 4 (3 + (4 + 4)) _ _ _ _ hjl hjl', chi_digits 3 (4 + 4) _ _ _ _ hc hc',
      chi_digits 4 4 _ _ _ _ hil hil', show (2 : ℕ) ^ 4 = 16 by norm_num, show (2 : ℕ) ^ 3 = 8 by norm_num]
  have outer : ∀ c' a, (∑ k ∈ Finset.range 256, chi 8 (16 * il + jl) k * φ (dig a k c'))
      = ∑ il' ∈ Finset.range 16, ∑ jl' ∈ Finset.range 16, (chi 4 jl jl' * chi 4 il il') * φ (16 * (8 * (16 * a + il') + c') + jl') := fun c' a => by
    rw [show (256 : ℕ) = 16 * 16 by norm_num, sum_blocks 16 16]
    refine Finset.sum_congr rfl fun il' hil' => Finset.sum_congr rfl fun jl' hjl' => ?_
    have hil' := Finset.mem_range.1 hil'
    have hjl' := Finset.mem_range.1 hjl'
    rw [show (8 : ℕ) = 4 + 4 by norm_num, show 16 * il + jl = 2 ^ 4 * il + jl by ring, show 16 * il' + jl' = 2 ^ 4 * il' + jl' by ring,
      chi_digits 4 4 _ _ _ _ hjl hjl']
    congr 2
    unfold dig
    norm_num
    omega
  simp only [inner, outer]
  rw [show (2 : ℕ) ^ 3 = 8 by norm_num, show (2 : ℕ) ^ 4 = 16 by norm_num]
  simp only [Finset.mul_sum]
  rw [Finset.sum_comm]
  refine Finset.sum_congr rfl fun a _ => ?_
  rw [Finset.sum_comm]
  refine Finset.sum_congr rfl fun il' _ => Finset.sum_congr rfl fun c' _ => Finset.sum_congr rfl fun jl' _ => ?_
  ring

/-- Of any extended real entries the factored transform has the magnitudes of the plain one. -/
theorem fac_mag (f : ℕ → EReal) (il jl ih c : ℕ) (hil : il < 16) (hjl : jl < 16) (hih : ih < 16) (hc : c < 8) :
    mag (fac f (16 * il + jl) ih c) = mag (bfly 15 f (16 * (8 * (16 * ih + il) + c) + jl)) := by
  by_cases hf : ∃ j < 32768, Inf (f j)
  · obtain ⟨j, hj, hi⟩ := hf
    rw [mag_inf, mag_inf]
    · refine bfly_inf 15 f _ j ?_ hi
      rw [Nat.div_eq_of_lt (by norm_num; omega), Nat.div_eq_of_lt (by norm_num; omega)]
    · refine bfly_inf 3 _ c (j / 16 % 8) (by omega) ?_
      refine bfly_inf 4 _ ih (j / 2048) (by omega) ?_
      refine Inf.sum (j := 16 * (j / 128 % 16) + j % 16) (by omega) ?_
      refine Inf.sign_mul ?_ _ _ _
      rw [show dig (j / 2048) (16 * (j / 128 % 16) + j % 16) (j / 16 % 8) = j by unfold dig; omega]
      exact hi
  · have hr : ∀ j < 32768, f j = (((f j).toReal : ℝ) : EReal) := fun j hj => by
      refine (EReal.coe_toReal ?_ ?_).symm
      · exact fun h => hf ⟨j, hj, Or.inl h⟩
      · exact fun h => hf ⟨j, hj, Or.inr h⟩
    have h15 := bfly_congr 15 32768 (by norm_num) hr (16 * (8 * (16 * ih + il) + c) + jl) (by omega)
    rw [h15, ← fac_real _ il jl ih c hil hjl hih hc]
    refine congrArg mag ?_
    unfold fac
    refine bfly_congr 3 8 (by norm_num) (fun c' hc' => bfly_congr 4 16 (by norm_num) (fun ih' hih' => ?_) ih hih) c hc
    exact Finset.sum_congr rfl fun k hk => congrArg _ (hr _ (dig_lt hih' (Finset.mem_range.1 hk) hc'))

end Cert.Fold

end
-- ==== Proof.Stage.lean ====
/- One stage of the reference's butterfly: an array split into pairs of halves, the halves' sum and difference stacked and joined
   again. -/
module

public import proofs.«01_k».proof.Proof.Fold

@[expose] public section

noncomputable section

namespace Cert.Fold

open Idealize.ShloMosaic

section
variable {B N H N' H' M L : ℕ}

/-- Row `i` of a split array holds the sequence `f b l` at `i`. -/
def Splits (X : (⟨5, ![B, N, 2, H, L]⟩ : Shape).Idx → EReal) (M : ℕ) (f : ℕ → ℕ → ℕ → EReal) : Prop :=
  ∀ b < B, ∀ l < L, ∀ i < M, at5 X b (i / H / 2) (i / H % 2) (i % H) l = f b l i

/-- One half of a split array. -/
theorem half_apply (X : (⟨5, ![B, N, 2, H, L]⟩ : Shape).Idx → EReal) (s : ℕ) (hs : s < 2)
    (h : (⟨5, ![B, N, 2, H, L]⟩ : Shape).Slices ![0, 0, s, 0, 0] ⟨5, ![B, N, 1, H, L]⟩)
    (h' : (⟨5, ![B, N, 1, H, L]⟩ : Shape).ShapeCasts ⟨4, ![B, N, H, L]⟩) (b : Fin B) (p : Fin N) (r : Fin H) (l : Fin L) :
    shapeCast ⟨4, ![B, N, H, L]⟩ (extractStridedSlice ⟨5, ![B, N, 1, H, L]⟩ ![0, 0, s, 0, 0] X h) h' (ix4 b p r l)
      = at5 X b p s r l := by
  refine (shapeCast_apply _ h' _ (ix5 b p 0 r l) ?_).trans ?_
  · rw [Shape.rowMajor_val_five, Shape.rowMajor_val_four]; simp
  · rw [Pointwise.extractStridedSlice_apply, Shape.Idx.norm_def, at5_idx X]
    simp

theorem split_bound {i H N : ℕ} (h : i < N * 2 * H) : 0 < H ∧ i / H / 2 < N := by
  have hH : 0 < H := by rcases Nat.eq_zero_or_pos H with rfl | h0; simp at h; exact h0
  have : i / H < N * 2 := Nat.div_lt_of_lt_mul (by rw [Nat.mul_comm]; exact h)
  exact ⟨hH, by omega⟩

theorem split_join (i H : ℕ) : (i / H / 2 * 2 + i / H % 2) * H + i % H = i := by
  rw [Nat.div_add_mod', Nat.div_add_mod']

theorem succ_half {q : ℕ} (h : q % 2 = 0) : q.succ / 2 = q / 2 ∧ q.succ % 2 = 1 := by omega

theorem pred_half {q : ℕ} (h : q % 2 = 1) : (q - 1) / 2 = q / 2 ∧ (q - 1) % 2 = 0 := by omega

theorem sub_div_block {i H : ℕ} (hH : 0 < H) (hle : H ≤ i) : (i - H) / H = i / H - 1 := by
  have h := Nat.add_div_right (i - H) hH
  rw [Nat.sub_add_cancel hle] at h
  rw [h]; rfl

/-- A stage, read at row `i`. -/
theorem stage_apply (t : ℕ) (hH : H = 2 ^ t) (hM : N * 2 * H = M) (X : FVec Ideal (⟨5, ![B, N, 2, H, L]⟩ : Shape) .f32) {f : ℕ → ℕ → ℕ → EReal}
    (hX : Splits X M f)
    (h0 : (⟨5, ![B, N, 2, H, L]⟩ : Shape).Slices ![0, 0, 0, 0, 0] ⟨5, ![B, N, 1, H, L]⟩)
    (h1 : (⟨5, ![B, N, 2, H, L]⟩ : Shape).Slices ![0, 0, 1, 0, 0] ⟨5, ![B, N, 1, H, L]⟩)
    (h' : (⟨5, ![B, N, 1, H, L]⟩ : Shape).ShapeCasts ⟨4, ![B, N, H, L]⟩)
    (hb : (⟨4, ![B, N, H, L]⟩ : Shape).BroadcastsInDim ⟨5, ![B, N, 1, H, L]⟩ ![0, 1, 3, 4])
    (hc : Shape.Concatenates [⟨5, ![B, N, 1, H, L]⟩, ⟨5, ![B, N, 1, H, L]⟩] ⟨5, ![B, N, 2, H, L]⟩ 2)
    (hj : (⟨5, ![B, N, 2, H, L]⟩ : Shape).ShapeCasts ⟨3, ![B, M, L]⟩) (b l i : ℕ) (hbB : b < B) (hl : l < L) (hi : i < M) :
    at3 (shapeCast ⟨3, ![B, M, L]⟩ (concatenate ⟨5, ![B, N, 2, H, L]⟩ 2
        [⟨⟨5, ![B, N, 1, H, L]⟩, broadcastInDim ⟨5, ![B, N, 1, H, L]⟩ ![0, 1, 3, 4] hb (addf (φ := .f32)
          (shapeCast ⟨4, ![B, N, H, L]⟩ (extractStridedSlice ⟨5, ![B, N, 1, H, L]⟩ ![0, 0, 0, 0, 0] X h0) h')
          (shapeCast ⟨4, ![B, N, H, L]⟩ (extractStridedSlice ⟨5, ![B, N, 1, H, L]⟩ ![0, 0, 1, 0, 0] X h1) h'))⟩,
         ⟨⟨5, ![B, N, 1, H, L]⟩, broadcastInDim ⟨5, ![B, N, 1, H, L]⟩ ![0, 1, 3, 4] hb (subf (φ := .f32)
          (shapeCast ⟨4, ![B, N, H, L]⟩ (extractStridedSlice ⟨5, ![B, N, 1, H, L]⟩ ![0, 0, 0, 0, 0] X h0) h')
          (shapeCast ⟨4, ![B, N, H, L]⟩ (extractStridedSlice ⟨5, ![B, N, 1, H, L]⟩ ![0, 0, 1, 0, 0] X h1) h'))⟩] hc) hj) b i l
      = stg t (f b l) i := by
  have hiM : i < N * 2 * H := by rw [hM]; exact hi
  obtain ⟨hH0, hp⟩ := split_bound hiM
  have hr : i % H < H := Nat.mod_lt _ hH0
  have hs : i / H % 2 < 2 := Nat.mod_lt _ (by norm_num)
  have hk : ∀ a : Fin 4, ((ix4 (⟨b, hbB⟩ : Fin B) (⟨i / H / 2, hp⟩ : Fin N) (⟨i % H, hr⟩ : Fin H) (⟨l, hl⟩ : Fin L) : (⟨4, ![B, N, H, L]⟩ : Shape).Idx) a).val
      = if (⟨4, ![B, N, H, L]⟩ : Shape).size a = 1 then 0 else
        ((ix5 (⟨b, hbB⟩ : Fin B) (⟨i / H / 2, hp⟩ : Fin N) (0 : Fin 1) (⟨i % H, hr⟩ : Fin H) (⟨l, hl⟩ : Fin L) : (⟨5, ![B, N, 1, H, L]⟩ : Shape).Idx)
          ((![0, 1, 3, 4] : Fin 4 → Fin 5) a)).val := by
    intro a
    have e : ∀ {n v : ℕ}, v < n → v = if n = 1 then 0 else v := fun {n v} h => by split <;> omega
    fin_cases a
    · exact e hbB
    · exact e hp
    · exact e hr
    · exact e hl
  rw [at3, dif_pos ⟨hbB, hi, hl⟩]
  refine (shapeCast_apply _ hj _ (ix5 ⟨b, hbB⟩ ⟨i / H / 2, hp⟩ ⟨i / H % 2, hs⟩ ⟨i % H, hr⟩ ⟨l, hl⟩) ?_).trans ?_
  · rw [Shape.rowMajor_val_five, Shape.rowMajor_val_three]
    show (((b * N + i / H / 2) * 2 + i / H % 2) * H + i % H) * L + l = (b * M + i) * L + l
    rw [show ((b * N + i / H / 2) * 2 + i / H % 2) * H + i % H = b * (N * 2 * H) + ((i / H / 2 * 2 + i / H % 2) * H + i % H) by ring,
      split_join, hM]
  · rcases Nat.mod_two_eq_zero_or_one (i / H) with h | h
    · have hlt : i + H < M := by
        have e : N * 2 * H = H * 2 * N := by ring
        rw [← hM, e]
        exact partner_lt hH0 h (e ▸ hiM)
      refine (concatenate_pair_apply_left _ _ _ hc _ rfl (ix5 ⟨b, hbB⟩ ⟨i / H / 2, hp⟩ 0 ⟨i % H, hr⟩ ⟨l, hl⟩) ?_).trans ?_
      · intro a; fin_cases a
        · rfl
        · rfl
        · exact h.symm
        · rfl
        · rfl
      refine (broadcastInDim_apply _ hb _ _ (ix4 ⟨b, hbB⟩ ⟨i / H / 2, hp⟩ ⟨i % H, hr⟩ ⟨l, hl⟩) hk).trans ?_
      refine (congrArg₂ (fun x y : EReal => x + y) (half_apply X 0 (by norm_num) h0 h' _ _ _ _) (half_apply X 1 (by norm_num) h1 h' _ _ _ _)).trans ?_
      have e0 := hX b hbB l hl i hi
      have e1 := hX b hbB l hl (i + H) hlt
      rw [Nat.add_div_right _ hH0, Nat.add_mod_right, (succ_half h).1, (succ_half h).2] at e1
      rw [h] at e0
      unfold stg
      rw [← hH, if_neg (by rw [h]; norm_num), ← e0, ← e1]
    · have hle : H ≤ i := by
        by_contra hc
        rw [Nat.div_eq_of_lt (by omega)] at h
        simp at h
      refine (concatenate_pair_apply_right _ _ _ hc _ rfl rfl (ix5 ⟨b, hbB⟩ ⟨i / H / 2, hp⟩ 0 ⟨i % H, hr⟩ ⟨l, hl⟩) ?_ ?_).trans ?_
      · intro a ha; fin_cases a
        · rfl
        · rfl
        · exact absurd rfl ha
        · rfl
        · rfl
      · exact h.symm
      refine (broadcastInDim_apply _ hb _ _ (ix4 ⟨b, hbB⟩ ⟨i / H / 2, hp⟩ ⟨i % H, hr⟩ ⟨l, hl⟩) hk).trans ?_
      refine (congrArg₂ (fun x y : EReal => x - y) (half_apply X 0 (by norm_num) h0 h' _ _ _ _) (half_apply X 1 (by norm_num) h1 h' _ _ _ _)).trans ?_
      have e0 := hX b hbB l hl (i - H) (lt_of_le_of_lt (Nat.sub_le _ _) hi)
      have e1 := hX b hbB l hl i hi
      have e2 : (i - H) / H = i / H - 1 := sub_div_block hH0 hle
      have e3 : (i - H) % H = i % H := by
        have := Nat.add_mod_right (i - H) H
        rw [Nat.sub_add_cancel hle] at this; exact this.symm
      rw [e2, e3, (pred_half h).1, (pred_half h).2] at e0
      rw [h] at e1
      unfold stg
      rw [← hH, if_pos h, ← e0, ← e1]

/-- A whole array, split. -/
theorem splits_cast (hM : N * 2 * H = M) (Y : (⟨3, ![B, M, L]⟩ : Shape).Idx → EReal) (h : (⟨3, ![B, M, L]⟩ : Shape).ShapeCasts ⟨5, ![B, N, 2, H, L]⟩)
    {f : ℕ → ℕ → ℕ → EReal} (hY : ∀ b < B, ∀ l < L, ∀ i < M, at3 Y b i l = f b l i) : Splits (shapeCast ⟨5, ![B, N, 2, H, L]⟩ Y h) M f := by
  intro b hb l hl i hi
  have hiM : i < N * 2 * H := by rw [hM]; exact hi
  obtain ⟨hH0, hp⟩ := split_bound hiM
  have hr : i % H < H := Nat.mod_lt _ hH0
  have hs : i / H % 2 < 2 := Nat.mod_lt _ (by norm_num)
  rw [at5, dif_pos ⟨hb, hp, hs, hr, hl⟩]
  refine (shapeCast_apply Y h _ (ix3 ⟨b, hb⟩ ⟨i, hi⟩ ⟨l, hl⟩) ?_).trans ?_
  · rw [Shape.rowMajor_val_five, Shape.rowMajor_val_three]
    show (b * M + i) * L + l = (((b * N + i / H / 2) * 2 + i / H % 2) * H + i % H) * L + l
    rw [show ((b * N + i / H / 2) * 2 + i / H % 2) * H + i % H = b * (N * 2 * H) + ((i / H / 2 * 2 + i / H % 2) * H + i % H) by ring,
      split_join, hM]
  · exact (at3_ix Y _ _ _).trans (hY b hb l hl i hi)

end

end Cert.Fold

end
-- ==== Proof.ReferenceStages.lean ====
/- What the reference computes: each group's scale from the largest magnitude of the butterfly's outputs in the group. -/
module

public import proofs.«01_k».proof.Proof.Stage
public import proofs.«01_k».proof.Proof.Gen.ReferenceIdeal.Run

@[expose] public section

noncomputable section

namespace Cert.Fold

open Idealize.ShloMosaic Cert.ReferenceIdeal Cert.ReferenceIdeal.Gen Cert.ReferenceIdeal.Value

/-- The entries that the butterfly starts from: matrix `b`, column `l`, row `d`, times the sign of the row. -/
def col (W : (⟨3, ![6, 32768, 384]⟩ : Shape).Idx → EReal) (sg : (⟨1, ![32768]⟩ : Shape).Idx → EReal) (b l d : ℕ) : EReal :=
  at3 W b d l * (if h : d < 32768 then sg (ix1 ⟨d, h⟩) else 0)

section
variable (V0 : Valuation τ sig (Elt Ideal))

/-- The arguments. -/
abbrev argW : (⟨3, ![6, 32768, 384]⟩ : Shape).Idx → EReal := V0 (Proc.devRef .tc main_arg0)
abbrev argS : (⟨1, ![32768]⟩ : Shape).Idx → EReal := V0 (Proc.devRef .tc main_arg1)

/-- The signed arguments, split for the first stage. -/
theorem splits_main_v4 : Splits (N := 16384) (H := 1) (res_main_v4 V0) 32768 (col (argW V0) (argS V0)) := by
  unfold res_main_v4
  refine splits_cast (by norm_num) _ _ fun b hb l hl i hi => ?_
  rw [at3, dif_pos ⟨hb, hi, hl⟩, col, dif_pos hi, at3, dif_pos ⟨hb, hi, hl⟩]
  refine congrArg₂ (fun x y : EReal => x * y) rfl ?_
  refine (broadcastInDim_apply _ _ _ _ (ix3 0 ⟨i, hi⟩ 0) ?_).trans ?_
  · intro a; fin_cases a <;> rfl
  · refine (broadcastInDim_apply _ _ _ _ (ix1 ⟨i, hi⟩) ?_)
    intro a; fin_cases a; rfl

/-- After 1 stage. -/
theorem splits_main_v15 : Splits (N := 8192) (H := 2) (res_main_v15 V0) 32768 (fun b l => bfly 1 (col (argW V0) (argS V0) b l)) := by
  unfold res_main_v15 res_main_v6 res_main_v8
  exact splits_cast (by norm_num) _ _ fun b hb l hl i hi => stage_apply 0 (by norm_num) (by norm_num) (res_main_v4 V0) (splits_main_v4 V0) _ _ _ _ _ _ b l i hb hl hi

/-- After 2 stages. -/
theorem splits_main_v26 : Splits (N := 4096) (H := 4) (res_main_v26 V0) 32768 (fun b l => bfly 2 (col (argW V0) (argS V0) b l)) := by
  unfold res_main_v26 res_main_v17 res_main_v19
  exact splits_cast (by norm_num) _ _ fun b hb l hl i hi => stage_apply 1 (by norm_num) (by norm_num) (res_main_v15 V0) (splits_main_v15 V0) _ _ _ _ _ _ b l i hb hl hi

/-- After 3 stages. -/
theorem splits_main_v37 : Splits (N := 2048) (H := 8) (res_main_v37 V0) 32768 (fun b l => bfly 3 (col (argW V0) (argS V0) b l)) := by
  unfold res_main_v37 res_main_v28 res_main_v30
  exact splits_cast (by norm_num) _ _ fun b hb l hl i hi => stage_apply 2 (by norm_num) (by norm_num) (res_main_v26 V0) (splits_main_v26 V0) _ _ _ _ _ _ b l i hb hl hi

/-- After 4 stages. -/
theorem splits_main_v48 : Splits (N := 1024) (H := 16) (res_main_v48 V0) 32768 (fun b l => bfly 4 (col (argW V0) (argS V0) b l)) := by
  unfold res_main_v48 res_main_v39 res_main_v41
  exact splits_cast (by norm_num) _ _ fun b hb l hl i hi => stage_apply 3 (by norm_num) (by norm_num) (res_main_v37 V0) (splits_main_v37 V0) _ _ _ _ _ _ b l i hb hl hi

/-- After 5 stages. -/
theorem splits_main_v59 : Splits (N := 512) (H := 32) (res_main_v59 V0) 32768 (fun b l => bfly 5 (col (argW V0) (argS V0) b l)) := by
  unfold res_main_v59 res_main_v50 res_main_v52
  exact splits_cast (by norm_num) _ _ fun b hb l hl i hi => stage_apply 4 (by norm_num) (by norm_num) (res_main_v48 V0) (splits_main_v48 V0) _ _ _ _ _ _ b l i hb hl hi

/-- After 6 stages. -/
theorem splits_main_v70 : Splits (N := 256) (H := 64) (res_main_v70 V0) 32768 (fun b l => bfly 6 (col (argW V0) (argS V0) b l)) := by
  unfold res_main_v70 res_main_v61 res_main_v63
  exact splits_cast (by norm_num) _ _ fun b hb l hl i hi => stage_apply 5 (by norm_num) (by norm_num) (res_main_v59 V0) (splits_main_v59 V0) _ _ _ _ _ _ b l i hb hl hi

/-- After 7 stages. -/
theorem splits_main_v81 : Splits (N := 128) (H := 128) (res_main_v81 V0) 32768 (fun b l => bfly 7 (col (argW V0) (argS V0) b l)) := by
  unfold res_main_v81 res_main_v72 res_main_v74
  exact splits_cast (by norm_num) _ _ fun b hb l hl i hi => stage_apply 6 (by norm_num) (by norm_num) (res_main_v70 V0) (splits_main_v70 V0) _ _ _ _ _ _ b l i hb hl hi

/-- After 8 stages. -/
theorem splits_main_v92 : Splits (N := 64) (H := 256) (res_main_v92 V0) 32768 (fun b l => bfly 8 (col (argW V0) (argS V0) b l)) := by
  unfold res_main_v92 res_main_v83 res_main_v85
  exact splits_cast (by norm_num) _ _ fun b hb l hl i hi => stage_apply 7 (by norm_num) (by norm_num) (res_main_v81 V0) (splits_main_v81 V0) _ _ _ _ _ _ b l i hb hl hi

/-- After 9 stages. -/
theorem splits_main_v103 : Splits (N := 32) (H := 512) (res_main_v103 V0) 32768 (fun b l => bfly 9 (col (argW V0) (argS V0) b l)) := by
  unfold res_main_v103 res_main_v94 res_main_v96
  exact splits_cast (by norm_num) _ _ fun b hb l hl i hi => stage_apply 8 (by norm_num) (by norm_num) (res_main_v92 V0) (splits_main_v92 V0) _ _ _ _ _ _ b l i hb hl hi

/-- After 10 stages. -/
theorem splits_main_v114 : Splits (N := 16) (H := 1024) (res_main_v114 V0) 32768 (fun b l => bfly 10 (col (argW V0) (argS V0) b l)) := by
  unfold res_main_v114 res_main_v105 res_main_v107
  exact splits_cast (by norm_num) _ _ fun b hb l hl i hi => stage_apply 9 (by norm_num) (by norm_num) (res_main_v103 V0) (splits_main_v103 V0) _ _ _ _ _ _ b l i hb hl hi

/-- After 11 stages. -/
theorem splits_main_v125 : Splits (N := 8) (H := 2048) (res_main_v125 V0) 32768 (fun b l => bfly 11 (col (argW V0) (argS V0) b l)) := by
  unfold res_main_v125 res_main_v116 res_main_v118
  exact splits_cast (by norm_num) _ _ fun b hb l hl i hi => stage_apply 10 (by norm_num) (by norm_num) (res_main_v114 V0) (splits_main_v114 V0) _ _ _ _ _ _ b l i hb hl hi

/-- After 12 stages. -/
theorem splits_main_v136 : Splits (N := 4) (H := 4096) (res_main_v136 V0) 32768 (fun b l => bfly 12 (col (argW V0) (argS V0) b l)) := by
  unfold res_main_v136 res_main_v127 res_main_v129
  exact splits_cast (by norm_num) _ _ fun b hb l hl i hi => stage_apply 11 (by norm_num) (by norm_num) (res_main_v125 V0) (splits_main_v125 V0) _ _ _ _ _ _ b l i hb hl hi

/-- After 13 stages. -/
theorem splits_main_v147 : Splits (N := 2) (H := 8192) (res_main_v147 V0) 32768 (fun b l => bfly 13 (col (argW V0) (argS V0) b l)) := by
  unfold res_main_v147 res_main_v138 res_main_v140
  exact splits_cast (by norm_num) _ _ fun b hb l hl i hi => stage_apply 12 (by norm_num) (by norm_num) (res_main_v136 V0) (splits_main_v136 V0) _ _ _ _ _ _ b l i hb hl hi

/-- After 14 stages. -/
theorem splits_main_v158 : Splits (N := 1) (H := 16384) (res_main_v158 V0) 32768 (fun b l => bfly 14 (col (argW V0) (argS V0) b l)) := by
  unfold res_main_v158 res_main_v149 res_main_v151
  exact splits_cast (by norm_num) _ _ fun b hb l hl i hi => stage_apply 13 (by norm_num) (by norm_num) (res_main_v147 V0) (splits_main_v147 V0) _ _ _ _ _ _ b l i hb hl hi

end

end Cert.Fold

end
-- ==== Proof.ReferenceValue.lean ====
/- The reference's scales, read at an index. -/
module

public import proofs.«01_k».proof.Proof.ReferenceStages

@[expose] public section

set_option maxRecDepth 16384

noncomputable section

namespace Cert.Fold

open Idealize.ShloMosaic Idealize.ShloMosaic.TcCoe Idealize.SL.Sem Idealize.ShloMosaic.StableHlo Cert.ReferenceIdeal Cert.ReferenceIdeal.Gen Cert.ReferenceIdeal.Value

/-- The factor that makes the transform orthonormal: the f32 nearest to `32768 ^ (-1/2)`. -/
def norm : EReal := Ideal.ofBits .f32 0x3BB504F3#32

/-- The scale of a group whose largest magnitude is `a`: 1 where it is 0, else a seventh of it. -/
def scl (a : EReal) : EReal :=
  (select (cmpf (F := Ideal) (φ := .f32) .oeq (fun _ => a) (fun _ => Ideal.ofBits .f32 0x00000000#32)) (fun _ => Ideal.ofBits .f32 0x3F800000#32)
    (divf (F := Ideal) (φ := .f32) (fun _ => a) (fun _ => Ideal.ofBits .f32 0x40E00000#32)) : FVec Ideal ⟨0, ![]⟩ .f32) (fun a => a.elim0)

/-- The norm is positive. -/
theorem norm_pos : ∃ r : ℝ, 0 < r ∧ norm = (r : EReal) := by
  refine ⟨_, ?_, show norm = ((_ : ℝ) : EReal) by unfold norm; simp [Ideal.ofBits, Ideal.ieee]; rfl⟩
  norm_num

/-- Multiplying by the norm keeps order. -/
theorem norm_mono : Monotone fun x : EReal => x * norm := by
  obtain ⟨r, hr, e⟩ := norm_pos
  intro x y h
  have : (0 : EReal) ≤ (r : EReal) := EReal.coe_nonneg.2 hr.le
  show x * norm ≤ y * norm
  rw [e]
  exact mul_le_mul_of_nonneg_right h this

/-- The magnitude of a normed value is the normed magnitude. -/
theorem mag_norm (x : EReal) : mag (x * norm) = mag x * norm := by
  unfold mag
  rw [← EReal.neg_mul]
  exact (norm_mono.map_max (a := x) (b := -x)).symm

/-- The maximum of normed values is the normed maximum. -/
theorem sup_norm (s : Finset ℕ) (f : ℕ → EReal) : (s.sup fun k => f k * norm) = s.sup f * norm := by
  refine (Finset.comp_sup_eq_sup_comp_of_is_total (fun x : EReal => x * norm) norm_mono ?_).symm
  obtain ⟨r, hr, e⟩ := norm_pos
  show (⊥ : EReal) * norm = ⊥
  rw [e]
  exact EReal.bot_mul_coe_of_pos hr

/-- The supremum over a range as a fold of maxima. -/
theorem sup_fold (K : ℕ) (F : ℕ → EReal) : (Finset.range K).sup F = (Finset.univ : Finset (Fin K)).fold max ⊥ (fun k : Fin K => F k.val) := by
  refine le_antisymm (Finset.sup_le fun k hk => ?_) ?_
  · exact (Finset.le_sup (f := fun k : Fin K => F k.val) (Finset.mem_univ ⟨k, Finset.mem_range.1 hk⟩) : _)
  · exact Finset.sup_le (f := fun k : Fin K => F k.val) fun k _ => Finset.le_sup (f := F) (Finset.mem_range.2 k.isLt)

section
variable {B G K M L : ℕ}

/-- The largest magnitude of each group of `K` rows of a normalised array. -/
theorem amax_apply (hM : G * K = M) (Y : FVec Ideal (⟨3, ![B, M, L]⟩ : Shape) .f32) {f : ℕ → ℕ → ℕ → EReal}
    (hY : ∀ b < B, ∀ l < L, ∀ i < M, at3 Y b i l = f b l i)
    (hb : (⟨0, ![]⟩ : Shape).BroadcastsInDim ⟨3, ![B, M, L]⟩ ![])
    (hc : (⟨3, ![B, M, L]⟩ : Shape).ShapeCasts ⟨4, ![B, G, K, L]⟩) (hr : (⟨4, ![B, G, K, L]⟩ : Shape).ReducesTo [2] ⟨3, ![B, G, L]⟩)
    (hu : 0 < (⟨0, ![]⟩ : Shape).numel) (b : Fin B) (g : Fin G) (l : Fin L) :
    Host.reduce FloatOps.maximumf (Host.absf (F := Ideal) (φ := .f32) (shapeCast ⟨4, ![B, G, K, L]⟩
        (mulf (φ := .f32) Y (broadcastInDim ⟨3, ![B, M, L]⟩ ![] hb (constant (F := Ideal) ⟨0, ![]⟩ .f32 0x3BB504F3#32))) hc))
      (constant (F := Ideal) ⟨0, ![]⟩ .f32 0xFF800000#32) hr hu (ix3 b g l)
      = (Finset.range K).sup (fun k => mag (f b l (g * K + k))) * norm := by
  rw [← sup_norm, sup_fold]
  refine (Host.reduce_eq_fold FloatOps.maximumf _ _ _ _ _).trans ?_
  refine (Shape.ReducesTo.fold_fiber_r4_a2 _ _ _ _ _).trans ?_
  have hbot : (constant (F := Ideal) ⟨0, ![]⟩ .f32 0xFF800000#32 (Shape.Idx.first hu) : EReal) = ⊥ := by
    show Ideal.ofBits .f32 0xFF800000#32 = ⊥
    simp [Ideal.ofBits, Ideal.ieee]
  refine (congrArg (fun z : EReal => (Finset.univ : Finset (Fin K)).fold max z _) hbot).trans ?_
  refine Finset.fold_congr fun k _ => ?_
  have hk : g.val * K + k.val < M := by
    have h1 : (g.val + 1) * K ≤ G * K := Nat.mul_le_mul_right _ g.isLt
    have h2 := k.isLt
    rw [Nat.succ_mul] at h1
    omega
  rw [← mag_norm]
  refine congrArg mag ?_
  refine (shapeCast_apply _ hc _ (ix3 b ⟨g.val * K + k.val, hk⟩ l) ?_).trans ?_
  · rw [Shape.rowMajor_val_four, Shape.rowMajor_val_three]
    show (b.val * M + (g.val * K + k.val)) * L + l.val = ((b.val * G + g.val) * K + k.val) * L + l.val
    rw [← hM]; ring
  · refine congrArg₂ (fun x y : EReal => x * y) ?_ rfl
    exact (at3_ix Y _ _ _).trans (hY _ b.isLt _ l.isLt _ hk)

end

section
variable (V0 : Valuation τ sig (Elt Ideal))

/-- The reference's group maximum. -/
theorem ref_amax (b : Fin 6) (g : Fin 256) (l : Fin 384) :
    res_main_v173 V0 (ix3 b g l)
      = (Finset.range 128).sup (fun k => mag (bfly 15 (col (argW V0) (argS V0) b l) (g * 128 + k))) * norm := by
  unfold res_main_v173 res_main_v171 res_main_v160 res_main_v162
  exact amax_apply (G := 256) (K := 128) (M := 32768) (by norm_num) _
    (fun b hb l hl i hi => stage_apply 14 (by norm_num) (by norm_num) (res_main_v158 V0) (splits_main_v158 V0) _ _ _ _ _ _ b l i hb hl hi) _ _ _ _ b g l

/-- The reference's result: matrix `b`, column `l`, group `g`. -/
def refScale (W : (⟨3, ![6, 32768, 384]⟩ : Shape).Idx → EReal) (sg : (⟨1, ![32768]⟩ : Shape).Idx → EReal) (b l g : ℕ) : EReal :=
  scl ((Finset.range 128).sup (fun k => mag (bfly 15 (col W sg b l) (g * 128 + k))) * norm)

end

end Cert.Fold

end
-- ==== Proof.ReferenceCodes.lean ====
/- The reference's packed codes, read at an index, and the plain facts of arithmetic that relate them to the kernel's. -/
module

public import proofs.«01_k».proof.Proof.ReferenceValue

@[expose] public section

set_option maxRecDepth 16384

noncomputable section

namespace Cert.Fold

open Idealize.ShloMosaic Idealize.ShloMosaic.TcCoe Idealize.SL.Sem Idealize.ShloMosaic.StableHlo Cert.ReferenceIdeal Cert.ReferenceIdeal.Gen Cert.ReferenceIdeal.Value

/-! ### Rounding and clipping -/

/-- Rounding to the nearest integer, ties to even, keeps order. -/
theorem roundHalfEven_mono {r s : ℝ} (h : r ≤ s) : Ideal.roundHalfEven r ≤ Ideal.roundHalfEven s := by
  unfold Ideal.roundHalfEven
  dsimp only
  rcases (Int.floor_le_floor h).lt_or_eq with hlt | heq
  · split_ifs <;> omega
  · rw [heq]
    split_ifs <;> first | omega | (exfalso; linarith)

/-- Rounding of the extended reals. -/
def rnd (x : EReal) : EReal := Ideal.liftRound Ideal.roundHalfEven x

theorem rnd_mono : Monotone rnd := by
  intro x y h
  unfold rnd
  induction x with
  | bot => simp
  | top => rw [top_le_iff.1 h]
  | coe r =>
    induction y with
    | bot => exact absurd h (by simp)
    | top => simp
    | coe s =>
      rw [Ideal.liftRound_coe, Ideal.liftRound_coe]
      exact EReal.coe_le_coe_iff.2 (Int.cast_le.2 (roundHalfEven_mono (EReal.coe_le_coe_iff.1 h)))

theorem rnd_int (k : ℤ) : rnd (((k : ℝ) : ℝ) : EReal) = ((k : ℝ) : EReal) := by
  unfold rnd
  rw [Ideal.liftRound_coe]
  unfold Ideal.roundHalfEven
  simp

/-- The largest and the least code, as the programs spell them. -/
def hi7 : EReal := Ideal.ofBits .f32 0x40E00000#32
def lo7 : EReal := Ideal.ofBits .f32 0xC0E00000#32

theorem hi7_eq : hi7 = (((7 : ℤ) : ℝ) : EReal) := by
  unfold hi7
  simp [Ideal.ofBits, Ideal.ieee]
  rw [← EReal.coe_mul]
  norm_num

theorem lo7_eq : lo7 = (((-7 : ℤ) : ℝ) : EReal) := by
  unfold lo7
  simp [Ideal.ofBits, Ideal.ieee]
  rw [← EReal.coe_mul]
  norm_num

/-- Clipping and then rounding is rounding and then clipping. -/
theorem rnd_clip (x : EReal) : rnd (min hi7 (max lo7 x)) = min hi7 (max lo7 (rnd x)) := by
  rw [rnd_mono.map_min, rnd_mono.map_max, hi7_eq, lo7_eq, rnd_int, rnd_int]

/-- The reference's code of the normalised value `a` in a group of scale `s`. -/
def refCode (a s : EReal) : BitVec 32 := Ideal.fptosi 32 (min hi7 (max lo7 (rnd (Ideal.div a s))))

/-! ### The scale is not zero -/

/-- The scale, case by case. -/
theorem scl_eq (a : EReal) : scl a = if a = 0 then Ideal.ofBits .f32 0x3F800000#32 else Ideal.div a hi7 := by
  have hz : Ideal.ofBits .f32 0x00000000#32 = 0 := by simp [Ideal.ofBits, Ideal.ieee]
  show Scalar.select (Ideal.cmp .oeq a (Ideal.ofBits .f32 0x00000000#32)) _ (Ideal.div a hi7) = _
  rw [hz]
  by_cases h : a = 0
  · simp [Scalar.select, Ideal.cmp, h]
  · simp [Scalar.select, Ideal.cmp, h]

theorem scl_zero {a : EReal} (h : a = 0) : scl a = 1 := by
  rw [scl_eq, if_pos h]
  simp [Ideal.ofBits, Ideal.ieee]
  rw [← EReal.coe_mul]
  norm_num

theorem scl_of_ne {a : EReal} (h : a ≠ 0) : scl a = Ideal.div a hi7 := by
  rw [scl_eq, if_neg h]

theorem div_hi7 (a : EReal) : Ideal.div a hi7 = a * ((7 : ℝ)⁻¹ : ℝ) := by
  have e : hi7 = ((7 : ℝ) : EReal) := by rw [hi7_eq]; norm_num
  rw [e, Ideal.div, if_neg (by exact_mod_cast (by norm_num : (7 : ℝ) ≠ 0)), ← EReal.coe_inv]

theorem scl_ne_zero (a : EReal) : scl a ≠ 0 := by
  by_cases h : a = 0
  · rw [scl_zero h]; exact one_ne_zero
  · rw [scl_of_ne h, div_hi7]
    have h7 : (((7 : ℝ)⁻¹ : ℝ) : EReal) ≠ 0 := by exact_mod_cast (by norm_num : ((7 : ℝ)⁻¹ : ℝ) ≠ 0)
    exact mul_ne_zero h h7

theorem scl_top : scl (⊤ * norm) = ⊤ := by
  obtain ⟨r, hr, e⟩ := norm_pos
  rw [e, EReal.top_mul_coe_of_pos hr, scl_of_ne EReal.top_ne_zero, div_hi7]
  exact EReal.top_mul_coe_of_pos (by norm_num)

/-- The kernel multiplies by `norm / s` where the reference multiplies by `norm` and divides by `s`. -/
theorem quot_eq {v a s : EReal} (hs : s ≠ 0) (h : v = a ∨ s = ⊤) : v * Ideal.div norm s = Ideal.div (a * norm) s := by
  rw [Ideal.div, if_neg hs, Ideal.div, if_neg hs]
  rcases h with rfl | rfl
  · rw [mul_assoc]
  · rw [EReal.inv_top, mul_zero, mul_zero, mul_zero]

/-- The factored transform is the plain one, or the plain one is infinite there. -/
theorem fac_or (f : ℕ → EReal) (il jl ih c : ℕ) (hil : il < 16) (hjl : jl < 16) (hih : ih < 16) (hc : c < 8) :
    fac f (16 * il + jl) ih c = bfly 15 f (16 * (8 * (16 * ih + il) + c) + jl) ∨ mag (bfly 15 f (16 * (8 * (16 * ih + il) + c) + jl)) = ⊤ := by
  by_cases hf : ∃ j < 32768, Inf (f j)
  · obtain ⟨j, hj, hi⟩ := hf
    refine .inr (mag_inf (bfly_inf 15 f _ j ?_ hi))
    rw [Nat.div_eq_of_lt (by norm_num; omega), Nat.div_eq_of_lt (by norm_num; omega)]
  · refine .inl ?_
    have hr : ∀ j < 32768, f j = (((f j).toReal : ℝ) : EReal) := fun j hj => by
      refine (EReal.coe_toReal ?_ ?_).symm
      · exact fun h => hf ⟨j, hj, Or.inl h⟩
      · exact fun h => hf ⟨j, hj, Or.inr h⟩
    have h15 := bfly_congr 15 32768 (by norm_num) hr (16 * (8 * (16 * ih + il) + c) + jl) (by omega)
    rw [h15, ← fac_real _ il jl ih c hil hjl hih hc]
    unfold fac
    refine bfly_congr 3 8 (by norm_num) (fun c' hc' => bfly_congr 4 16 (by norm_num) (fun ih' hih' => ?_) ih hih) c hc
    exact Finset.sum_congr rfl fun k hk => congrArg _ (hr _ (dig_lt hih' (Finset.mem_range.1 hk) hc'))

/-! ### Two codes in a byte -/

/-- The low four bits of a code, kept as a byte between. -/
def nib (q : BitVec 32) : BitVec 32 := IntOp.andi ((q.setWidth 8).signExtend 32) 15#32

/-- Two codes packed in a byte. -/
def pair (q0 q1 : BitVec 32) : BitVec 8 := (IntOp.ori (nib q0) (IntOp.shli .host (nib q1) 4#32)).setWidth 8

/-- The reference's code of element `d` of column `l` of matrix `b`. -/
def refC (W : (⟨3, ![6, 32768, 384]⟩ : Shape).Idx → EReal) (sg : (⟨1, ![32768]⟩ : Shape).Idx → EReal) (b l d : ℕ) : BitVec 32 :=
  refCode (bfly 15 (col W sg b l) d * norm) (refScale W sg b l (d / 128))

/-- The reference's packed codes. -/
def refByte (W : (⟨3, ![6, 32768, 384]⟩ : Shape).Idx → EReal) (sg : (⟨1, ![32768]⟩ : Shape).Idx → EReal) (b l k : ℕ) : BitVec 8 :=
  pair (refC W sg b l (2 * k)) (refC W sg b l (2 * k + 1))

section
variable {B G K M L P : ℕ}

/-- The normalised values in groups. -/
theorem normed_apply (hM : G * K = M) (Y : FVec Ideal (⟨3, ![B, M, L]⟩ : Shape) .f32) {f : ℕ → ℕ → ℕ → EReal}
    (hY : ∀ b < B, ∀ l < L, ∀ i < M, at3 Y b i l = f b l i)
    (hb : (⟨0, ![]⟩ : Shape).BroadcastsInDim ⟨3, ![B, M, L]⟩ ![])
    (hc : (⟨3, ![B, M, L]⟩ : Shape).ShapeCasts ⟨4, ![B, G, K, L]⟩) (b : Fin B) (g : Fin G) (k : Fin K) (l : Fin L) :
    (shapeCast ⟨4, ![B, G, K, L]⟩ (mulf (φ := .f32) Y (broadcastInDim ⟨3, ![B, M, L]⟩ ![] hb (constant (F := Ideal) ⟨0, ![]⟩ .f32 0x3BB504F3#32))) hc : FVec Ideal ⟨4, ![B, G, K, L]⟩ .f32) (ix4 b g k l)
      = f b l (g * K + k) * norm := by
  have hk : g.val * K + k.val < M := by
    have h1 : (g.val + 1) * K ≤ G * K := Nat.mul_le_mul_right _ g.isLt
    have h2 := k.isLt
    rw [Nat.succ_mul] at h1
    omega
  refine (shapeCast_apply _ hc _ (ix3 b ⟨g.val * K + k.val, hk⟩ l) ?_).trans ?_
  · rw [Shape.rowMajor_val_four, Shape.rowMajor_val_three]
    show (b.val * M + (g.val * K + k.val)) * L + l.val = ((b.val * G + g.val) * K + k.val) * L + l.val
    rw [← hM]; ring
  · refine congrArg₂ (fun x y : EReal => x * y) ?_ rfl
    exact (at3_ix Y _ _ _).trans (hY _ b.isLt _ l.isLt _ hk)

/-- The scales spread over their groups. -/
theorem spread_apply (S : FVec Ideal (⟨3, ![B, G, L]⟩ : Shape) .f32) (h1 : (⟨3, ![B, G, L]⟩ : Shape).BroadcastsInDim ⟨4, ![B, G, 1, L]⟩ ![0, 1, 3])
    (h2 : (⟨4, ![B, G, 1, L]⟩ : Shape).BroadcastsInDim ⟨4, ![B, G, K, L]⟩ ![0, 1, 2, 3]) (b : Fin B) (g : Fin G) (k : Fin K) (l : Fin L) :
    broadcastInDim ⟨4, ![B, G, K, L]⟩ ![0, 1, 2, 3] h2 (broadcastInDim ⟨4, ![B, G, 1, L]⟩ ![0, 1, 3] h1 S) (ix4 b g k l) = S (ix3 b g l) := by
  have e : ∀ {n v : ℕ}, v < n → v = if n = 1 then 0 else v := fun {n v} h => by split <;> omega
  refine (broadcastInDim_apply ![0, 1, 2, 3] h2 _ _ (ix4 b g (0 : Fin 1) l) fun a => ?_).trans
    (broadcastInDim_apply ![0, 1, 3] h1 _ _ (ix3 b g l) fun a => ?_)
  · fin_cases a
    · exact e b.isLt
    · exact e g.isLt
    · rfl
    · exact e l.isLt
  · fin_cases a
    · exact e b.isLt
    · exact e g.isLt
    · exact e l.isLt

/-- The low bits of the codes, two by two. -/
theorem nibs_apply (hM : G * K = M) (hP : P * 2 = M) (Q : IVec (⟨4, ![B, G, K, L]⟩ : Shape) 32)
    (c1 : (⟨4, ![B, G, K, L]⟩ : Shape).ShapeCasts ⟨3, ![B, M, L]⟩) (hb : (⟨0, ![]⟩ : Shape).BroadcastsInDim ⟨3, ![B, M, L]⟩ ![])
    (c2 : (⟨3, ![B, M, L]⟩ : Shape).ShapeCasts ⟨4, ![B, P, 2, L]⟩) (w1 w2) (hK : 0 < K) (b : Fin B) (k : Fin P) (j : Fin 2) (l : Fin L)
    (hg : (k.val * 2 + j.val) / K < G) :
    (shapeCast ⟨4, ![B, P, 2, L]⟩ (andi (extsi 32 (shapeCast ⟨3, ![B, M, L]⟩ (trunci 8 Q w1) c1) w2)
      (broadcastInDim ⟨3, ![B, M, L]⟩ ![] hb (constantI ⟨0, ![]⟩ 32 15#32))) c2 : IVec ⟨4, ![B, P, 2, L]⟩ 32) (ix4 b k j l)
      = nib (Q (ix4 b ⟨(k.val * 2 + j.val) / K, hg⟩ ⟨(k.val * 2 + j.val) % K, Nat.mod_lt _ hK⟩ l)) := by
  have hd : k.val * 2 + j.val < M := by have := k.isLt; have := j.isLt; omega
  refine (shapeCast_apply _ c2 _ (ix3 b ⟨k.val * 2 + j.val, hd⟩ l) ?_).trans ?_
  · rw [Shape.rowMajor_val_four, Shape.rowMajor_val_three]
    show (b.val * M + (k.val * 2 + j.val)) * L + l.val = ((b.val * P + k.val) * 2 + j.val) * L + l.val
    rw [← hP]; ring
  · refine congrArg (fun q : BitVec 8 => IntOp.andi (q.signExtend 32) 15#32) ?_
    refine shapeCast_apply _ c1 _ (ix4 b ⟨(k.val * 2 + j.val) / K, hg⟩ ⟨(k.val * 2 + j.val) % K, Nat.mod_lt _ hK⟩ l) ?_
    rw [Shape.rowMajor_val_four, Shape.rowMajor_val_three]
    show ((b.val * G + (k.val * 2 + j.val) / K) * K + (k.val * 2 + j.val) % K) * L + l.val = (b.val * M + (k.val * 2 + j.val)) * L + l.val
    have e : (b.val * G + (k.val * 2 + j.val) / K) * K + (k.val * 2 + j.val) % K = b.val * M + (k.val * 2 + j.val) := by
      rw [Nat.add_mul, Nat.add_assoc, Nat.div_add_mod', Nat.mul_assoc, hM]
    rw [e]

/-- The bytes, transposed. -/
theorem bytes_apply (N : IVec (⟨4, ![B, P, 2, L]⟩ : Shape) 32)
    (s0 : (⟨4, ![B, P, 2, L]⟩ : Shape).Slices ![0, 0, 0, 0] ⟨4, ![B, P, 1, L]⟩) (s1 : (⟨4, ![B, P, 2, L]⟩ : Shape).Slices ![0, 0, 1, 0] ⟨4, ![B, P, 1, L]⟩)
    (c : (⟨4, ![B, P, 1, L]⟩ : Shape).ShapeCasts ⟨3, ![B, P, L]⟩) (hb : (⟨0, ![]⟩ : Shape).BroadcastsInDim ⟨3, ![B, P, L]⟩ ![]) (w)
    (ht : (⟨3, ![B, P, L]⟩ : Shape).Transposes [0, 2, 1] ⟨3, ![B, L, P]⟩) (b : Fin B) (l : Fin L) (k : Fin P) :
    transpose ⟨3, ![B, L, P]⟩ [0, 2, 1] (trunci 8 (ori (shapeCast ⟨3, ![B, P, L]⟩ (extractStridedSlice ⟨4, ![B, P, 1, L]⟩ ![0, 0, 0, 0] N s0) c)
      (Host.shli (shapeCast ⟨3, ![B, P, L]⟩ (extractStridedSlice ⟨4, ![B, P, 1, L]⟩ ![0, 0, 1, 0] N s1) c)
        (broadcastInDim ⟨3, ![B, P, L]⟩ ![] hb (constantI ⟨0, ![]⟩ 32 4#32)))) w) ht (ix3 b l k)
      = (IntOp.ori (N (ix4 b k 0 l)) (IntOp.shli .host (N (ix4 b k 1 l)) 4#32)).setWidth 8 := by
  refine (transpose_apply [0, 2, 1] _ _ _ (ix3 b k l) (fun a => by fin_cases a <;> rfl)).trans ?_
  have hc : ∀ X : IVec (⟨4, ![B, P, 1, L]⟩ : Shape) 32, shapeCast ⟨3, ![B, P, L]⟩ X c (ix3 b k l) = X (ix4 b k (0 : Fin 1) l) := fun X => by
    refine shapeCast_apply _ c _ _ ?_
    rw [Shape.rowMajor_val_four, Shape.rowMajor_val_three]
    show ((b.val * P + k.val) * 1 + 0) * L + l.val = (b.val * P + k.val) * L + l.val
    rw [Nat.mul_one, Nat.add_zero]
  refine congrArg₂ (fun x y : BitVec 32 => (IntOp.ori x (IntOp.shli .host y 4#32)).setWidth 8) ((hc _).trans ?_) ((hc _).trans ?_)
  · refine extractStridedSlice_apply _ _ s0 _ _ fun a => ?_
    fin_cases a
    · exact (Nat.zero_add _).symm
    · exact (Nat.zero_add _).symm
    · rfl
    · exact (Nat.zero_add _).symm
  · refine extractStridedSlice_apply _ _ s1 _ _ fun a => ?_
    fin_cases a
    · exact (Nat.zero_add _).symm
    · exact (Nat.zero_add _).symm
    · rfl
    · exact (Nat.zero_add _).symm

/-- A code, from the normalised value and the scale at its place. -/
theorem code_apply {s : Shape} (A S : FVec Ideal s .f32) (h1 h2 : (⟨0, ![]⟩ : Shape).BroadcastsInDim s ![]) (y : s.Idx) :
    fptosi (F := Ideal) 32 (minimumf (broadcastInDim s ![] h1 (id (constant (F := Ideal) ⟨0, ![]⟩ .f32 0x40E00000#32)))
      (maximumf (broadcastInDim s ![] h2 (id (constant (F := Ideal) ⟨0, ![]⟩ .f32 0xC0E00000#32))) (Host.roundeven (Host.divf A S)))) y = refCode (A y) (S y) := rfl

end

section
variable (V0 : Valuation τ sig (Elt Ideal))

/-- The reference's normalised values in groups. -/
theorem ref_normed (b : Fin 6) (g : Fin 256) (k : Fin 128) (l : Fin 384) :
    res_main_v171 V0 (ix4 b g k l) = bfly 15 (col (argW V0) (argS V0) b l) (g * 128 + k) * norm := by
  unfold res_main_v171 res_main_v160 res_main_v162
  exact normed_apply (G := 256) (K := 128) (M := 32768) (by norm_num) _
    (fun b hb l hl i hi => stage_apply 14 (by norm_num) (by norm_num) (res_main_v158 V0) (splits_main_v158 V0) _ _ _ _ _ _ b l i hb hl hi) _ _ b g k l

/-- The reference's scales. -/
theorem ref_scale (b : Fin 6) (g : Fin 256) (l : Fin 384) : res_main_v178 V0 (ix3 b g l) = refScale (argW V0) (argS V0) b l g :=
  congrArg scl (ref_amax _ b g l)

/-- The low bits of the reference's codes. -/
theorem ref_nib (b : Fin 6) (k : Fin 16384) (j : Fin 2) (l : Fin 384) :
    res_main_v190 V0 (ix4 b k j l) = nib (refC (argW V0) (argS V0) b l (2 * k + j)) := by
  have hd : (k.val * 2 + j.val) / 128 < 256 := by have := k.isLt; have := j.isLt; omega
  unfold res_main_v190
  refine (nibs_apply (G := 256) (K := 128) (M := 32768) (by norm_num) (by norm_num) _ _ _ _ _ _ (by norm_num) b k j l hd).trans (congrArg nib ?_)
  refine (code_apply _ _ _ _ _).trans ?_
  unfold refC
  refine congrArg₂ refCode ((ref_normed V0 _ _ _ _).trans ?_) ((spread_apply _ _ _ _ _ _ _).trans ((ref_scale V0 _ _ _).trans ?_))
  · show bfly 15 _ ((k.val * 2 + j.val) / 128 * 128 + (k.val * 2 + j.val) % 128) * norm = _
    rw [Nat.div_add_mod', Nat.mul_comm k.val 2]
  · show refScale _ _ _ _ ((k.val * 2 + j.val) / 128) = _
    rw [Nat.mul_comm k.val 2]

/-- The reference's packed codes at an index. -/
theorem ref_codes (b : Fin 6) (l : Fin 384) (k : Fin 16384) :
    transpose S6x384x16384 [0, 2, 1] (trunci 8 (ori (shapeCast _ (extractStridedSlice S6x16384x1x384 ![0, 0, 0, 0] (res_main_v190 V0) slices_S6x16384x2x384_S6x16384x1x384_0_0_0_0) shapeCasts_S6x16384x1x384_S6x16384x384) (Host.shli (shapeCast _ (extractStridedSlice S6x16384x1x384 ![0, 0, 1, 0] (res_main_v190 V0) slices_S6x16384x2x384_S6x16384x1x384_0_0_1_0) shapeCasts_S6x16384x1x384_S6x16384x384) (broadcastInDim S6x16384x384 ![] bcast_S_S6x16384x384 (constantI S_ 32 4#32)))) natLt_8_32) transposes_S6x16384x384_S6x384x16384_0_2_1 (ix3 b l k)
      = refByte (argW V0) (argS V0) b l k := by
  refine (bytes_apply (res_main_v190 V0) _ _ _ _ _ _ b l k).trans ?_
  rw [ref_nib, ref_nib]
  rfl

/-- The reference's run: the results hold the packed codes and the scales, the arguments end unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v199) = (fun y : (⟨3, ![6, 384, 16384]⟩ : Shape).Idx =>
        refByte (m ((c.tc : Thread nD τ).loc main_arg0)) (m ((c.tc : Thread nD τ).loc main_arg1)) (y 0) (y 1) (y 2))
      ∧ r.2.mem ((c.tc : Thread nD τ).loc main_v200) = (fun y : (⟨3, ![6, 384, 256]⟩ : Shape).Idx =>
        refScale (m ((c.tc : Thread nD τ).loc main_arg0)) (m ((c.tc : Thread nD τ).loc main_arg1)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun y => by
      rw [show y = ix3 (y 0) (y 1) (y 2) from funext fun a => by fin_cases a <;> rfl]
      exact ref_codes _ (y 0) (y 1) (y 2)), (h c).2.1.trans (funext fun y => by
      refine (transpose_apply [0, 2, 1] _ _ y (ix3 (y 0) (y 2) (y 1)) (fun b => by fin_cases b <;> rfl)).trans ?_
      exact congrArg scl (ref_amax _ (y 0) (y 2) (y 1))), (h c).2.2⟩) (run (F := Ideal) m ρ)

end

end Cert.Fold

end
-- ==== Proof.KernelIdealEquation.lean ====
/- The packed codes and the scales that the kernel's body computes are the reference's, given what its three input blocks hold. -/
module

public import proofs.«01_k».proof.Proof.KernelIdealOut
public import proofs.«01_k».proof.Proof.ReferenceCodes

@[expose] public section

noncomputable section

namespace Cert.KernelIdeal.Hand

open Cert.Fold Cert.KernelIdeal.Gen
open Idealize.ShloMosaic

/-- The output bits that row `r` of the kernel's matrix stands for. -/
def rowCode (r : ℕ) : ℕ := 16 * (r / 128 * 8 + r % 8) + r % 128 / 8

/-- The four accumulators together are the maximum over the 128 entries of a group. -/
theorem max_groups (F : ℕ → EReal) :
    max (max ((Finset.range 16).sup fun t => max (F (0 * 16 + t)) (F ((0 + 4) * 16 + t))) ((Finset.range 16).sup fun t => max (F (1 * 16 + t)) (F ((1 + 4) * 16 + t))))
        (max ((Finset.range 16).sup fun t => max (F (2 * 16 + t)) (F ((2 + 4) * 16 + t))) ((Finset.range 16).sup fun t => max (F (3 * 16 + t)) (F ((3 + 4) * 16 + t))))
      = (Finset.range 128).sup F := by
  have up : ∀ j < 4, ((Finset.range 16).sup fun t => max (F (j * 16 + t)) (F ((j + 4) * 16 + t))) ≤ (Finset.range 128).sup F := fun j hj =>
    Finset.sup_le fun t ht => by
      have ht := Finset.mem_range.1 ht
      exact max_le (Finset.le_sup (f := F) (Finset.mem_range.2 (by omega))) (Finset.le_sup (f := F) (Finset.mem_range.2 (by omega)))
  have dn : ∀ (j t : ℕ), t < 16 → F (j * 16 + t) ≤ ((Finset.range 16).sup fun t => max (F (j * 16 + t)) (F ((j + 4) * 16 + t)))
      ∧ F ((j + 4) * 16 + t) ≤ ((Finset.range 16).sup fun t => max (F (j * 16 + t)) (F ((j + 4) * 16 + t))) := fun j t ht =>
    have h := Finset.le_sup (f := fun t => max (F (j * 16 + t)) (F ((j + 4) * 16 + t))) (Finset.mem_range.2 ht)
    ⟨le_trans (le_max_left _ _) h, le_trans (le_max_right _ _) h⟩
  refine le_antisymm ?_ (Finset.sup_le fun k hk => ?_)
  · exact max_le (max_le (up 0 (by norm_num)) (up 1 (by norm_num))) (max_le (up 2 (by norm_num)) (up 3 (by norm_num)))
  · have hk := Finset.mem_range.1 hk
    have low : ∀ j < 4, ((Finset.range 16).sup fun t => max (F (j * 16 + t)) (F ((j + 4) * 16 + t))) ≤
      max (max ((Finset.range 16).sup fun t => max (F (0 * 16 + t)) (F ((0 + 4) * 16 + t))) ((Finset.range 16).sup fun t => max (F (1 * 16 + t)) (F ((1 + 4) * 16 + t))))
        (max ((Finset.range 16).sup fun t => max (F (2 * 16 + t)) (F ((2 + 4) * 16 + t))) ((Finset.range 16).sup fun t => max (F (3 * 16 + t)) (F ((3 + 4) * 16 + t)))) := by
      intro j hj
      interval_cases j
      · exact le_trans (le_max_left _ _) (le_max_left _ _)
      · exact le_trans (le_max_right _ _) (le_max_left _ _)
      · exact le_trans (le_max_left _ _) (le_max_right _ _)
      · exact le_trans (le_max_right _ _) (le_max_right _ _)
    refine le_trans ?_ (low (k / 16 % 4) (Nat.mod_lt _ (by norm_num)))
    have hd := dn (k / 16 % 4) (k % 16) (Nat.mod_lt _ (by norm_num))
    rcases (show k / 16 % 4 * 16 + k % 16 = k ∨ (k / 16 % 4 + 4) * 16 + k % 16 = k by omega) with e | e
    · rw [e] at hd; exact hd.1
    · rw [e] at hd; exact hd.2

/-- The kernel's scale of a maximum is the reference's scale of the maximum times the norm. -/
theorem scaleOf_eq (a : EReal) : scaleOf a = scl (a * norm) := rfl

/-- The kernel's code, with the clip after the rounding. -/
theorem code_eq (a s : EReal) : code a (recip s) = Ideal.fptosi 32 (min hi7 (max lo7 (rnd (a * Ideal.div norm s)))) := by
  rw [← rnd_clip]
  rfl

/-- The low bits of a code do not see the byte between. -/
theorem nib_eq (q : BitVec 32) : nib q = q &&& 15#32 := by
  refine BitVec.eq_of_getLsbD_eq fun i hi => ?_
  show (((q.setWidth 8).signExtend 32) &&& 15#32).getLsbD i = _
  interval_cases i <;> simp [BitVec.getElem_signExtend]

/-- Eight codes in a word, as plain shifts. -/
theorem packW_eq (q0 q1 q2 q3 q4 q5 q6 q7 : BitVec 32) : packW q0 q1 q2 q3 q4 q5 q6 q7
    = (q0 &&& 15#32) ||| (q1 &&& 15#32) <<< 4 ||| (q2 &&& 15#32) <<< 8 ||| (q3 &&& 15#32) <<< 12 ||| (q4 &&& 15#32) <<< 16
      ||| (q5 &&& 15#32) <<< 20 ||| (q6 &&& 15#32) <<< 24 ||| (q7 &&& 15#32) <<< 28 := rfl

/-- Two codes in a byte, as plain shifts. -/
theorem pair_eq (q0 q1 : BitVec 32) : pair q0 q1 = ((q0 &&& 15#32) ||| (q1 &&& 15#32) <<< 4).setWidth 8 := by
  rw [← nib_eq, ← nib_eq]
  rfl

/-- Each byte of a word of eight codes holds two of them. -/
theorem byte_pack (q0 q1 q2 q3 q4 q5 q6 q7 : BitVec 32) :
    byte 0 (packW q0 q1 q2 q3 q4 q5 q6 q7) = pair q0 q1 ∧ byte 1 (packW q0 q1 q2 q3 q4 q5 q6 q7) = pair q2 q3
      ∧ byte 2 (packW q0 q1 q2 q3 q4 q5 q6 q7) = pair q4 q5 ∧ byte 3 (packW q0 q1 q2 q3 q4 q5 q6 q7) = pair q6 q7 := by
  rw [packW_eq, pair_eq, pair_eq, pair_eq, pair_eq]
  unfold byte
  refine ⟨?_, ?_, ?_, ?_⟩ <;> refine BitVec.eq_of_getLsbD_eq fun i hi => ?_
  all_goals interval_cases i <;> simp [BitVec.getLsbD_extractLsb', BitVec.getLsbD_shiftLeft]

section
variable {h : S256x256.Idx → EReal} {sg : S256x8x16x128.Idx → EReal} {x : S1x256x8x16x128.Idx → EReal} {f : ℕ → ℕ → EReal}
variable (hH : ∀ r < 256, ∀ k < 256, at2 h r k = (chi 8 (rowCode r) k : EReal))
variable (hX : ∀ g < 256, ∀ c < 8, ∀ j < 16, ∀ l < 128, at5 x 0 g c j l * at4 sg g c j l = f l (g * 128 + c * 16 + j))
include hH hX

/-- The kernel's product is a 256-point signed sum of the column. -/
theorem D_eq (c ih r l : ℕ) (hc : c < 8) (hih : ih < 16) (hr : r < 256) (hl : l < 128) :
    D h sg x c ih r l = ∑ k ∈ Finset.range 256, (chi 8 (rowCode r) k : EReal) * f l (dig ih k c) := by
  unfold D
  refine Finset.sum_congr rfl fun k hk => ?_
  have hk := Finset.mem_range.1 hk
  rw [hH r hr k hk, hX (ih * 16 + k / 16) (by omega) c hc (k % 16) (by omega) l hl]
  congr 2
  unfold dig
  omega

/-- After both butterflies the kernel's entry is the factored transform of the column. -/
theorem V_eq (n j t e l : ℕ) (hn : n < 32) (hj : j < 8) (ht : t < 16) (he : e < 8) (hl : l < 128) :
    Hand.V (PA h sg x) n j (t * 8 + e) l = fac (f l) (16 * (n % 2 * 8 + e) + t) (n / 2) j := by
  unfold Hand.V fac
  refine bfly_congr 3 8 (by norm_num) (fun c hc => ?_) j hj
  rw [at4, dif_pos ⟨hc, hn, by omega, hl⟩]
  show PV h sg x c n (t * 8 + e) l = _
  unfold PV
  refine bfly_congr 4 16 (by norm_num) (fun ih hih => ?_) _ (by omega)
  rw [D_eq hH hX c ih _ l hc hih (by omega) hl]
  rw [show rowCode ((n % 2 * 16 + (t * 8 + e) / 8) * 8 + (t * 8 + e) % 8) = 16 * (n % 2 * 8 + e) + t by unfold rowCode; omega]

/-- A group's scale as the kernel computes it is the scale of the 15-stage butterfly's group. -/
theorem Sc_eq (g l : ℕ) (hg : g < 256) (hl : l < 128) :
    Sc (PA h sg x) (g / 8) (g % 8) l = scl ((Finset.range 128).sup (fun k => mag (bfly 15 (f l) (g * 128 + k))) * norm) := by
  have hA : ∀ j < 4, Amax (PA h sg x) (g / 8) j 16 (g % 8) l
      = (Finset.range 16).sup fun t => max (mag (bfly 15 (f l) (g * 128 + (j * 16 + t)))) (mag (bfly 15 (f l) (g * 128 + ((j + 4) * 16 + t)))) := by
    intro j hj
    unfold Amax
    refine Finset.sup_congr rfl fun t ht => ?_
    have ht := Finset.mem_range.1 ht
    have one : ∀ i < 8, mag (Hand.V (PA h sg x) (g / 8) i (t * 8 + g % 8) l) = mag (bfly 15 (f l) (g * 128 + (i * 16 + t))) := fun i hi => by
      rw [V_eq hH hX (g / 8) i t (g % 8) l (by omega) hi ht (by omega) hl, fac_mag (f l) _ t _ i (by omega) ht (by omega) hi]
      rw [show 16 * (8 * (16 * (g / 8 / 2) + (g / 8 % 2 * 8 + g % 8)) + i) + t = g * 128 + (i * 16 + t) by omega]
    rw [one j (by omega), one (j + 4) (by omega)]
  unfold Sc
  rw [hA 0 (by norm_num), hA 1 (by norm_num), hA 2 (by norm_num), hA 3 (by norm_num), scaleOf_eq]
  rw [max_groups (fun k => mag (bfly 15 (f l) (g * 128 + k)))]

/-- A code as the kernel computes it is the code of the 15-stage butterfly's entry. -/
theorem Cd_eq (n j t e l : ℕ) (hn : n < 32) (hj : j < 8) (ht : t < 16) (he : e < 8) (hl : l < 128) :
    Cd (PA h sg x) n j t e l = refCode (bfly 15 (f l) ((n * 8 + e) * 128 + (j * 16 + t)) * norm)
      (scl ((Finset.range 128).sup (fun k => mag (bfly 15 (f l) ((n * 8 + e) * 128 + k))) * norm)) := by
  have hS := Sc_eq hH hX (n * 8 + e) l (by omega) hl
  rw [show (n * 8 + e) / 8 = n by omega, show (n * 8 + e) % 8 = e by omega] at hS
  have hF := fac_or (f l) (n % 2 * 8 + e) t (n / 2) j (by omega) ht (by omega) hj
  rw [show 16 * (8 * (16 * (n / 2) + (n % 2 * 8 + e)) + j) + t = (n * 8 + e) * 128 + (j * 16 + t) by omega] at hF
  unfold Cd
  rw [hS, V_eq hH hX n j t e l hn hj ht he hl, code_eq]
  unfold refCode
  refine congrArg (fun z => Ideal.fptosi 32 (min hi7 (max lo7 (rnd z)))) (quot_eq (scl_ne_zero _) (hF.imp_right fun hi => ?_))
  have hs : (Finset.range 128).sup (fun k => mag (bfly 15 (f l) ((n * 8 + e) * 128 + k))) = ⊤ :=
    top_le_iff.1 (hi ▸ Finset.le_sup (f := fun k => mag (bfly 15 (f l) ((n * 8 + e) * 128 + k))) (Finset.mem_range.2 (show j * 16 + t < 128 by omega)))
  rw [hs, scl_top]

/-- A byte of the first output is two of the reference's codes. -/
theorem byte_eq (k l : ℕ) (hk : k < 16384) (hl : l < 128) :
    byte (k % 512 % 4) (Wd (PA h sg x) (k / 512) (k % 512 / 64) (k % 512 / 4 % 16) l)
      = pair (refCode (bfly 15 (f l) (2 * k) * norm) (scl ((Finset.range 128).sup (fun i => mag (bfly 15 (f l) (2 * k / 128 * 128 + i))) * norm)))
        (refCode (bfly 15 (f l) (2 * k + 1) * norm) (scl ((Finset.range 128).sup (fun i => mag (bfly 15 (f l) ((2 * k + 1) / 128 * 128 + i))) * norm))) := by
  have hC : ∀ i < 8, ∀ d, d = k / 4 * 8 + i → Cd (PA h sg x) (k / 512) (k % 512 / 4 % 16 / 2) (k % 512 / 4 % 16 % 2 * 8 + i) (k % 512 / 64) l
      = refCode (bfly 15 (f l) d * norm) (scl ((Finset.range 128).sup (fun i => mag (bfly 15 (f l) (d / 128 * 128 + i))) * norm)) := by
    rintro i hi d rfl
    rw [Cd_eq hH hX _ _ _ _ _ (by omega) (by omega) (by omega) (by omega) hl]
    rw [show (k / 512 * 8 + k % 512 / 64) * 128 + (k % 512 / 4 % 16 / 2 * 16 + (k % 512 / 4 % 16 % 2 * 8 + i)) = k / 4 * 8 + i by omega,
      show k / 512 * 8 + k % 512 / 64 = (k / 4 * 8 + i) / 128 by omega]
  unfold Wd
  obtain ⟨p0, p1, p2, p3⟩ := byte_pack (Cd (PA h sg x) (k / 512) (k % 512 / 4 % 16 / 2) (k % 512 / 4 % 16 % 2 * 8 + 0) (k % 512 / 64) l)
    (Cd (PA h sg x) (k / 512) (k % 512 / 4 % 16 / 2) (k % 512 / 4 % 16 % 2 * 8 + 1) (k % 512 / 64) l)
    (Cd (PA h sg x) (k / 512) (k % 512 / 4 % 16 / 2) (k % 512 / 4 % 16 % 2 * 8 + 2) (k % 512 / 64) l)
    (Cd (PA h sg x) (k / 512) (k % 512 / 4 % 16 / 2) (k % 512 / 4 % 16 % 2 * 8 + 3) (k % 512 / 64) l)
    (Cd (PA h sg x) (k / 512) (k % 512 / 4 % 16 / 2) (k % 512 / 4 % 16 % 2 * 8 + 4) (k % 512 / 64) l)
    (Cd (PA h sg x) (k / 512) (k % 512 / 4 % 16 / 2) (k % 512 / 4 % 16 % 2 * 8 + 5) (k % 512 / 64) l)
    (Cd (PA h sg x) (k / 512) (k % 512 / 4 % 16 / 2) (k % 512 / 4 % 16 % 2 * 8 + 6) (k % 512 / 64) l)
    (Cd (PA h sg x) (k / 512) (k % 512 / 4 % 16 / 2) (k % 512 / 4 % 16 % 2 * 8 + 7) (k % 512 / 64) l)
  rcases (show k % 512 % 4 = 0 ∨ k % 512 % 4 = 1 ∨ k % 512 % 4 = 2 ∨ k % 512 % 4 = 3 by omega) with e | e | e | e
  · rw [e, p0]; exact congrArg₂ pair (hC 0 (by norm_num) _ (by omega)) (hC 1 (by norm_num) _ (by omega))
  · rw [e, p1]; exact congrArg₂ pair (hC 2 (by norm_num) _ (by omega)) (hC 3 (by norm_num) _ (by omega))
  · rw [e, p2]; exact congrArg₂ pair (hC 4 (by norm_num) _ (by omega)) (hC 5 (by norm_num) _ (by omega))
  · rw [e, p3]; exact congrArg₂ pair (hC 6 (by norm_num) _ (by omega)) (hC 7 (by norm_num) _ (by omega))

end

end Cert.KernelIdeal.Hand

end
-- ==== Proof.HostWords.lean ====
/- The words that the host code of the kernel makes: the signs of a 256-point transform, and the re-split arguments. -/
module

public import proofs.«01_k».proof.Proof.KernelIdealEquation

@[expose] public section

noncomputable section

namespace Cert.KernelIdeal.Hand

open Cert.Fold
open Idealize.ShloMosaic

/-- The host's row code: the high bit and low three bits of the row, then its middle four bits. -/
def rowWord (r : BitVec 32) : BitVec 32 :=
  IntOp.ori (IntOp.shli .host (IntOp.ori (IntOp.shli .host (IntOp.shrsi .host r 7#32) 3#32) (IntOp.andi r 7#32)) 4#32)
    (IntOp.andi (IntOp.shrsi .host r 3#32) 15#32)

/-- A word and its upper half folded together by exclusive or. -/
def foldXor (w s : BitVec 32) : BitVec 32 := IntOp.xori w (IntOp.shrsi .host w s)

/-- One minus twice the parity of an 8-bit word. -/
def signWord (w : BitVec 32) : BitVec 32 :=
  IntOp.subi 1#32 (IntOp.muli 2#32 (IntOp.andi (foldXor (foldXor (foldXor w 4#32) 2#32) 1#32) 1#32))

/-- The host's row code is the code of the row, decided at every row. -/
theorem rowWord_eq : ∀ r : Fin 256, rowWord (BitVec.ofNat 32 r.val) = BitVec.ofNat 32 (rowCode r.val) := by decide +kernel

/-- The sign word is the product of the signs of the bits, decided at every word. -/
theorem signWord_eq : ∀ w : Fin 256, (signWord (BitVec.ofNat 32 w.val)).toInt = ∏ t ∈ Finset.range 8, (if w.val.testBit t = true then (-1 : ℤ) else 1) := by
  decide +kernel

/-- A row code is below 256. -/
theorem rowCode_lt {r : ℕ} (h : r < 256) : rowCode r < 256 := by unfold rowCode; omega

/-- The host's matrix of signs, at a row and a column. -/
theorem sign_chi {r k : ℕ} (hr : r < 256) (hk : k < 256) :
    ((signWord (IntOp.andi (rowWord (BitVec.ofNat 32 r)) (BitVec.ofNat 32 k))).toInt : ℝ) = chi 8 (rowCode r) k := by
  have e : IntOp.andi (rowWord (BitVec.ofNat 32 r)) (BitVec.ofNat 32 k) = BitVec.ofNat 32 (rowCode r &&& k) := by
    rw [rowWord_eq ⟨r, hr⟩]
    exact BitVec.ofNat_and.symm
  have hb : rowCode r &&& k < 2 ^ 8 := Nat.and_lt_two_pow _ (by omega)
  rw [e, signWord_eq ⟨rowCode r &&& k, hb⟩]
  unfold chi
  push_cast
  refine Finset.prod_congr rfl fun t _ => ?_
  rw [Nat.testBit_and]

section
variable {B D L G K M : ℕ}

/-- A three-axis array re-split in five. -/
theorem at5_cast (X : (⟨3, ![B, D, L]⟩ : Shape).Idx → EReal) (h : (⟨3, ![B, D, L]⟩ : Shape).ShapeCasts ⟨5, ![B, G, K, M, L]⟩)
    (hD : G * K * M = D) (y : (⟨5, ![B, G, K, M, L]⟩ : Shape).Idx) :
    shapeCast ⟨5, ![B, G, K, M, L]⟩ X h y = at3 X (y 0) (((y 1).val * K + (y 2).val) * M + (y 3).val) (y 4) := by
  have hd : ((y 1).val * K + (y 2).val) * M + (y 3).val < D := by
    have h1 : ((y 1).val + 1) * K ≤ G * K := Nat.mul_le_mul_right _ (y 1).isLt
    have h2 : (y 2).val + 1 ≤ K := (y 2).isLt
    have h3 : (y 3).val + 1 ≤ M := (y 3).isLt
    rw [Nat.succ_mul] at h1
    have h4 : ((y 1).val * K + (y 2).val + 1) * M ≤ G * K * M := Nat.mul_le_mul_right _ (by omega)
    rw [Nat.succ_mul] at h4
    omega
  refine (shapeCast_apply X h _ (ix3 (y 0) ⟨_, hd⟩ (y 4)) ?_).trans (at3_ix X (y 0) ⟨_, hd⟩ (y 4))
  rw [Shape.rowMajor_val_five, Shape.rowMajor_val_three]
  show ((y 0).val * D + (((y 1).val * K + (y 2).val) * M + (y 3).val)) * L + (y 4).val
    = ((((y 0).val * G + (y 1).val) * K + (y 2).val) * M + (y 3).val) * L + (y 4).val
  rw [← hD]
  ring

/-- A vector spread along a second axis and re-split in four reads the vector. -/
theorem cast_spread (S : (⟨1, ![D]⟩ : Shape).Idx → EReal) (h1 h2) (h : (⟨2, ![D, L]⟩ : Shape).ShapeCasts ⟨4, ![G, K, M, L]⟩)
    (hD : G * K * M = D) (y : (⟨4, ![G, K, M, L]⟩ : Shape).Idx) :
    shapeCast ⟨4, ![G, K, M, L]⟩ (broadcastInDim ⟨2, ![D, L]⟩ ![0, 1] h2 (broadcastInDim ⟨2, ![D, 1]⟩ ![0] h1 S)) h y
      = (if hd : ((y 0).val * K + (y 1).val) * M + (y 2).val < D then S (ix1 ⟨_, hd⟩) else 0) := by
  have hd : ((y 0).val * K + (y 1).val) * M + (y 2).val < D := by
    have h1 : ((y 0).val + 1) * K ≤ G * K := Nat.mul_le_mul_right _ (y 0).isLt
    have h2 : (y 1).val + 1 ≤ K := (y 1).isLt
    have h3 : (y 2).val + 1 ≤ M := (y 2).isLt
    rw [Nat.succ_mul] at h1
    have h4 : ((y 0).val * K + (y 1).val + 1) * M ≤ G * K * M := Nat.mul_le_mul_right _ (by omega)
    rw [Nat.succ_mul] at h4
    omega
  have e : ∀ {n v : ℕ}, v < n → v = if n = 1 then 0 else v := fun {n v} h => by split <;> omega
  rw [dif_pos hd]
  refine (shapeCast_apply _ h _ (ix2 ⟨_, hd⟩ (y 3)) ?_).trans ?_
  · rw [Shape.rowMajor_val_four, Shape.rowMajor_val_two]
    rfl
  · refine (broadcastInDim_apply _ _ _ _ (ix2 ⟨_, hd⟩ 0) (fun a => ?_)).trans ?_
    · fin_cases a
      · exact e hd
      · rfl
    · refine broadcastInDim_apply _ _ _ _ (ix1 ⟨_, hd⟩) (fun a => ?_)
      fin_cases a
      exact e hd

end

end Cert.KernelIdeal.Hand

end
-- ==== Proof.KernelIdealArray.lean ====
/- The kernel's two result arrays are the reference's: what the three input blocks hold, and the arrays from their blocks. -/
module

public import proofs.«01_k».proof.Proof.KernelIdealValue
public import proofs.«01_k».proof.Proof.HostWords
public import Idealize.ShloMosaic.Lib.Pipeline.ValueKit
public import Idealize.ShloMosaic.Lib.Claim
public import Idealize.ShloMosaic.Lib.Pointwise

@[expose] public section

noncomputable section

namespace Cert.KernelIdeal.Hand

open Cert.Fold Cert.KernelIdeal.Gen
open Idealize.ShloMosaic Idealize.ShloMosaic.TcCoe Idealize.ShloMosaic.Tactic

variable (m : (ℓ : Loc nD τ sig) → Buf (Elt Ideal) ℓ)

/-- Every window's block index at a grid point (decided). -/
theorem idx : ∀ t : Fin cfg0.N, win0_0.index t = ![0, 0] ∧ win0_1.index t = ![0, 0, 0, 0] ∧ win0_2.index t = ![t.val / 3, 0, 0, 0, t.val % 3] ∧ win0_4.index t = ![t.val / 3, t.val % 3, 0] ∧ win0_3.index t = ![t.val / 3, t.val % 3, 0] :=
  (by decide +kernel : ∀ t : Fin grid0.N, _)

/-- The arguments, and the three input blocks at a grid point. -/
def weights (c : Dev nD) : (⟨3, ![6, 32768, 384]⟩ : Shape).Idx → EReal := m ((c.tc : Thread nD τ).loc main_arg0)
def signs (c : Dev nD) : (⟨1, ![32768]⟩ : Shape).Idx → EReal := m ((c.tc : Thread nD τ).loc main_arg1)
def blk0 (c : Dev nD) (t : Fin cfg0.N) : S256x256.Idx → EReal := iblk m c 0 t
def blk1 (c : Dev nD) (t : Fin cfg0.N) : S256x8x16x128.Idx → EReal := iblk m c 1 t
def blk2 (c : Dev nD) (t : Fin cfg0.N) : S1x256x8x16x128.Idx → EReal := iblk m c 2 t

/-- Where an element of the weights' block lies in its array. -/
theorem emb2 (t : Fin cfg0.N) (y : S1x256x8x16x128.Idx) (a : Fin 5) :
    ((((View.whole main_v34).slice (win0_2.rect t)).emb y) a).val = win0_2.index t a * S1x256x8x16x128.size a + (y a).val := by
  blk_simp

/-- Where an element of the signs' block lies in its array. -/
theorem emb1 (t : Fin cfg0.N) (y : S256x8x16x128.Idx) (a : Fin 4) :
    ((((View.whole main_v38).slice (win0_1.rect t)).emb y) a).val = win0_1.index t a * S256x8x16x128.size a + (y a).val := by
  blk_simp

/-- Where an element of the scales' block lies in its array. -/
theorem emb4 (t : Fin cfg0.N) (y : S1x128x256.Idx) (a : Fin 3) :
    ((win0_4.blk t).view.emb y a).val = win0_4.index t a * S1x128x256.size a + (y a).val := by
  blk_simp

/-- Where an element of the codes' block lies in its array. -/
theorem emb3 (t : Fin cfg0.N) (y : S1x128x16384.Idx) (a : Fin 3) :
    ((win0_3.blk t).view.emb y a).val = win0_3.index t a * S1x128x16384.size a + (y a).val := by
  blk_simp

/-- Where an element of the matrix's block lies in its array. -/
theorem emb0 (t : Fin cfg0.N) (y : S256x256.Idx) (a : Fin 2) :
    ((((View.whole main_v33).slice (win0_0.rect t)).emb y) a).val = win0_0.index t a * S256x256.size a + (y a).val := by
  blk_simp

/-- An element of the weights' block. -/
theorem x_read (c : Dev nD) (t : Fin cfg0.N) (y : S1x256x8x16x128.Idx) :
    blk2 m c t y = at3 (weights m c) (t.val / 3 + (y 0).val) (((y 1).val * 8 + (y 2).val) * 16 + (y 3).val) (t.val % 3 * 128 + (y 4).val) := by
  unfold blk2
  blk_simp [iblk]
  entry_read
  refine (at5_cast (B := 6) (D := 32768) (L := 384) (G := 256) (K := 8) (M := 16) _ _ (by norm_num) _).trans ?_
  rw [emb2, emb2, emb2, emb2, emb2, (idx t).2.2.1]
  show at3 _ (t.val / 3 * 1 + (y 0).val) (((0 * 256 + (y 1).val) * 8 + (0 * 8 + (y 2).val)) * 16 + (0 * 16 + (y 3).val)) (t.val % 3 * 128 + (y 4).val) = _
  rw [Nat.mul_one, Nat.zero_mul, Nat.zero_add, Nat.zero_add, Nat.zero_add]
  have h0 : (y 0).val = 0 := Nat.lt_one_iff.1 (y 0).isLt
  rw [h0]
  rfl

/-- An element of the signs' block. -/
theorem s_read (c : Dev nD) (t : Fin cfg0.N) (y : S256x8x16x128.Idx) :
    blk1 m c t y = (if hd : ((y 0).val * 8 + (y 1).val) * 16 + (y 2).val < 32768 then signs m c (ix1 ⟨_, hd⟩) else 0) := by
  unfold blk1
  blk_simp [iblk]
  entry_read
  refine (cast_spread (D := 32768) (L := 128) (G := 256) (K := 8) (M := 16) _ _ _ _ (by norm_num) _).trans ?_
  have e : (((((View.whole main_v38).slice (win0_1.rect t)).emb y) 0).val * 8 + ((((View.whole main_v38).slice (win0_1.rect t)).emb y) 1).val) * 16
      + ((((View.whole main_v38).slice (win0_1.rect t)).emb y) 2).val = ((y 0).val * 8 + (y 1).val) * 16 + (y 2).val := by
    rw [emb1, emb1, emb1, (idx t).2.1]
    show ((0 * 256 + (y 0).val) * 8 + (0 * 8 + (y 1).val)) * 16 + (0 * 16 + (y 2).val) = _
    rw [Nat.zero_mul, Nat.zero_add, Nat.zero_add, Nat.zero_add]
  simp only [e]
  rfl

/-- The host computes the row codes. -/
theorem rows_eq :
    ori (Host.shli (ori (Host.shli (Host.shrsi (iotaInDim S256x256 32 0) (broadcastInDim S256x256 ![] bcast_S_S256x256 (constantI S_ 32 7#32)))
        (broadcastInDim S256x256 ![] bcast_S_S256x256 (constantI S_ 32 3#32)))
      (andi (iotaInDim S256x256 32 0) (broadcastInDim S256x256 ![] bcast_S_S256x256 (constantI S_ 32 7#32))))
      (broadcastInDim S256x256 ![] bcast_S_S256x256 (constantI S_ 32 4#32)))
      (andi (Host.shrsi (iotaInDim S256x256 32 0) (broadcastInDim S256x256 ![] bcast_S_S256x256 (constantI S_ 32 3#32)))
        (broadcastInDim S256x256 ![] bcast_S_S256x256 (constantI S_ 32 15#32)))
    = fun z : S256x256.Idx => rowWord (BitVec.ofNat 32 (z 0).val) := rfl

/-- The host masks the row codes by the column. -/
theorem cols_eq (w : IVec S256x256 32) : andi w (iotaInDim S256x256 32 1) = fun z : S256x256.Idx => IntOp.andi (w z) (BitVec.ofNat 32 (z 1).val) := rfl

/-- One folding step of the host. -/
theorem fold_eq (w : IVec S256x256 32) (s : BitVec 32) :
    xori w (Host.shrsi w (broadcastInDim S256x256 ![] bcast_S_S256x256 (constantI S_ 32 s))) = fun z => foldXor (w z) s := rfl

/-- An element of the matrix's block, as the host's words make it. -/
theorem h_read (c : Dev nD) (t : Fin cfg0.N) (y : S256x256.Idx) :
    blk0 m c t y = (((signWord (IntOp.andi (rowWord (BitVec.ofNat 32 (y 0).val)) (BitVec.ofNat 32 (y 1).val))).toInt : ℝ) : EReal) := by
  have e0 : ((((View.whole main_v33).slice (win0_0.rect t)).emb y) 0).val = (y 0).val := by
    rw [emb0, (idx t).1]
    exact (congrArg (· + (y 0).val) (Nat.zero_mul 256)).trans (Nat.zero_add _)
  have e1 : ((((View.whole main_v33).slice (win0_0.rect t)).emb y) 1).val = (y 1).val := by
    rw [emb0, (idx t).1]
    exact (congrArg (· + (y 1).val) (Nat.zero_mul 256)).trans (Nat.zero_add _)
  unfold blk0
  blk_simp [iblk]
  entry_read
  generalize (((View.whole main_v33).slice (win0_0.rect t)).emb y) = z at e0 e1 ⊢
  rw [rows_eq, cols_eq, fold_eq, fold_eq, fold_eq, ← e0, ← e1]
  rfl

/-- The matrix's block holds the signs of the 256-point transform. -/
theorem blk_sign (c : Dev nD) (t : Fin cfg0.N) : ∀ r < 256, ∀ k < 256, at2 (blk0 m c t) r k = (chi 8 (rowCode r) k : EReal) := by
  intro r hr k hk
  rw [at2, dif_pos ⟨hr, hk⟩, h_read]
  exact congrArg _ (sign_chi hr hk)

/-- A weight times its sign is an entry of the column that the reference transforms. -/
theorem blk_col (c : Dev nD) (t : Fin cfg0.N) : ∀ g < 256, ∀ i < 8, ∀ j < 16, ∀ l < 128,
    at5 (blk2 m c t) 0 g i j l * at4 (blk1 m c t) g i j l = col (weights m c) (signs m c) (t.val / 3) (t.val % 3 * 128 + l) (g * 128 + i * 16 + j) := by
  intro g hg i hi j hj l hl
  have e : (g * 8 + i) * 16 + j = g * 128 + i * 16 + j := by omega
  rw [at5, dif_pos ⟨Nat.zero_lt_one, hg, hi, hj, hl⟩, at4, dif_pos ⟨hg, hi, hj, hl⟩, x_read, s_read]
  unfold col
  rw [← e]
  rfl

/-- The scales that the body leaves at a grid point. -/
theorem outQ_apply (c : Dev nD) (t : Fin cfg0.N) (y : S1x128x256.Idx) :
    outQ m c t y = refScale (weights m c) (signs m c) (t.val / 3) (t.val % 3 * 128 + (y 1).val) (y 2).val :=
  Sc_eq (blk_sign m c t) (f := fun l => col (weights m c) (signs m c) (t.val / 3) (t.val % 3 * 128 + l)) (blk_col m c t) (y 2).val (y 1).val (y 2).isLt (y 1).isLt

/-- The array of scales, at every index. -/
def scalesOf (c : Dev nD) : S6x384x256.Idx → EReal := fun y => refScale (weights m c) (signs m c) (y 0).val (y 1).val (y 2).val

/-- The kernel's whole array of scales holds the reference's scales. -/
theorem arr_scales (c : Dev nD) : (datsV m 0 c).arrAt 4 cfg0.N = scalesOf m c := by
  refine (datsV m 0 c).arrAt_eq_of_covers 4 (scalesOf m c) (by decide +kernel) fun t hf y => ?_
  blk_simp
  refine (outQ_apply m c t y).trans ?_
  unfold scalesOf
  have h0 : ((y : S1x128x256.Idx) 0).val = 0 := Nat.lt_one_iff.1 ((y : S1x128x256.Idx) 0).isLt
  have e0 := emb4 t y 0
  have e1 := emb4 t y 1
  have e2 := emb4 t y 2
  rw [(idx t).2.2.2.1] at e0 e1 e2
  have f0 : ((win0_4.blk t).view.emb y 0).val = t.val / 3 := by
    refine e0.trans ?_
    show t.val / 3 * 1 + ((y : S1x128x256.Idx) 0).val = _
    rw [h0, Nat.mul_one, Nat.add_zero]
  have f2 : ((win0_4.blk t).view.emb y 2).val = ((y : S1x128x256.Idx) 2).val := by
    refine e2.trans ?_
    show 0 * 256 + ((y : S1x128x256.Idx) 2).val = _
    rw [Nat.zero_mul, Nat.zero_add]
  have f1 : ((win0_4.blk t).view.emb y 1).val = t.val % 3 * 128 + ((y : S1x128x256.Idx) 1).val := e1
  exact (congrArg₂ (fun (a : ℕ) (b : ℕ × ℕ) => refScale (weights m c) (signs m c) a b.1 b.2) f0 (congrArg₂ Prod.mk f1 f2)).symm

/-- The packed codes that the body leaves at a grid point. -/
theorem outO_apply (c : Dev nD) (t : Fin cfg0.N) (y : S1x128x16384.Idx) :
    outO m c t y = refByte (weights m c) (signs m c) (t.val / 3) (t.val % 3 * 128 + (y 1).val) (y 2).val :=
  byte_eq (blk_sign m c t) (f := fun l => col (weights m c) (signs m c) (t.val / 3) (t.val % 3 * 128 + l)) (blk_col m c t) (y 2).val (y 1).val (y 2).isLt (y 1).isLt

/-- The array of packed codes, at every index. -/
def codesOf (c : Dev nD) : S6x384x16384.Idx → BitVec 8 := fun y => refByte (weights m c) (signs m c) (y 0).val (y 1).val (y 2).val

/-- The kernel's whole array of packed codes holds the reference's. -/
theorem arr_codes (c : Dev nD) : (datsV m 0 c).arrAt 3 cfg0.N = codesOf m c := by
  refine (datsV m 0 c).arrAt_eq_of_covers 3 (codesOf m c) (by decide +kernel) fun t hf y => ?_
  blk_simp
  refine (outO_apply m c t y).trans ?_
  unfold codesOf
  have h0 : ((y : S1x128x16384.Idx) 0).val = 0 := Nat.lt_one_iff.1 ((y : S1x128x16384.Idx) 0).isLt
  have e0 := emb3 t y 0
  have e1 := emb3 t y 1
  have e2 := emb3 t y 2
  rw [(idx t).2.2.2.2] at e0 e1 e2
  have f0 : ((win0_3.blk t).view.emb y 0).val = t.val / 3 := by
    refine e0.trans ?_
    show t.val / 3 * 1 + ((y : S1x128x16384.Idx) 0).val = _
    rw [h0, Nat.mul_one, Nat.add_zero]
  have f2 : ((win0_3.blk t).view.emb y 2).val = ((y : S1x128x16384.Idx) 2).val := by
    refine e2.trans ?_
    show 0 * 16384 + ((y : S1x128x16384.Idx) 2).val = _
    rw [Nat.zero_mul, Nat.zero_add]
  have f1 : ((win0_3.blk t).view.emb y 1).val = t.val % 3 * 128 + ((y : S1x128x16384.Idx) 1).val := e1
  exact (congrArg₂ (fun (a : ℕ) (b : ℕ × ℕ) => refByte (weights m c) (signs m c) a b.1 b.2) f0 (congrArg₂ Prod.mk f1 f2)).symm

end Cert.KernelIdeal.Hand

end
-- ==== Proof.lean ====
module

public import proofs.«01_k».proof.Defs
public import proofs.«01_k».proof.Proof.Gen.ReferenceIdeal.Run
public import proofs.«01_k».proof.Proof.KernelFrame
public import proofs.«01_k».proof.Proof.KernelIdealFrame
public import proofs.«01_k».proof.Proof.KernelIdealArray
public import proofs.«01_k».proof.Proof.ReferenceCodes

@[expose] public section

noncomputable section

namespace Cert.Proof

open Idealize.ShloMosaic Idealize.SL.Sem

/-- The reference's frame: its run, read at the arguments; it declares no semaphore. -/
theorem reference_frame : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩)
    (Cert.ReferenceIdeal.Value.run (F := Ideal) m g)

/-- The kernel's packed codes and its scales are the reference's, as extended reals, at every argument. -/
theorem results : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.codesOf m c, fun c => Cert.KernelIdeal.Hand.scalesOf m c, ?_, ?_⟩
  · exact (θ_run Cert.KernelIdeal.defs _ _).mono (fun r h c => ⟨(h c).1.trans (Cert.KernelIdeal.Hand.arr_codes m c),
      (h c).2.1.trans (Cert.KernelIdeal.Hand.arr_scales m c), (h c).2.2⟩) (Cert.KernelIdeal.Hand.run_results m g)
  · refine (θ_run Cert.ReferenceIdeal.defs _ _).mono (fun r h c => ⟨(h c).1.trans ?_, (h c).2.1.trans ?_, (h c).2.2⟩) (Cert.Fold.ref_run m' g')
    · rw [(hm c).1, (hm c).2]
      rfl
    · rw [(hm c).1, (hm c).2]
      rfl

theorem claim : Cert.Claim := ⟨Cert.Kernel.Gen.facts, Cert.KernelIdeal.Gen.facts, Cert.ReferenceIdeal.Gen.facts,
  fun m g _ => Cert.Kernel.Hand.quiescent (F := Bits) m g,
  fun m g _ => Cert.KernelIdeal.Hand.quiescent (F := Ideal) m g,
  reference_frame, trivial, results⟩

end Cert.Proof

end
